-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x18432 : Shape := ⟨3, ![3, 1024, 18432]⟩
abbrev S3x1024 : Shape := ⟨2, ![3, 1024]⟩
abbrev S18432x7168 : Shape := ⟨2, ![18432, 7168]⟩
abbrev S144x7168 : Shape := ⟨2, ![144, 7168]⟩
abbrev S3x1024x7168 : Shape := ⟨3, ![3, 1024, 7168]⟩
abbrev S3072x18432 : Shape := ⟨2, ![3072, 18432]⟩
abbrev S3072x1 : Shape := ⟨2, ![3072, 1]⟩
abbrev S3072x128 : Shape := ⟨2, ![3072, 128]⟩
abbrev S3072x7168 : Shape := ⟨2, ![3072, 7168]⟩
abbrev S1x1 : Shape := ⟨2, ![1, 1]⟩
abbrev S3072x1024 : Shape := ⟨2, ![3072, 1024]⟩
abbrev S1024x1024 : Shape := ⟨2, ![1024, 1024]⟩
abbrev S8x1024 : Shape := ⟨2, ![8, 1024]⟩
abbrev S256x3072 : Shape := ⟨2, ![256, 3072]⟩
abbrev S18x8x1024 : Shape := ⟨3, ![18, 8, 1024]⟩
abbrev S8x128 : Shape := ⟨2, ![8, 128]⟩
abbrev S128x256 : Shape := ⟨2, ![128, 256]⟩
abbrev S256 : Shape := ⟨1, ![256]⟩
abbrev S1x256 : Shape := ⟨2, ![1, 256]⟩
abbrev S1x1x256 : Shape := ⟨3, ![1, 1, 256]⟩
abbrev S512x512 : Shape := ⟨2, ![512, 512]⟩
abbrev S512x1024 : Shape := ⟨2, ![512, 1024]⟩
abbrev S1024x512 : Shape := ⟨2, ![1024, 512]⟩
abbrev S512x128 : Shape := ⟨2, ![512, 128]⟩
abbrev S64x8x128 : Shape := ⟨3, ![64, 8, 128]⟩
abbrev S3072x256 : Shape := ⟨2, ![3072, 256]⟩
abbrev S3072x512 : Shape := ⟨2, ![3072, 512]⟩
abbrev S256x512 : Shape := ⟨2, ![256, 512]⟩
abbrev S1x1x512 : Shape := ⟨3, ![1, 1, 512]⟩
abbrev S1x512 : Shape := ⟨2, ![1, 512]⟩
abbrev S128x512 : Shape := ⟨2, ![128, 512]⟩
abbrev S512 : Shape := ⟨1, ![512]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 16
  | .vmem => 29
  | .smem => 1
  | _ => 0

abbrev bufTy : (tb : Table) → Fin (tcTables nBuf tb) → BufTy
  | .hbm, ⟨0, _⟩ => ⟨S3x1024x18432, .fp8e4m3⟩
  | .hbm, ⟨1, _⟩ => ⟨S3x1024, .f32⟩
  | .hbm, ⟨2, _⟩ => ⟨S18432x7168, .f32⟩
  | .hbm, ⟨3, _⟩ => ⟨S144x7168, .f32⟩
  | .hbm, ⟨4, _⟩ => ⟨S144x7168, .f32⟩
  | .hbm, ⟨5, _⟩ => ⟨S3x1024x7168, .bf16⟩
  | .hbm, ⟨6, _⟩ => ⟨S3072x18432, .fp8e4m3⟩
  | .hbm, ⟨7, _⟩ => ⟨S3072x1, .f32⟩
  | .hbm, ⟨8, _⟩ => ⟨S3072x128, .f32⟩
  | .hbm, ⟨9, _⟩ => ⟨S3072x7168, .bf16⟩
  | .hbm, ⟨10, _⟩ => ⟨S144x7168, .f32⟩
  | .hbm, ⟨11, _⟩ => ⟨S144x7168, .f32⟩
  | .hbm, ⟨12, _⟩ => ⟨S1x1, .f32⟩
  | .hbm, ⟨13, _⟩ => ⟨S18432x7168, .i8⟩
  | .hbm, ⟨14, _⟩ => ⟨S144x7168, .f32⟩
  | .hbm, ⟨15, _⟩ => ⟨S144x7168, .f32⟩
  | .local _ .vmem, ⟨0, _⟩ => ⟨S3072x1024, .fp8e4m3⟩
  | .local _ .vmem, ⟨1, _⟩ => ⟨S3072x1024, .fp8e4m3⟩
  | .local _ .vmem, ⟨2, _⟩ => ⟨S3072x128, .f32⟩
  | .local _ .vmem, ⟨3, _⟩ => ⟨S1024x1024, .f32⟩
  | .local _ .vmem, ⟨4, _⟩ => ⟨S1024x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S3072x1024, .bf16⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1024x1024, .i8⟩
  | .local _ .vmem, ⟨15, _⟩ => ⟨S1024x1024, .i8⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S3072x1024, .f32⟩
  | .local _ .vmem, ⟨21, _⟩ => ⟨S3072x1024, .bf16⟩
  | .local _ .vmem, ⟨22, _⟩ => ⟨S1024x1024, .bf16⟩
  | .local _ .vmem, ⟨23, _⟩ => ⟨S256x3072, .bf16⟩
  | .local _ .vmem, ⟨24, _⟩ => ⟨S18x8x1024, .f32⟩
  | .local _ .vmem, ⟨25, _⟩ => ⟨S18x8x1024, .f32⟩
  | .local _ .vmem, ⟨26, _⟩ => ⟨S18x8x1024, .f32⟩
  | .local _ .vmem, ⟨27, _⟩ => ⟨S18x8x1024, .f32⟩
  | .local _ .vmem, ⟨28, _⟩ => ⟨S8x128, .f32⟩
  | .local _ .smem, ⟨0, _⟩ => ⟨S1x1, .f32⟩
  | _, _ => ⟨S3x1024x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![7, 2, 18], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v68 : Index := Scalar.indexCast arg2
  let c0_31 : Index := 0#32
  let c0_32 : Index := 0#32
  ![v68.toNat, 0, 0]
def k0_off2 (i : grid0.Coords) : Fin 3 → Nat :=
  let arg2 : BitVec 32 := BitVec.ofNat 32 (i 2).val
  let v127 : Index := Scalar.indexCast arg2
  let c0_60 : Index := 0#32
  let c256_61 : Index := 256#32
  ![v127.toNat, 0, 256]
def k0_off3 (i : grid0.Coords) : Fin 3 → Nat :=
  let arg2 : BitVec 32 := BitVec.ofNat 32 (i 2).val
  let v186 : Index := Scalar.indexCast arg2
  let c0_89 : Index := 0#32
  let c512_90 : Index := 512#32
  ![v186.toNat, 0, 512]
def k0_off4 (i : grid0.Coords) : Fin 3 → Nat :=
  let arg2 : BitVec 32 := BitVec.ofNat 32 (i 2).val
  let v245 : Index := Scalar.indexCast arg2
  let c0_118 : Index := 0#32
  let c768_119 : Index := 768#32
  ![v245.toNat, 0, 768]
def k0_off5 (i : grid0.Coords) : Fin 3 → Nat :=
  let arg2 : BitVec 32 := BitVec.ofNat 32 (i 2).val
  let v304 : Index := Scalar.indexCast arg2
  let c1_146 : Index := 1#32
  let c0_147 : Index := 0#32
  ![v304.toNat, 1, 0]
def k0_off6 (i : grid0.Coords) : Fin 3 → Nat :=
  let arg2 : BitVec 32 := BitVec.ofNat 32 (i 2).val
  let v363 : Index := Scalar.indexCast arg2
  let c1_176 : Index := 1#32
  let c256_177 : Index := 256#32
  ![v363.toNat, 1, 256]
def k0_off7 (i : grid0.Coords) : Fin 3 → Nat :=
  let arg2 : BitVec 32 := BitVec.ofNat 32 (i 2).val
  let v422 : Index := Scalar.indexCast arg2
  let c1_206 : Index := 1#32
  let c512_207 : Index := 512#32
  ![v422.toNat, 1, 512]
def k0_off8 (i : grid0.Coords) : Fin 3 → Nat :=
  let arg2 : BitVec 32 := BitVec.ofNat 32 (i 2).val
  let v481 : Index := Scalar.indexCast arg2
  let c1_236 : Index := 1#32
  let c768_237 : Index := 768#32
  ![v481.toNat, 1, 768]
def k0_off9 (i : grid0.Coords) : Fin 3 → Nat :=
  let arg2 : BitVec 32 := BitVec.ofNat 32 (i 2).val
  let v540 : Index := Scalar.indexCast arg2
  let c2_265 : Index := 2#32
  let c0_266 : Index := 0#32
  ![v540.toNat, 2, 0]
def k0_off10 (i : grid0.Coords) : Fin 3 → Nat :=
  let arg2 : BitVec 32 := BitVec.ofNat 32 (i 2).val
  let v599 : Index := Scalar.indexCast arg2
  let c2_295 : Index := 2#32
  let c256_296 : Index := 256#32
  ![v599.toNat, 2, 256]
def k0_off11 (i : grid0.Coords) : Fin 3 → Nat :=
  let arg2 : BitVec 32 := BitVec.ofNat 32 (i 2).val
  let v658 : Index := Scalar.indexCast arg2
  let c2_325 : Index := 2#32
  let c512_326 : Index := 512#32
  ![v658.toNat, 2, 512]
def k0_off12 (i : grid0.Coords) : Fin 3 → Nat :=
  let arg2 : BitVec 32 := BitVec.ofNat 32 (i 2).val
  let v717 : Index := Scalar.indexCast arg2
  let c2_355 : Index := 2#32
  let c768_356 : Index := 768#32
  ![v717.toNat, 2, 768]
def k0_off13 (i : grid0.Coords) : Fin 3 → Nat :=
  let arg2 : BitVec 32 := BitVec.ofNat 32 (i 2).val
  let v776 : Index := Scalar.indexCast arg2
  let c3_383 : Index := 3#32
  let c0_384 : Index := 0#32
  ![v776.toNat, 3, 0]
def k0_off14 (i : grid0.Coords) : Fin 3 → Nat :=
  let arg2 : BitVec 32 := BitVec.ofNat 32 (i 2).val
  let v835 : Index := Scalar.indexCast arg2
  let c3_413 : Index := 3#32
  let c256_414 : Index := 256#32
  ![v835.toNat, 3, 256]
def k0_off15 (i : grid0.Coords) : Fin 3 → Nat :=
  let arg2 : BitVec 32 := BitVec.ofNat 32 (i 2).val
  let v894 : Index := Scalar.indexCast arg2
  let c3_443 : Index := 3#32
  let c512_444 : Index := 512#32
  ![v894.toNat, 3, 512]
def k0_off16 (i : grid0.Coords) : Fin 3 → Nat :=
  let arg2 : BitVec 32 := BitVec.ofNat 32 (i 2).val
  let v953 : Index := Scalar.indexCast arg2
  let c3_473 : Index := 3#32
  let c768_474 : Index := 768#32
  ![v953.toNat, 3, 768]
def k0_off17 (i : grid0.Coords) : Fin 3 → Nat :=
  let arg2 : BitVec 32 := BitVec.ofNat 32 (i 2).val
  let v1012 : Index := Scalar.indexCast arg2
  let c4_502 : Index := 4#32
  let c0_503 : Index := 0#32
  ![v1012.toNat, 4, 0]
def k0_off18 (i : grid0.Coords) : Fin 3 → Nat :=
  let arg2 : BitVec 32 := BitVec.ofNat 32 (i 2).val
  let v1071 : Index := Scalar.indexCast arg2
  let c4_532 : Index := 4#32
  let c256_533 : Index := 256#32
  ![v1071.toNat, 4, 256]
def k0_off19 (i : grid0.Coords) : Fin 3 → Nat :=
  let arg2 : BitVec 32 := BitVec.ofNat 32 (i 2).val
  let v1130 : Index := Scalar.indexCast arg2
  let c4_562 : Index := 4#32
  let c512_563 : Index := 512#32
  ![v1130.toNat, 4, 512]
def k0_off20 (i : grid0.Coords) : Fin 3 → Nat :=
  let arg2 : BitVec 32 := BitVec.ofNat 32 (i 2).val
  let v1189 : Index := Scalar.indexCast arg2
  let c4_592 : Index := 4#32
  let c768_593 : Index := 768#32
  ![v1189.toNat, 4, 768]
def k0_off21 (i : grid0.Coords) : Fin 3 → Nat :=
  let arg2 : BitVec 32 := BitVec.ofNat 32 (i 2).val
  let v1248 : Index := Scalar.indexCast arg2
  let c5_620 : Index := 5#32
  let c0_621 : Index := 0#32
  ![v1248.toNat, 5, 0]
def k0_off22 (i : grid0.Coords) : Fin 3 → Nat :=
  let arg2 : BitVec 32 := BitVec.ofNat 32 (i 2).val
  let v1307 : Index := Scalar.indexCast arg2
  let c5_650 : Index := 5#32
  let c256_651 : Index := 256#32
  ![v1307.toNat, 5, 256]
def k0_off23 (i : grid0.Coords) : Fin 3 → Nat :=
  let arg2 : BitVec 32 := BitVec.ofNat 32 (i 2).val
  let v1366 : Index := Scalar.indexCast arg2
  let c5_680 : Index := 5#32
  let c512_681 : Index := 512#32
  ![v1366.toNat, 5, 512]
def k0_off24 (i : grid0.Coords) : Fin 3 → Nat :=
  let arg2 : BitVec 32 := BitVec.ofNat 32 (i 2).val
  let v1425 : Index := Scalar.indexCast arg2
  let c5_710 : Index := 5#32
  let c768_711 : Index := 768#32
  ![v1425.toNat, 5, 768]
def k0_off25 (i : grid0.Coords) : Fin 3 → Nat :=
  let arg2 : BitVec 32 := BitVec.ofNat 32 (i 2).val
  let v1484 : Index := Scalar.indexCast arg2
  let c6_739 : Index := 6#32
  let c0_740 : Index := 0#32
  ![v1484.toNat, 6, 0]
def k0_off26 (i : grid0.Coords) : Fin 3 → Nat :=
  let arg2 : BitVec 32 := BitVec.ofNat 32 (i 2).val
  let v1543 : Index := Scalar.indexCast arg2
  let c6_769 : Index := 6#32
  let c256_770 : Index := 256#32
  ![v1543.toNat, 6, 256]
def k0_off27 (i : grid0.Coords) : Fin 3 → Nat :=
  let arg2 : BitVec 32 := BitVec.ofNat 32 (i 2).val
  let v1602 : Index := Scalar.indexCast arg2
  let c6_799 : Index := 6#32
  let c512_800 : Index := 512#32
  ![v1602.toNat, 6, 512]
def k0_off28 (i : grid0.Coords) : Fin 3 → Nat :=
  let arg2 : BitVec 32 := BitVec.ofNat 32 (i 2).val
  let v1661 : Index := Scalar.indexCast arg2
  let c6_829 : Index := 6#32
  let c768_830 : Index := 768#32
  ![v1661.toNat, 6, 768]
def k0_off29 (i : grid0.Coords) : Fin 3 → Nat :=
  let arg2 : BitVec 32 := BitVec.ofNat 32 (i 2).val
  let v1720 : Index := Scalar.indexCast arg2
  let c7_857 : Index := 7#32
  let c0_858 : Index := 0#32
  ![v1720.toNat, 7, 0]
def k0_off30 (i : grid0.Coords) : Fin 3 → Nat :=
  let arg2 : BitVec 32 := BitVec.ofNat 32 (i 2).val
  let v1779 : Index := Scalar.indexCast arg2
  let c7_887 : Index := 7#32
  let c256_888 : Index := 256#32
  ![v1779.toNat, 7, 256]
def k0_off31 (i : grid0.Coords) : Fin 3 → Nat :=
  let arg2 : BitVec 32 := BitVec.ofNat 32 (i 2).val
  let v1838 : Index := Scalar.indexCast arg2
  let c7_917 : Index := 7#32
  let c512_918 : Index := 512#32
  ![v1838.toNat, 7, 512]
def k0_off32 (i : grid0.Coords) : Fin 3 → Nat :=
  let arg2 : BitVec 32 := BitVec.ofNat 32 (i 2).val
  let v1897 : Index := Scalar.indexCast arg2
  let c7_947 : Index := 7#32
  let c768_948 : Index := 768#32
  ![v1897.toNat, 7, 768]
def k0_cond5 (i : grid0.Coords) : BitVec 1 :=
  let arg1 : BitVec 32 := BitVec.ofNat 32 (i 1).val
  let c1_i32_7 : BitVec 32 := 1#32
  let v15 : BitVec 1 := Scalar.cmpi .eq arg1 c1_i32_7
  let v16 : BitVec 32 := Scalar.extui v15
  let c0_i32_8 : BitVec 32 := 0#32
  let v17 : BitVec 1 := Scalar.cmpi .ne v16 c0_i32_8
  v17

def k0_off33 (i : grid0.Coords) : Fin 3 → Nat :=
  let arg2 : BitVec 32 := BitVec.ofNat 32 (i 2).val
  let v35 : Index := Scalar.indexCast arg2
  let c0_18 : Index := 0#32
  let c0_19 : Index := 0#32
  ![v35.toNat, 0, 0]
def k0_off34 (i : grid0.Coords) : Fin 3 → Nat :=
  let arg2 : BitVec 32 := BitVec.ofNat 32 (i 2).val
  let v95 : Index := Scalar.indexCast arg2
  let c1 : Index := 1#32
  let c0_48 : Index := 0#32
  ![v95.toNat, 1, 0]
def k0_off35 (i : grid0.Coords) : Fin 3 → Nat :=
  let arg2 : BitVec 32 := BitVec.ofNat 32 (i 2).val
  let v158 : Index := Scalar.indexCast arg2
  let c0_80 : Index := 0#32
  let c512_81 : Index := 512#32
  ![v158.toNat, 0, 512]
def k0_off36 (i : grid0.Coords) : Fin 3 → Nat :=
  let arg2 : BitVec 32 := BitVec.ofNat 32 (i 2).val
  let v218 : Index := Scalar.indexCast arg2
  let c1_110 : Index := 1#32
  let c512_111 : Index := 512#32
  ![v218.toNat, 1, 512]
def k0_off37 (i : grid0.Coords) : Fin 3 → Nat :=
  let arg2 : BitVec 32 := BitVec.ofNat 32 (i 2).val
  let v288 : Index := Scalar.indexCast arg2
  let c2 : Index := 2#32
  let c0_148 : Index := 0#32
  ![v288.toNat, 2, 0]
def k0_off38 (i : grid0.Coords) : Fin 3 → Nat :=
  let arg2 : BitVec 32 := BitVec.ofNat 32 (i 2).val
  let v348 : Index := Scalar.indexCast arg2
  let c3 : Index := 3#32
  let c0_177 : Index := 0#32
  ![v348.toNat, 3, 0]
def k0_off39 (i : grid0.Coords) : Fin 3 → Nat :=
  let arg2 : BitVec 32 := BitVec.ofNat 32 (i 2).val
  let v411 : Index := Scalar.indexCast arg2
  let c2_210 : Index := 2#32
  let c512_211 : Index := 512#32
  ![v411.toNat, 2, 512]
def k0_off40 (i : grid0.Coords) : Fin 3 → Nat :=
  let arg2 : BitVec 32 := BitVec.ofNat 32 (i 2).val
  let v471 : Index := Scalar.indexCast arg2
  let c3_240 : Index := 3#32
  let c512_241 : Index := 512#32
  ![v471.toNat, 3, 512]
def k0_off41 (i : grid0.Coords) : Fin 3 → Nat :=
  let arg2 : BitVec 32 := BitVec.ofNat 32 (i 2).val
  let v541 : Index := Scalar.indexCast arg2
  let c4 : Index := 4#32
  let c0_279 : Index := 0#32
  ![v541.toNat, 4, 0]
def k0_off42 (i : grid0.Coords) : Fin 3 → Nat :=
  let arg2 : BitVec 32 := BitVec.ofNat 32 (i 2).val
  let v601 : Index := Scalar.indexCast arg2
  let c5 : Index := 5#32
  let c0_308 : Index := 0#32
  ![v601.toNat, 5, 0]
def k0_off43 (i : grid0.Coords) : Fin 3 → Nat :=
  let arg2 : BitVec 32 := BitVec.ofNat 32 (i 2).val
  let v664 : Index := Scalar.indexCast arg2
  let c4_341 : Index := 4#32
  let c512_342 : Index := 512#32
  ![v664.toNat, 4, 512]
def k0_off44 (i : grid0.Coords) : Fin 3 → Nat :=
  let arg2 : BitVec 32 := BitVec.ofNat 32 (i 2).val
  let v724 : Index := Scalar.indexCast arg2
  let c5_371 : Index := 5#32
  let c512_372 : Index := 512#32
  ![v724.toNat, 5, 512]
def k0_off45 (i : grid0.Coords) : Fin 3 → Nat :=
  let arg2 : BitVec 32 := BitVec.ofNat 32 (i 2).val
  let v794 : Index := Scalar.indexCast arg2
  let c6 : Index := 6#32
  let c0_409 : Index := 0#32
  ![v794.toNat, 6, 0]
def k0_off46 (i : grid0.Coords) : Fin 3 → Nat :=
  let arg2 : BitVec 32 := BitVec.ofNat 32 (i 2).val
  let v854 : Index := Scalar.indexCast arg2
  let c7 : Index := 7#32
  let c0_438 : Index := 0#32
  ![v854.toNat, 7, 0]
def k0_off47 (i : grid0.Coords) : Fin 3 → Nat :=
  let arg2 : BitVec 32 := BitVec.ofNat 32 (i 2).val
  let v917 : Index := Scalar.indexCast arg2
  let c6_471 : Index := 6#32
  let c512_472 : Index := 512#32
  ![v917.toNat, 6, 512]
def k0_off48 (i : grid0.Coords) : Fin 3 → Nat :=
  let arg2 : BitVec 32 := BitVec.ofNat 32 (i 2).val
  let v977 : Index := Scalar.indexCast arg2
  let c7_501 : Index := 7#32
  let c512_502 : Index := 512#32
  ![v977.toNat, 7, 512]
def k0_cond6 (i : grid0.Coords) : BitVec 1 :=
  let arg0 : BitVec 32 := BitVec.ofNat 32 (i 0).val
  let c6_i32 : BitVec 32 := 6#32
  let v18 : BitVec 1 := Scalar.cmpi .eq arg0 c6_i32
  let arg1 : BitVec 32 := BitVec.ofNat 32 (i 1).val
  let c1_i32_9 : BitVec 32 := 1#32
  let v19 : BitVec 1 := Scalar.cmpi .eq arg1 c1_i32_9
  let v20 : BitVec 1 := Scalar.andi v18 v19
  let arg2 : BitVec 32 := BitVec.ofNat 32 (i 2).val
  let c17_i32 : BitVec 32 := 17#32
  let v21 : BitVec 1 := Scalar.cmpi .eq arg2 c17_i32
  let v22 : BitVec 1 := Scalar.andi v20 v21
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let v1 : BitVec 32 := Scalar.muli arg2 v0
  let c17_i32 : BitVec 32 := 17#32
  let v2 : BitVec 32 := Scalar.muli c17_i32 arg1
  let v3 : BitVec 32 := Scalar.addi v1 v2
  let c0_i32 : BitVec 32 := 0#32
  ![v3.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let v1 : BitVec 32 := Scalar.muli arg2 v0
  let c17_i32 : BitVec 32 := 17#32
  let v2 : BitVec 32 := Scalar.muli c17_i32 arg1
  let v3 : BitVec 32 := Scalar.addi v1 v2
  let c0_i32 : BitVec 32 := 0#32
  ![v3.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let v1 : BitVec 32 := Scalar.muli arg2 v0
  let c17_i32 : BitVec 32 := 17#32
  let v2 : BitVec 32 := Scalar.muli c17_i32 arg1
  let v3 : BitVec 32 := Scalar.addi v1 v2
  let c0_i32 : BitVec 32 := 0#32
  ![v3.toNat, arg0.toNat]

abbrev stage0_0 : Fin 2 → Memref sig .tc .vmem S3072x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x1024 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S3x1024x18432 : Shape := ⟨3, ![3, 1024, 18432]⟩
abbrev S3x1024 : Shape := ⟨2, ![3, 1024]⟩
abbrev S18432x7168 : Shape := ⟨2, ![18432, 7168]⟩
abbrev S144x7168 : Shape := ⟨2, ![144, 7168]⟩
abbrev S3x1024x7168 : Shape := ⟨3, ![3, 1024, 7168]⟩
abbrev S3072x18432 : Shape := ⟨2, ![3072, 18432]⟩
abbrev S3072x1 : Shape := ⟨2, ![3072, 1]⟩
abbrev S3072x7168 : Shape := ⟨2, ![3072, 7168]⟩
abbrev S1x1 : Shape := ⟨2, ![1, 1]⟩
abbrev S144x128x7168 : Shape := ⟨3, ![144, 128, 7168]⟩
abbrev S144x1x7168 : Shape := ⟨3, ![144, 1, 7168]⟩
abbrev S1x3072x7168 : Shape := ⟨3, ![1, 3072, 7168]⟩
abbrev S1 : Shape := ⟨1, ![1]⟩
abbrev S1x1x1 : Shape := ⟨3, ![1, 1, 1]⟩
abbrev S18432x3072 : Shape := ⟨2, ![18432, 3072]⟩

abbrev nBuf : Space → Nat
  | .hbm => 15
  | .vmem => 11
  | .smem => 1
  | _ => 0

abbrev bufTy : (tb : Table) → Fin (tcTables nBuf tb) → BufTy
  | .hbm, ⟨0, _⟩ => ⟨S3x1024x18432, .fp8e4m3⟩
  | .hbm, ⟨1, _⟩ => ⟨S3x1024, .f32⟩
  | .hbm, ⟨2, _⟩ => ⟨S18432x7168, .f32⟩
  | .hbm, ⟨3, _⟩ => ⟨S144x7168, .f32⟩
  | .hbm, ⟨4, _⟩ => ⟨S144x7168, .f32⟩
  | .hbm, ⟨5, _⟩ => ⟨S3x1024x7168, .bf16⟩
  | .hbm, ⟨6, _⟩ => ⟨S3072x18432, .fp8e4m3⟩
  | .hbm, ⟨7, _⟩ => ⟨S3072x1, .f32⟩
  | .hbm, ⟨8, _⟩ => ⟨S3072x7168, .bf16⟩
  | .hbm, ⟨9, _⟩ => ⟨S144x7168, .f32⟩
  | .hbm, ⟨10, _⟩ => ⟨S144x7168, .f32⟩
  | .hbm, ⟨11, _⟩ => ⟨S1x1, .f32⟩
  | .hbm, ⟨12, _⟩ => ⟨S18432x7168, .i8⟩
  | .hbm, ⟨13, _⟩ => ⟨S144x7168, .f32⟩
  | .hbm, ⟨14, _⟩ => ⟨S144x7168, .f32⟩
  | .local _ .vmem, ⟨0, _⟩ => ⟨S3072x18432, .fp8e4m3⟩
  | .local _ .vmem, ⟨1, _⟩ => ⟨S3072x1, .f32⟩
  | .local _ .vmem, ⟨2, _⟩ => ⟨S18432x7168, .f32⟩
  | .local _ .vmem, ⟨3, _⟩ => ⟨S144x7168, .f32⟩
  | .local _ .vmem, ⟨4, _⟩ => ⟨S144x7168, .f32⟩
  | .local _ .vmem, ⟨5, _⟩ => ⟨S3072x7168, .bf16⟩
  | .local _ .vmem, ⟨6, _⟩ => ⟨S144x7168, .f32⟩
  | .local _ .vmem, ⟨7, _⟩ => ⟨S144x7168, .f32⟩
  | .local _ .vmem, ⟨8, _⟩ => ⟨S18432x7168, .i8⟩
  | .local _ .vmem, ⟨9, _⟩ => ⟨S144x7168, .f32⟩
  | .local _ .vmem, ⟨10, _⟩ => ⟨S144x7168, .f32⟩
  | .local _ .smem, ⟨0, _⟩ => ⟨S1x1, .f32⟩
  | _, _ => ⟨S3x1024x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg8_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3072x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S144x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S18432x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S144x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S144x7168 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Bits.Chunks.lean ====
/- The kernel's body as loops over its chunks: each chunk kind is one program with symbolic offsets, and the printed
   body is the sequence of its chunks. -/
module

public import proofs.«01_k».proof.Proof.Gen.Kernel.Skeleton

@[expose] public section

set_option synthInstance.maxSize 4096
set_option maxRecDepth 65536

noncomputable section

namespace Cert.Kernel.Body

open Idealize.ShloMosaic Idealize.SL.Sem Cert.Kernel.Gen

variable {F : FTy → Type} [FloatOps F]

/-- Run `f` at `i`, `i + 1`, …, `k` times. -/
def loop {N : ℕ} [NeZero N] (f : Fin N → Prog (TpuEff nD τ sig (Elt F) Λ₀ .tc) PUnit) : ℕ → ℕ → Prog (TpuEff nD τ sig (Elt F) Λ₀ .tc) PUnit
  | 0, _ => pure ⟨⟩
  | k + 1, i => f (Fin.ofNat N i) >>= fun _ => loop f k (i + 1)

/-- The row block a point works on, as an offset. -/
def kRow (i : grid0.Coords) : ℕ := (Scalar.indexCast (BitVec.ofNat 32 (i 2).val) : Index).toNat

theorem kRow_eq : ∀ i : grid0.Coords, kRow i = (i 2).val := by decide +kernel

theorem inbQw : ∀ n : Fin 32, ∀ a, (![n.val / 4 * 128, n.val % 4 * 256] : Fin 2 → Nat) a + S128x256.size a ≤ S1024x1024.size a := by decide +kernel
theorem inbQg : ∀ n : Fin 32, ∀ a, (![n.val / 4, n.val % 4 * 256] : Fin 2 → Nat) a + S1x256.size a ≤ S8x1024.size a := by decide +kernel
theorem packQ8 : ∀ n : Fin 32, (Rect.unit (s := S1024x1024) ![n.val / 4 * 128, n.val % 4 * 256] S128x256.size (inbQw n)).PackedRows (EltTy.packing .i8) := by decide +kernel
theorem packQ16 : ∀ n : Fin 32, (Rect.unit (s := S1024x1024) ![n.val / 4 * 128, n.val % 4 * 256] S128x256.size (inbQw n)).PackedRows (EltTy.packing .bf16) := by decide +kernel
theorem inbQk (i : grid0.Coords) (n : Fin 32) : ∀ a, (![kRow i, n.val / 4, n.val % 4 * 256] : Fin 3 → Nat) a + S1x1x256.size a ≤ S18x8x1024.size a := by
  have h2 := (i 2).isLt; have hn := n.isLt; have h0 := kRow_eq i
  have h3 : (i 2).val < 18 := h2
  have e0 : kRow i + 1 ≤ 18 := by omega
  have e1 : n.val / 4 + 1 ≤ 8 := by omega
  have e2 : n.val % 4 * 256 + 256 ≤ 1024 := by omega
  intro a; match a with
  | ⟨0, _⟩ => exact e0
  | ⟨1, _⟩ => exact e1
  | ⟨2, _⟩ => exact e2

/-- One 128×256 chunk of the quantiser. -/
def quantChunk (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg17 : Memref sig .tc .vmem S1024x1024 .bf16) (harg17 : arg17.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (n : Fin 32) : Prog (TpuEff nD τ sig (Elt F) Λ₀ .tc) PUnit := do
  let v25 : Vec F S128x256 .f32 ← Prog.lift (.load arg5 (Rect.unit (s := S1024x1024) ![n.val / 4 * 128, n.val % 4 * 256] S128x256.size (inbQw n)).toLoadRect (View.loadsAt_vmem h_S128x256))
  let v30 : Vec F S1x256 .f32 ← Prog.lift (.load arg6 (Rect.unit (s := S8x1024) ![n.val / 4, n.val % 4 * 256] S1x256.size (inbQg n)).toLoadRect (View.loadsAt_vmem h_S1x256))
  let v32 : Vec F S1x256 .f32 ← Prog.lift (.load arg7 (Rect.unit (s := S8x1024) ![n.val / 4, n.val % 4 * 256] S1x256.size (inbQg n)).toLoadRect (View.loadsAt_vmem h_S1x256))
  let v57 : Vec F S128x256 .i8 ← Prog.lift (.load arg12 (Rect.unit (s := S1024x1024) ![n.val / 4 * 128, n.val % 4 * 256] S128x256.size (inbQw n)).toLoadRect (View.loadsAt_vmem h_S128x256))
  Prog.lift (.store arg12 (Rect.unit (s := S1024x1024) ![n.val / 4 * 128, n.val % 4 * 256] S128x256.size (inbQw n)) (k0_pay15 v25 v30 v32) Finset.univ (View.stores_vmem h_S128x256 (harg12.storeExact_slice rfl _ (packQ8 n)) (fun _ => rfl)) (.inl rfl))
  let v63 : Vec F S128x256 .bf16 ← Prog.lift (.load arg17 (Rect.unit (s := S1024x1024) ![n.val / 4 * 128, n.val % 4 * 256] S128x256.size (inbQw n)).toLoadRect (View.loadsAt_vmem h_S128x256))
  Prog.lift (.store arg17 (Rect.unit (s := S1024x1024) ![n.val / 4 * 128, n.val % 4 * 256] S128x256.size (inbQw n)) (k0_pay16 v25 v30 v32) Finset.univ (View.stores_vmem h_S128x256 (harg17.storeExact_slice rfl _ (packQ16 n)) (fun _ => rfl)) (.inl rfl))
  let v66 : Vec F S1x256 .f32 ← Prog.lift (.load arg13 (Rect.unit (s := S8x1024) ![n.val / 4, n.val % 4 * 256] S1x256.size (inbQg n)).toLoadRect (View.loadsAt_vmem h_S1x256))
  Prog.lift (.store arg13 (Rect.unit (s := S8x1024) ![n.val / 4, n.val % 4 * 256] S1x256.size (inbQg n)) (k0_pay12 v25 v30 v32) Finset.univ (View.stores_vmem_bits_univ h_S1x256 rfl) (.inl rfl))
  let v67 : Vec F S1x256 .f32 ← Prog.lift (.load arg14 (Rect.unit (s := S8x1024) ![n.val / 4, n.val % 4 * 256] S1x256.size (inbQg n)).toLoadRect (View.loadsAt_vmem h_S1x256))
  Prog.lift (.store arg14 (Rect.unit (s := S8x1024) ![n.val / 4, n.val % 4 * 256] S1x256.size (inbQg n)) (k0_pay13 v25 v30 v32) Finset.univ (View.stores_vmem_bits_univ h_S1x256 rfl) (.inl rfl))
  let v69 : Vec F S1x1x256 .f32 ← Prog.lift (.load arg19 (Rect.unit (s := S18x8x1024) ![kRow i, n.val / 4, n.val % 4 * 256] S1x1x256.size (inbQk i n)).toLoadRect (View.loadsAt_vmem h_S1x1x256))
  Prog.lift (.store arg19 (Rect.unit (s := S18x8x1024) ![kRow i, n.val / 4, n.val % 4 * 256] S1x1x256.size (inbQk i n)) (k0_pay17 (k0_pay12 v25 v30 v32)) Finset.univ (View.stores_vmem_bits_univ h_S1x1x256 rfl) (.inl rfl))
  let v73 : Vec F S1x1x256 .f32 ← Prog.lift (.load arg20 (Rect.unit (s := S18x8x1024) ![kRow i, n.val / 4, n.val % 4 * 256] S1x1x256.size (inbQk i n)).toLoadRect (View.loadsAt_vmem h_S1x1x256))
  Prog.lift (.store arg20 (Rect.unit (s := S18x8x1024) ![kRow i, n.val / 4, n.val % 4 * 256] S1x1x256.size (inbQk i n)) (k0_pay18 (k0_pay13 v25 v30 v32)) Finset.univ (View.stores_vmem_bits_univ h_S1x1x256 rfl) (.inl rfl))
  let v77 : Vec F S1x1x256 .f32 ← Prog.lift (.load arg21 (Rect.unit (s := S18x8x1024) ![kRow i, n.val / 4, n.val % 4 * 256] S1x1x256.size (inbQk i n)).toLoadRect (View.loadsAt_vmem h_S1x1x256))
  Prog.lift (.store arg21 (Rect.unit (s := S18x8x1024) ![kRow i, n.val / 4, n.val % 4 * 256] S1x1x256.size (inbQk i n)) (k0_pay19 (k0_pay9 v25)) Finset.univ (View.stores_vmem_bits_univ h_S1x1x256 rfl) (.inl rfl))
  let v81 : Vec F S1x1x256 .f32 ← Prog.lift (.load arg22 (Rect.unit (s := S18x8x1024) ![kRow i, n.val / 4, n.val % 4 * 256] S1x1x256.size (inbQk i n)).toLoadRect (View.loadsAt_vmem h_S1x1x256))
  Prog.lift (.store arg22 (Rect.unit (s := S18x8x1024) ![kRow i, n.val / 4, n.val % 4 * 256] S1x1x256.size (inbQk i n)) (k0_pay20 (k0_pay10 v25)) Finset.univ (View.stores_vmem_bits_univ h_S1x1x256 rfl) (.inl rfl))
  pure ⟨⟩

/-- The accumulator set to zero. -/
def accZero (arg15 : Memref sig .tc .vmem S3072x1024 .f32) (harg15 : arg15.IsWhole) : Prog (TpuEff nD τ sig (Elt F) Λ₀ .tc) PUnit := do
  let v2037 : Vec F S3072x1024 .f32 ← Prog.lift (.load arg15 (Rect.unit (s := S3072x1024) ![0, 0] S3072x1024.size inb_S3072x1024_S3072x1024_0_0).toLoadRect (View.loadsAt_vmem h_S3072x1024))
  Prog.lift (.store arg15 (Rect.unit (s := S3072x1024) ![0, 0] S3072x1024.size inb_S3072x1024_S3072x1024_0_0) (k0_pay422 (F := F)) Finset.univ (View.stores_vmem_bits_univ h_S3072x1024 rfl) (.inl rfl))
  pure ⟨⟩

/-- The loss accumulator set to zero. -/
def laccZero (arg23 : Memref sig .tc .vmem S8x128 .f32) (harg23 : arg23.IsWhole) : Prog (TpuEff nD τ sig (Elt F) Λ₀ .tc) PUnit := do
  let v26 : Vec F S8x128 .f32 ← Prog.lift (.load arg23 (Rect.unit (s := S8x128) ![0, 0] S8x128.size inb_S8x128_S8x128_0_0).toLoadRect (View.loadsAt_vmem h_S8x128))
  Prog.lift (.store arg23 (Rect.unit (s := S8x128) ![0, 0] S8x128.size inb_S8x128_S8x128_0_0) (k0_pay1 (F := F)) Finset.univ (View.stores_vmem_bits_univ h_S8x128 rfl) (.inl rfl))
  pure ⟨⟩

theorem inbDa : ∀ n : Fin 12, ∀ a, (![n.val % 6 * 512, n.val / 6 * 512] : Fin 2 → Nat) a + S512x512.size a ≤ S3072x1024.size a := by decide +kernel
theorem inbDx : ∀ n : Fin 12, ∀ a, (![n.val % 6 * 512, 0] : Fin 2 → Nat) a + S512x1024.size a ≤ S3072x1024.size a := by decide +kernel
theorem inbDw : ∀ n : Fin 12, ∀ a, (![0, n.val / 6 * 512] : Fin 2 → Nat) a + S1024x512.size a ≤ S1024x1024.size a := by decide +kernel
/-- One 512×512 tile of the matrix product, added to the accumulator. -/
def dotTile (arg3 : Memref sig .tc .vmem S3072x1024 .fp8e4m3) (harg3 : arg3.IsWhole) (arg15 : Memref sig .tc .vmem S3072x1024 .f32) (harg15 : arg15.IsWhole) (arg17 : Memref sig .tc .vmem S1024x1024 .bf16) (harg17 : arg17.IsWhole) (n : Fin 12) : Prog (TpuEff nD τ sig (Elt F) Λ₀ .tc) PUnit := do
  let v2016 : Vec F S512x512 .f32 ← Prog.lift (.load arg15 (Rect.unit (s := S3072x1024) ![n.val % 6 * 512, n.val / 6 * 512] S512x512.size (inbDa n)).toLoadRect (View.loadsAt_vmem h_S512x512))
  let v2017 : Vec F S512x1024 .fp8e4m3 ← Prog.lift (.load arg3 (Rect.unit (s := S3072x1024) ![n.val % 6 * 512, 0] S512x1024.size (inbDx n)).toLoadRect (View.loadsAt_vmem h_S512x1024))
  let v2020 : Vec F S1024x512 .bf16 ← Prog.lift (.load arg17 (Rect.unit (s := S1024x1024) ![0, n.val / 6 * 512] S1024x512.size (inbDw n)).toLoadRect (View.loadsAt_vmem h_S1024x512))
  let v2023 : Vec F S512x512 .f32 ← Prog.lift (.load arg15 (Rect.unit (s := S3072x1024) ![n.val % 6 * 512, n.val / 6 * 512] S512x512.size (inbDa n)).toLoadRect (View.loadsAt_vmem h_S512x512))
  Prog.lift (.store arg15 (Rect.unit (s := S3072x1024) ![n.val % 6 * 512, n.val / 6 * 512] S512x512.size (inbDa n)) (k0_pay3 v2016 v2017 v2020) Finset.univ (View.stores_vmem_bits_univ h_S512x512 rfl) (.inl rfl))
  pure ⟨⟩

theorem inbEa : ∀ n : Fin 48, ∀ a, (![n.val / 8 * 512, n.val % 8 * 128] : Fin 2 → Nat) a + S512x128.size a ≤ S3072x1024.size a := by decide +kernel
theorem inbEx : ∀ n : Fin 48, ∀ a, (![n.val / 8 * 512, 0] : Fin 2 → Nat) a + S512x128.size a ≤ S3072x128.size a := by decide +kernel
theorem packE : ∀ n : Fin 48, (Rect.unit (s := S3072x1024) ![n.val / 8 * 512, n.val % 8 * 128] S512x128.size (inbEa n)).PackedRows (EltTy.packing .bf16) := by decide +kernel
/-- One 512×128 chunk of the error: its squares are added to the loss accumulator, its scaled copy is stored. -/
def errChunk (arg4 : Memref sig .tc .vmem S3072x128 .f32) (harg4 : arg4.IsWhole) (arg8 : Memref sig .tc .vmem S3072x1024 .bf16) (harg8 : arg8.IsWhole) (arg15 : Memref sig .tc .vmem S3072x1024 .f32) (harg15 : arg15.IsWhole) (arg16 : Memref sig .tc .vmem S3072x1024 .bf16) (harg16 : arg16.IsWhole) (arg23 : Memref sig .tc .vmem S8x128 .f32) (harg23 : arg23.IsWhole) (n : Fin 48) : Prog (TpuEff nD τ sig (Elt F) Λ₀ .tc) PUnit := do
  let v25 : Vec F S512x128 .f32 ← Prog.lift (.load arg4 (Rect.unit (s := S3072x128) ![n.val / 8 * 512, 0] S512x128.size (inbEx n)).toLoadRect (View.loadsAt_vmem h_S512x128))
  let v27 : Vec F S512x128 .f32 ← Prog.lift (.load arg15 (Rect.unit (s := S3072x1024) ![n.val / 8 * 512, n.val % 8 * 128] S512x128.size (inbEa n)).toLoadRect (View.loadsAt_vmem h_S512x128))
  let v29 : Vec F S512x128 .bf16 ← Prog.lift (.load arg8 (Rect.unit (s := S3072x1024) ![n.val / 8 * 512, n.val % 8 * 128] S512x128.size (inbEa n)).toLoadRect (View.loadsAt_vmem h_S512x128))
  let v33 : Vec F S8x128 .f32 ← Prog.lift (.load arg23 (Rect.unit (s := S8x128) ![0, 0] S8x128.size inb_S8x128_S8x128_0_0).toLoadRect (View.loadsAt_vmem h_S8x128))
  let v38 : Vec F S8x128 .f32 ← Prog.lift (.load arg23 (Rect.unit (s := S8x128) ![0, 0] S8x128.size inb_S8x128_S8x128_0_0).toLoadRect (View.loadsAt_vmem h_S8x128))
  Prog.lift (.store arg23 (Rect.unit (s := S8x128) ![0, 0] S8x128.size inb_S8x128_S8x128_0_0) (k0_pay439 v25 v27 v29 v33) Finset.univ (View.stores_vmem_bits_univ h_S8x128 rfl) (.inl rfl))
  let v43 : Vec F S512x128 .bf16 ← Prog.lift (.load arg16 (Rect.unit (s := S3072x1024) ![n.val / 8 * 512, n.val % 8 * 128] S512x128.size (inbEa n)).toLoadRect (View.loadsAt_vmem h_S512x128))
  Prog.lift (.store arg16 (Rect.unit (s := S3072x1024) ![n.val / 8 * 512, n.val % 8 * 128] S512x128.size (inbEa n)) (k0_pay440 v25 v27 v29) Finset.univ (View.stores_vmem h_S512x128 (harg16.storeExact_slice rfl _ (packE n)) (fun _ => rfl)) (.inl rfl))
  pure ⟨⟩

/-- What the backward pass multiplies the gradient by: the quantised weight less its zero point, less the masked scaled weight. -/
def bwdR (v36 v39 : Vec F S1x1x512 .f32) (v41 : Vec F S128x512 .f32) : FVec F S128x512 .f32 :=
  have v37 : FVec F S1x512 .f32 := shapeCast S1x512 v36 shapeCasts_S1x1x512_S1x512
  have v40 : FVec F S1x512 .f32 := shapeCast S1x512 v39 shapeCasts_S1x1x512_S1x512
  have v42 : FVec F S128x512 .f32 := broadcastTo S128x512 v37 broadcasts_S1x512_S128x512
  have v43 : FVec F S128x512 .f32 := divf v41 v42
  have v44 : FVec F S128x512 .f32 := roundeven v43
  have v45 : FVec F S128x512 .f32 := broadcastTo S128x512 v40 broadcasts_S1x512_S128x512
  have v46 : FVec F S128x512 .f32 := addf v44 v45
  have v47 : FVec F S128x512 .f32 := broadcast S128x512 (Scalar.ofBits .f32 0x00000000#32)
  have v48 : FVec F S128x512 .f32 := maximumf v47 v46
  have v49 : FVec F S128x512 .f32 := broadcast S128x512 (Scalar.ofBits .f32 0x41700000#32)
  have v50 : FVec F S128x512 .f32 := minimumf v49 v48
  have v51 : FVec F S128x512 .f32 := broadcast S128x512 (Scalar.ofBits .f32 0x00000000#32)
  have v52 : IVec S128x512 1 := cmpf .oge v46 v51
  have v53 : FVec F S128x512 .f32 := broadcast S128x512 (Scalar.ofBits .f32 0x41700000#32)
  have v54 : IVec S128x512 1 := cmpf .ole v46 v53
  have v55 : IVec S128x512 1 := andi v52 v54
  have v56 : FVec F S128x512 .f32 := broadcast S128x512 (Scalar.ofBits .f32 0x00000000#32)
  have v57 : FVec F S128x512 .f32 := select v55 v43 v56
  have v58 : FVec F S128x512 .f32 := broadcastTo S128x512 v40 broadcasts_S1x512_S128x512
  have v59 : FVec F S128x512 .f32 := subf v50 v58
  subf v59 v57

theorem slicesG : ∀ g : Fin 2, S256x512.Slices ![g.val * 128, 0] S128x512 := by decide +kernel

/-- One group's scaled sum of gradient products. -/
def bwdS (g : Fin 2) (grad : FVec F S256x512 .f32) (r : FVec F S128x512 .f32) : FVec F S1x512 .f32 :=
  have v61 : FVec F S128x512 .f32 := extractStridedSlice S128x512 ![g.val * 128, 0] grad (slicesG g)
  have v62 : FVec F S128x512 .f32 := mulf v61 r
  k0_pay659 v62

/-- One group's gradient of the upper clipping parameter. -/
def bwdDG (s : FVec F S1x512 .f32) (v67 : Vec F S1x512 .f32) (v76 : Vec F S1x1x512 .f32) : FVec F S1x512 .f32 :=
  have v68 : FVec F S1x512 .f32 := logistic v67
  have v71 : FVec F S1x512 .f32 := mulf s v68
  have v72 : FVec F S1x512 .f32 := broadcast S1x512 (Scalar.ofBits .f32 0x3F800000#32)
  have v73 : FVec F S1x512 .f32 := subf v72 v68
  have v74 : FVec F S1x512 .f32 := mulf v71 v73
  have v77 : FVec F S1x512 .f32 := shapeCast S1x512 v76 shapeCasts_S1x1x512_S1x512
  have v78 : FVec F S1x512 .f32 := mulf v74 v77
  have v79 : FVec F S1x512 .f32 := broadcast S1x512 (Scalar.ofBits .f32 0x41700000#32)
  divf v78 v79

/-- One group's gradient of the lower clipping parameter. -/
def bwdDB (s : FVec F S1x512 .f32) (v69 : Vec F S1x512 .f32) (v89 : Vec F S1x1x512 .f32) : FVec F S1x512 .f32 :=
  have v82 : FVec F S1x512 .f32 := broadcast S1x512 (Scalar.ofBits .f32 0x00000000#32)
  bwdDG (subf v82 s) v69 v89

theorem inbBx : ∀ d : Fin 4, ∀ a, (![0, d.val * 256] : Fin 2 → Nat) a + S3072x256.size a ≤ S3072x1024.size a := by decide +kernel
theorem inbBe : ∀ j : Fin 2, ∀ a, (![0, j.val * 512] : Fin 2 → Nat) a + S3072x512.size a ≤ S3072x1024.size a := by decide +kernel
theorem inbBw : ∀ (d : Fin 4) (j g : Fin 2), ∀ a, (![d.val * 256 + g.val * 128, j.val * 512] : Fin 2 → Nat) a + S128x512.size a ≤ S1024x1024.size a := by decide +kernel
theorem inbBg : ∀ (d : Fin 4) (j g : Fin 2), ∀ a, (![d.val * 2 + g.val, j.val * 512] : Fin 2 → Nat) a + S1x512.size a ≤ S8x1024.size a := by decide +kernel
theorem inbBk (i : grid0.Coords) (d : Fin 4) (j g : Fin 2) : ∀ a, (![kRow i, d.val * 2 + g.val, j.val * 512] : Fin 3 → Nat) a + S1x1x512.size a ≤ S18x8x1024.size a := by
  have h2 := (i 2).isLt; have hd := d.isLt; have hj := j.isLt; have hg := g.isLt; have h0 := kRow_eq i
  have h3 : (i 2).val < 18 := h2
  have e0 : kRow i + 1 ≤ 18 := by omega
  have e1 : d.val * 2 + g.val + 1 ≤ 8 := by omega
  have e2 : j.val * 512 + 512 ≤ 1024 := by omega
  intro a; match a with
  | ⟨0, _⟩ => exact e0
  | ⟨1, _⟩ => exact e1
  | ⟨2, _⟩ => exact e2

/-- One group's pieces of the two clipping gradients. -/
def bwdGroup (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (d : Fin 4) (j g : Fin 2) (grad : FVec F S256x512 .f32) : Prog (TpuEff nD τ sig (Elt F) Λ₀ .tc) PUnit := do
  let v36 : Vec F S1x1x512 .f32 ← Prog.lift (.load arg19 (Rect.unit (s := S18x8x1024) ![kRow i, d.val * 2 + g.val, j.val * 512] S1x1x512.size (inbBk i d j g)).toLoadRect (View.loadsAt_vmem h_S1x1x512))
  let v39 : Vec F S1x1x512 .f32 ← Prog.lift (.load arg20 (Rect.unit (s := S18x8x1024) ![kRow i, d.val * 2 + g.val, j.val * 512] S1x1x512.size (inbBk i d j g)).toLoadRect (View.loadsAt_vmem h_S1x1x512))
  let v41 : Vec F S128x512 .f32 ← Prog.lift (.load arg5 (Rect.unit (s := S1024x1024) ![d.val * 256 + g.val * 128, j.val * 512] S128x512.size (inbBw d j g)).toLoadRect (View.loadsAt_vmem h_S128x512))
  let v67 : Vec F S1x512 .f32 ← Prog.lift (.load arg6 (Rect.unit (s := S8x1024) ![d.val * 2 + g.val, j.val * 512] S1x512.size (inbBg d j g)).toLoadRect (View.loadsAt_vmem h_S1x512))
  let v69 : Vec F S1x512 .f32 ← Prog.lift (.load arg7 (Rect.unit (s := S8x1024) ![d.val * 2 + g.val, j.val * 512] S1x512.size (inbBg d j g)).toLoadRect (View.loadsAt_vmem h_S1x512))
  let v76 : Vec F S1x1x512 .f32 ← Prog.lift (.load arg21 (Rect.unit (s := S18x8x1024) ![kRow i, d.val * 2 + g.val, j.val * 512] S1x1x512.size (inbBk i d j g)).toLoadRect (View.loadsAt_vmem h_S1x1x512))
  let v81 : Vec F S1x512 .f32 ← Prog.lift (.load arg9 (Rect.unit (s := S8x1024) ![d.val * 2 + g.val, j.val * 512] S1x512.size (inbBg d j g)).toLoadRect (View.loadsAt_vmem h_S1x512))
  Prog.lift (.store arg9 (Rect.unit (s := S8x1024) ![d.val * 2 + g.val, j.val * 512] S1x512.size (inbBg d j g)) (bwdDG (bwdS g grad (bwdR v36 v39 v41)) v67 v76) Finset.univ (View.stores_vmem_bits_univ h_S1x512 rfl) (.inl rfl))
  let v89 : Vec F S1x1x512 .f32 ← Prog.lift (.load arg22 (Rect.unit (s := S18x8x1024) ![kRow i, d.val * 2 + g.val, j.val * 512] S1x1x512.size (inbBk i d j g)).toLoadRect (View.loadsAt_vmem h_S1x1x512))
  let v94 : Vec F S1x512 .f32 ← Prog.lift (.load arg10 (Rect.unit (s := S8x1024) ![d.val * 2 + g.val, j.val * 512] S1x512.size (inbBg d j g)).toLoadRect (View.loadsAt_vmem h_S1x512))
  Prog.lift (.store arg10 (Rect.unit (s := S8x1024) ![d.val * 2 + g.val, j.val * 512] S1x512.size (inbBg d j g)) (bwdDB (bwdS g grad (bwdR v36 v39 v41)) v69 v89) Finset.univ (View.stores_vmem_bits_univ h_S1x512 rfl) (.inl rfl))
  pure ⟨⟩

/-- One half of the columns: the gradient tile, then its two groups. -/
def bwdHalf (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg16 : Memref sig .tc .vmem S3072x1024 .bf16) (harg16 : arg16.IsWhole) (arg18 : Memref sig .tc .vmem S256x3072 .bf16) (harg18 : arg18.IsWhole) (d : Fin 4) (j : Fin 2) : Prog (TpuEff nD τ sig (Elt F) Λ₀ .tc) PUnit := do
  let v32 : Vec F S256x3072 .bf16 ← Prog.lift (.load arg18 (Rect.unit (s := S256x3072) ![0, 0] S256x3072.size inb_S256x3072_S256x3072_0_0).toLoadRect (View.loadsAt_vmem h_S256x3072))
  let v33 : Vec F S3072x512 .bf16 ← Prog.lift (.load arg16 (Rect.unit (s := S3072x1024) ![0, j.val * 512] S3072x512.size (inbBe j)).toLoadRect (View.loadsAt_vmem h_S3072x512))
  bwdGroup i arg5 harg5 arg6 harg6 arg7 harg7 arg9 harg9 arg10 harg10 arg19 harg19 arg20 harg20 arg21 harg21 arg22 harg22 d j 0 (k0_pay657 v32 v33)
  bwdGroup i arg5 harg5 arg6 harg6 arg7 harg7 arg9 harg9 arg10 harg10 arg19 harg19 arg20 harg20 arg21 harg21 arg22 harg22 d j 1 (k0_pay657 v32 v33)

/-- A strip of 256 input columns, transposed. -/
def bwdXt (arg3 : Memref sig .tc .vmem S3072x1024 .fp8e4m3) (harg3 : arg3.IsWhole) (arg18 : Memref sig .tc .vmem S256x3072 .bf16) (harg18 : arg18.IsWhole) (d : Fin 4) : Prog (TpuEff nD τ sig (Elt F) Λ₀ .tc) PUnit := do
  let v25 : Vec F S3072x256 .fp8e4m3 ← Prog.lift (.load arg3 (Rect.unit (s := S3072x1024) ![0, d.val * 256] S3072x256.size (inbBx d)).toLoadRect (View.loadsAt_vmem h_S3072x256))
  let v29 : Vec F S256x3072 .bf16 ← Prog.lift (.load arg18 (Rect.unit (s := S256x3072) ![0, 0] S256x3072.size inb_S256x3072_S256x3072_0_0).toLoadRect (View.loadsAt_vmem h_S256x3072))
  Prog.lift (.store arg18 (Rect.unit (s := S256x3072) ![0, 0] S256x3072.size inb_S256x3072_S256x3072_0_0) (k0_pay656 v25) Finset.univ (View.stores_vmem h_S256x3072 (harg18.storeExact_slice rfl _ packedbf16_S256x3072_S256x3072_0_0) (fun _ => rfl)) (.inl rfl))
  pure ⟨⟩

/-- One strip of 256 input columns: the strip transposed, then its two halves. -/
def bwdStrip (i : grid0.Coords) (arg3 : Memref sig .tc .vmem S3072x1024 .fp8e4m3) (harg3 : arg3.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg16 : Memref sig .tc .vmem S3072x1024 .bf16) (harg16 : arg16.IsWhole) (arg18 : Memref sig .tc .vmem S256x3072 .bf16) (harg18 : arg18.IsWhole) (d : Fin 4) : Prog (TpuEff nD τ sig (Elt F) Λ₀ .tc) PUnit := do
  bwdXt arg3 harg3 arg18 harg18 d
  bwdHalf i arg5 harg5 arg6 harg6 arg7 harg7 arg9 harg9 arg10 harg10 arg19 harg19 arg20 harg20 arg21 harg21 arg22 harg22 arg16 harg16 arg18 harg18 d 0
  bwdHalf i arg5 harg5 arg6 harg6 arg7 harg7 arg9 harg9 arg10 harg10 arg19 harg19 arg20 harg20 arg21 harg21 arg22 harg22 arg16 harg16 arg18 harg18 d 1

/-- The loss, from the loss accumulator. -/
def lossStore (arg11 : Memref sig .tc .smem S1x1 .f32) (harg11 : arg11.IsWhole) (arg23 : Memref sig .tc .vmem S8x128 .f32) (harg23 : arg23.IsWhole) : Prog (TpuEff nD τ sig (Elt F) Λ₀ .tc) PUnit := do
  let v25 : Vec F S8x128 .f32 ← Prog.lift (.load arg23 (Rect.unit (s := S8x128) ![0, 0] S8x128.size inb_S8x128_S8x128_0_0).toLoadRect (View.loadsAt_vmem h_S8x128))
  let v31 : Elt F .f32 ← smemLoad arg11 (Rect.unit (s := S1x1) ![0, 0] S1x1.size inb_S1x1_S1x1_0_0) numel1_S1x1 rfl
  Prog.lift (.store arg11 (Rect.unit (s := S1x1) ![0, 0] S1x1.size inb_S1x1_S1x1_0_0) (fun _ => k0_pay8 v25) Finset.univ (View.stores_smem_one rfl numel1_S1x1) (.inl rfl))
  pure ⟨⟩

/-- The whole error pass. -/
def errPass (arg4 : Memref sig .tc .vmem S3072x128 .f32) (harg4 : arg4.IsWhole) (arg8 : Memref sig .tc .vmem S3072x1024 .bf16) (harg8 : arg8.IsWhole) (arg15 : Memref sig .tc .vmem S3072x1024 .f32) (harg15 : arg15.IsWhole) (arg16 : Memref sig .tc .vmem S3072x1024 .bf16) (harg16 : arg16.IsWhole) (arg23 : Memref sig .tc .vmem S8x128 .f32) (harg23 : arg23.IsWhole) : Prog (TpuEff nD τ sig (Elt F) Λ₀ .tc) PUnit := loop (errChunk arg4 harg4 arg8 harg8 arg15 harg15 arg16 harg16 arg23 harg23) 48 0

/-- The whole backward pass. -/
def bwdPass (i : grid0.Coords) (arg3 : Memref sig .tc .vmem S3072x1024 .fp8e4m3) (harg3 : arg3.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg16 : Memref sig .tc .vmem S3072x1024 .bf16) (harg16 : arg16.IsWhole) (arg18 : Memref sig .tc .vmem S256x3072 .bf16) (harg18 : arg18.IsWhole) : Prog (TpuEff nD τ sig (Elt F) Λ₀ .tc) PUnit := loop (bwdStrip i arg3 harg3 arg5 harg5 arg6 harg6 arg7 harg7 arg9 harg9 arg10 harg10 arg19 harg19 arg20 harg20 arg21 harg21 arg22 harg22 arg16 harg16 arg18 harg18) 4 0

/-- The whole quantiser. -/
def quantPass (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg17 : Memref sig .tc .vmem S1024x1024 .bf16) (harg17 : arg17.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) : Prog (TpuEff nD τ sig (Elt F) Λ₀ .tc) PUnit := loop (quantChunk i arg5 harg5 arg6 harg6 arg7 harg7 arg12 harg12 arg13 harg13 arg14 harg14 arg17 harg17 arg19 harg19 arg20 harg20 arg21 harg21 arg22 harg22) 32 0

/-- The whole matrix product. -/
def dotPass (arg3 : Memref sig .tc .vmem S3072x1024 .fp8e4m3) (harg3 : arg3.IsWhole) (arg15 : Memref sig .tc .vmem S3072x1024 .f32) (harg15 : arg15.IsWhole) (arg17 : Memref sig .tc .vmem S1024x1024 .bf16) (harg17 : arg17.IsWhole) : Prog (TpuEff nD τ sig (Elt F) Λ₀ .tc) PUnit := loop (dotTile arg3 harg3 arg15 harg15 arg17 harg17) 12 0

end Cert.Kernel.Body

end
-- ==== Proof.Bits.Steps.lean ====
/- What each chunk does to the contents of the body's memrefs, as a function, and the proof that it does just that. -/
module

public import proofs.«01_k».proof.Proof.Bits.Chunks
public import proofs.«01_k».proof.Proof.Gen.Kernel.Frame
public import Idealize.ShloMosaic.Lib.VecWindow
public import Idealize.ShloMosaic.Lib.WholeRead

@[expose] public section

set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The contents of the body's memrefs. -/
structure St (F : FTy → Type) where
  a3 : Vec F S3072x1024 .fp8e4m3
  a4 : Vec F S3072x128 .f32
  a5 : Vec F S1024x1024 .f32
  a6 : Vec F S8x1024 .f32
  a7 : Vec F S8x1024 .f32
  a8 : Vec F S3072x1024 .bf16
  a9 : Vec F S8x1024 .f32
  a10 : Vec F S8x1024 .f32
  a11 : Vec F S1x1 .f32
  a12 : Vec F S1024x1024 .i8
  a13 : Vec F S8x1024 .f32
  a14 : Vec F S8x1024 .f32
  a15 : Vec F S3072x1024 .f32
  a16 : Vec F S3072x1024 .bf16
  a17 : Vec F S1024x1024 .bf16
  a18 : Vec F S256x3072 .bf16
  a19 : Vec F S18x8x1024 .f32
  a20 : Vec F S18x8x1024 .f32
  a21 : Vec F S18x8x1024 .f32
  a22 : Vec F S18x8x1024 .f32
  a23 : Vec F S8x128 .f32

/-- The body's memrefs at the contents `s`. -/
def own (c : Dev nD) (arg3 : Memref sig .tc .vmem S3072x1024 .fp8e4m3) (arg4 : Memref sig .tc .vmem S3072x128 .f32) (arg5 : Memref sig .tc .vmem S1024x1024 .f32) (arg6 : Memref sig .tc .vmem S8x1024 .f32) (arg7 : Memref sig .tc .vmem S8x1024 .f32) (arg8 : Memref sig .tc .vmem S3072x1024 .bf16) (arg9 : Memref sig .tc .vmem S8x1024 .f32) (arg10 : Memref sig .tc .vmem S8x1024 .f32) (arg11 : Memref sig .tc .smem S1x1 .f32) (arg12 : Memref sig .tc .vmem S1024x1024 .i8) (arg13 : Memref sig .tc .vmem S8x1024 .f32) (arg14 : Memref sig .tc .vmem S8x1024 .f32) (arg15 : Memref sig .tc .vmem S3072x1024 .f32) (arg16 : Memref sig .tc .vmem S3072x1024 .bf16) (arg17 : Memref sig .tc .vmem S1024x1024 .bf16) (arg18 : Memref sig .tc .vmem S256x3072 .bf16) (arg19 : Memref sig .tc .vmem S18x8x1024 .f32) (arg20 : Memref sig .tc .vmem S18x8x1024 .f32) (arg21 : Memref sig .tc .vmem S18x8x1024 .f32) (arg22 : Memref sig .tc .vmem S18x8x1024 .f32) (arg23 : Memref sig .tc .vmem S8x128 .f32) (s : St F) : sProp 𝕄 :=
  iprop(owns (c : Thread nD τ) arg3 fullShare s.a3 ∗ owns (c : Thread nD τ) arg4 fullShare s.a4 ∗ owns (c : Thread nD τ) arg5 fullShare s.a5 ∗ owns (c : Thread nD τ) arg6 fullShare s.a6 ∗ owns (c : Thread nD τ) arg7 fullShare s.a7 ∗ owns (c : Thread nD τ) arg8 fullShare s.a8 ∗ owns (c : Thread nD τ) arg9 fullShare s.a9 ∗ owns (c : Thread nD τ) arg10 fullShare s.a10 ∗ owns (c : Thread nD τ) arg11 fullShare s.a11 ∗ owns (c : Thread nD τ) arg12 fullShare s.a12 ∗ owns (c : Thread nD τ) arg13 fullShare s.a13 ∗ owns (c : Thread nD τ) arg14 fullShare s.a14 ∗ owns (c : Thread nD τ) arg15 fullShare s.a15 ∗ owns (c : Thread nD τ) arg16 fullShare s.a16 ∗ owns (c : Thread nD τ) arg17 fullShare s.a17 ∗ owns (c : Thread nD τ) arg18 fullShare s.a18 ∗ owns (c : Thread nD τ) arg19 fullShare s.a19 ∗ owns (c : Thread nD τ) arg20 fullShare s.a20 ∗ owns (c : Thread nD τ) arg21 fullShare s.a21 ∗ owns (c : Thread nD τ) arg22 fullShare s.a22 ∗ owns (c : Thread nD τ) arg23 fullShare s.a23)

/-- A load of a whole memref's contents through a unit-stride rectangle. -/
theorem readAt_unread_unit {κ : Kind} {sp : Space} {sh : Shape} {e : EltTy} {Val : EltTy → Type} {m : Memref sig κ sp sh e} (h : m.IsWhole) (X : sh.Idx → Val e) (r : Rect sh) :
    m.view.readAt Val r.toLoadRect (h.unread X) = View.ld X r := funext fun x => h.readAt_unread X _ x

/-- What a quantiser chunk does. -/
def quantStep (i : grid0.Coords) (n : Fin 32) (s : St F) : St F :=
  { s with
    a12 := VecWindow.put s.a12 ![n.val / 4 * 128, n.val % 4 * 256] S128x256.size (k0_pay15 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a17 := VecWindow.put s.a17 ![n.val / 4 * 128, n.val % 4 * 256] S128x256.size (k0_pay16 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a13 := VecWindow.put s.a13 ![n.val / 4, n.val % 4 * 256] S1x256.size (k0_pay12 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a14 := VecWindow.put s.a14 ![n.val / 4, n.val % 4 * 256] S1x256.size (k0_pay13 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a19 := VecWindow.put s.a19 ![kRow i, n.val / 4, n.val % 4 * 256] S1x1x256.size (k0_pay17 (k0_pay12 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n)))))
    a20 := VecWindow.put s.a20 ![kRow i, n.val / 4, n.val % 4 * 256] S1x1x256.size (k0_pay18 (k0_pay13 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n)))))
    a21 := VecWindow.put s.a21 ![kRow i, n.val / 4, n.val % 4 * 256] S1x1x256.size (k0_pay19 (k0_pay9 (View.ld s.a5 (Rect.unit (s := S1024x1024) ![n.val / 4 * 128, n.val % 4 * 256] S128x256.size (inbQw n)))))
    a22 := VecWindow.put s.a22 ![kRow i, n.val / 4, n.val % 4 * 256] S1x1x256.size (k0_pay20 (k0_pay10 (View.ld s.a5 (Rect.unit (s := S1024x1024) ![n.val / 4 * 128, n.val % 4 * 256] S128x256.size (inbQw n)))))
  }

/-- The accumulator set to zero. -/
def accZeroStep (s : St F) : St F := { s with a15 := k0_pay422 (F := F) }

/-- The loss accumulator set to zero. -/
def laccZeroStep (s : St F) : St F := { s with a23 := k0_pay1 (F := F) }

/-- What a product tile does. -/
def dotStep (n : Fin 12) (s : St F) : St F :=
  { s with a15 := VecWindow.put s.a15 ![n.val % 6 * 512, n.val / 6 * 512] S512x512.size (k0_pay3 (View.ld s.a15 (Rect.unit (s := S3072x1024) ![n.val % 6 * 512, n.val / 6 * 512] S512x512.size (inbDa n))) (View.ld s.a3 (Rect.unit (s := S3072x1024) ![n.val % 6 * 512, 0] S512x1024.size (inbDx n))) (View.ld s.a17 (Rect.unit (s := S1024x1024) ![0, n.val / 6 * 512] S1024x512.size (inbDw n)))) }

/-- What an error chunk does. -/
def errStep (n : Fin 48) (s : St F) : St F :=
  { s with
    a23 := k0_pay439 (View.ld s.a4 (Rect.unit (s := S3072x128) ![n.val / 8 * 512, 0] S512x128.size (inbEx n))) (View.ld s.a15 (Rect.unit (s := S3072x1024) ![n.val / 8 * 512, n.val % 8 * 128] S512x128.size (inbEa n))) (View.ld s.a8 (Rect.unit (s := S3072x1024) ![n.val / 8 * 512, n.val % 8 * 128] S512x128.size (inbEa n))) (View.ld s.a23 (Rect.unit (s := S8x128) ![0, 0] S8x128.size inb_S8x128_S8x128_0_0))
    a16 := VecWindow.put s.a16 ![n.val / 8 * 512, n.val % 8 * 128] S512x128.size (k0_pay440 (View.ld s.a4 (Rect.unit (s := S3072x128) ![n.val / 8 * 512, 0] S512x128.size (inbEx n))) (View.ld s.a15 (Rect.unit (s := S3072x1024) ![n.val / 8 * 512, n.val % 8 * 128] S512x128.size (inbEa n))) (View.ld s.a8 (Rect.unit (s := S3072x1024) ![n.val / 8 * 512, n.val % 8 * 128] S512x128.size (inbEa n)))) }

/-- What a group of the backward pass does. -/
def bwdGroupStep (i : grid0.Coords) (d : Fin 4) (j g : Fin 2) (grad : FVec F S256x512 .f32) (s : St F) : St F :=
  { s with
    a9 := VecWindow.put s.a9 ![d.val * 2 + g.val, j.val * 512] S1x512.size (bwdDG (bwdS g grad (bwdR (View.ld s.a19 (Rect.unit (s := S18x8x1024) ![kRow i, d.val * 2 + g.val, j.val * 512] S1x1x512.size (inbBk i d j g))) (View.ld s.a20 (Rect.unit (s := S18x8x1024) ![kRow i, d.val * 2 + g.val, j.val * 512] S1x1x512.size (inbBk i d j g))) (View.ld s.a5 (Rect.unit (s := S1024x1024) ![d.val * 256 + g.val * 128, j.val * 512] S128x512.size (inbBw d j g))))) (View.ld s.a6 (Rect.unit (s := S8x1024) ![d.val * 2 + g.val, j.val * 512] S1x512.size (inbBg d j g))) (View.ld s.a21 (Rect.unit (s := S18x8x1024) ![kRow i, d.val * 2 + g.val, j.val * 512] S1x1x512.size (inbBk i d j g))))
    a10 := VecWindow.put s.a10 ![d.val * 2 + g.val, j.val * 512] S1x512.size (bwdDB (bwdS g grad (bwdR (View.ld s.a19 (Rect.unit (s := S18x8x1024) ![kRow i, d.val * 2 + g.val, j.val * 512] S1x1x512.size (inbBk i d j g))) (View.ld s.a20 (Rect.unit (s := S18x8x1024) ![kRow i, d.val * 2 + g.val, j.val * 512] S1x1x512.size (inbBk i d j g))) (View.ld s.a5 (Rect.unit (s := S1024x1024) ![d.val * 256 + g.val * 128, j.val * 512] S128x512.size (inbBw d j g))))) (View.ld s.a7 (Rect.unit (s := S8x1024) ![d.val * 2 + g.val, j.val * 512] S1x512.size (inbBg d j g))) (View.ld s.a22 (Rect.unit (s := S18x8x1024) ![kRow i, d.val * 2 + g.val, j.val * 512] S1x1x512.size (inbBk i d j g)))) }

/-- What half a strip of the backward pass does. -/
def bwdHalfStep (i : grid0.Coords) (d : Fin 4) (j : Fin 2) (s : St F) : St F :=
  let g := k0_pay657 (View.ld s.a18 (Rect.unit (s := S256x3072) ![0, 0] S256x3072.size inb_S256x3072_S256x3072_0_0)) (View.ld s.a16 (Rect.unit (s := S3072x1024) ![0, j.val * 512] S3072x512.size (inbBe j)))
  bwdGroupStep i d j 1 g (bwdGroupStep i d j 0 g s)

/-- What the transposed strip's store does. -/
def bwdXtStep (d : Fin 4) (s : St F) : St F := { s with a18 := k0_pay656 (View.ld s.a3 (Rect.unit (s := S3072x1024) ![0, d.val * 256] S3072x256.size (inbBx d))) }

/-- What a strip of the backward pass does. -/
def bwdStripStep (i : grid0.Coords) (d : Fin 4) (s : St F) : St F :=
  bwdHalfStep i d 1 (bwdHalfStep i d 0 (bwdXtStep d s))

/-- What the loss store does. -/
def lossStep (s : St F) : St F := { s with a11 := fun _ => k0_pay8 (View.ld s.a23 (Rect.unit (s := S8x128) ![0, 0] S8x128.size inb_S8x128_S8x128_0_0)) }

set_option maxHeartbeats 4000000 in
theorem accZero_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)  (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (accZeroStep s) -∗ K ⟨⟩)) ⊢ wp frame (wpE (defs₀ (F := F)) Variants.none c none) E (accZero arg15 harg15) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold accZero
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; exact View.read_writes_full _ _ _ _ _
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem quantChunk_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (n : Fin 32) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (quantStep i n s) -∗ K ⟨⟩)) ⊢ wp frame (wpE (defs₀ (F := F)) Variants.none c none) E (quantChunk i arg5 harg5 arg6 harg6 arg7 harg7 arg12 harg12 arg13 harg13 arg14 harg14 arg17 harg17 arg19 harg19 arg20 harg20 arg21 harg21 arg22 harg22 n) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold quantChunk
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H13]
  · iexists _; isplitr; swap; · iexact H13
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H14]
  · iexists _; isplitr; swap; · iexact H14
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H18]
  · iexists _; isplitr; · ipureintro; exact harg18.read_unread _
    iexact H18
  isplitl [H19]
  · iexists _; isplitr; swap; · iexact H19
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H20]
  · iexists _; isplitr; swap; · iexact H20
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H21]
  · iexists _; isplitr; swap; · iexact H21
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H22]
  · iexists _; isplitr; swap; · iexact H22
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  iexists _; isplitr; · ipureintro; exact harg23.read_unread _
  iexact H23

set_option maxHeartbeats 4000000 in
theorem laccZero_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)  (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (laccZeroStep s) -∗ K ⟨⟩)) ⊢ wp frame (wpE (defs₀ (F := F)) Variants.none c none) E (laccZero arg23 harg23) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold laccZero
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; swap; · iexact H23
  ipureintro; exact View.read_writes_full _ _ _ _ _

set_option maxHeartbeats 4000000 in
theorem dotTile_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (n : Fin 12) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (dotStep n s) -∗ K ⟨⟩)) ⊢ wp frame (wpE (defs₀ (F := F)) Variants.none c none) E (dotTile arg3 harg3 arg15 harg15 arg17 harg17 n) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold dotTile
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; rw [View.read_writes_cons_put _ _ _ _ _ rfl]; (try unfold dotTile_wp.sl.v2016); (try unfold dotTile_wp.sl.v2017); (try unfold dotTile_wp.sl.v2020); simp only [View.writes_nil, Memref.IsWhole.read_unread, readAt_unread_unit]; rfl
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem errChunk_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (n : Fin 48) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (errStep n s) -∗ K ⟨⟩)) ⊢ wp frame (wpE (defs₀ (F := F)) Variants.none c none) E (errChunk arg4 harg4 arg8 harg8 arg15 harg15 arg16 harg16 arg23 harg23 n) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold errChunk
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; swap; · iexact H16
    ipureintro; rw [View.read_writes_cons_put _ _ _ _ _ rfl]; (try unfold errChunk_wp.sl.v25); (try unfold errChunk_wp.sl.v27); (try unfold errChunk_wp.sl.v29); (try unfold errChunk_wp.sl.v33); simp only [View.writes_nil, Memref.IsWhole.read_unread, readAt_unread_unit]; rfl
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; swap; · iexact H23
  ipureintro; refine (View.read_writes_full _ _ _ _ _).trans ?_; (try unfold errChunk_wp.sl.v25); (try unfold errChunk_wp.sl.v27); (try unfold errChunk_wp.sl.v29); (try unfold errChunk_wp.sl.v33); simp only [readAt_unread_unit]; rfl

set_option maxHeartbeats 4000000 in
theorem bwdXt_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (d : Fin 4) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (bwdXtStep d s) -∗ K ⟨⟩)) ⊢ wp frame (wpE (defs₀ (F := F)) Variants.none c none) E (bwdXt arg3 harg3 arg18 harg18 d) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold bwdXt
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; swap; · iexact H18
    ipureintro; refine (View.read_writes_full _ _ _ _ _).trans ?_; (try unfold bwdXt_wp.sl.v25); simp only [readAt_unread_unit]; rfl
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem lossStore_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)  (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (lossStep s) -∗ K ⟨⟩)) ⊢ wp frame (wpE (defs₀ (F := F)) Variants.none c none) E (lossStore arg11 harg11 arg23 harg23) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold lossStore
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro; refine (View.read_writes_full _ _ _ _ _).trans ?_; (try unfold lossStore_wp.sl.v25); simp only [readAt_unread_unit]; rfl
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem bwdHalf_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (d : Fin 4) (j : Fin 2) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (bwdHalfStep i d j s) -∗ K ⟨⟩)) ⊢ wp frame (wpE (defs₀ (F := F)) Variants.none c none) E (bwdHalf i arg5 harg5 arg6 harg6 arg7 harg7 arg9 harg9 arg10 harg10 arg19 harg19 arg20 harg20 arg21 harg21 arg22 harg22 arg16 harg16 arg18 harg18 d j) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold bwdHalf bwdGroup
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro; rw [View.read_writes_cons_put _ _ _ _ _ rfl, View.read_writes_cons_put _ _ _ _ _ rfl]; (try unfold bwdHalf_wp.sl.v32); (try unfold bwdHalf_wp.sl.v33); (try unfold bwdHalf_wp.sl.v36); (try unfold bwdHalf_wp.sl.v39); (try unfold bwdHalf_wp.sl.v41); (try unfold bwdHalf_wp.sl.v67); (try unfold bwdHalf_wp.sl.v69); (try unfold bwdHalf_wp.sl.v76); (try unfold bwdHalf_wp.sl.v81); (try unfold bwdHalf_wp.sl.v89); (try unfold bwdHalf_wp.sl.v36_1); (try unfold bwdHalf_wp.sl.v39_1); (try unfold bwdHalf_wp.sl.v41_1); (try unfold bwdHalf_wp.sl.v67_1); (try unfold bwdHalf_wp.sl.v69_1); (try unfold bwdHalf_wp.sl.v76_1); (try unfold bwdHalf_wp.sl.v81_1); (try unfold bwdHalf_wp.sl.v89_1); simp only [View.writes_nil, Memref.IsWhole.read_unread, readAt_unread_unit]; rfl
  isplitl [H10]
  · iexists _; isplitr; swap; · iexact H10
    ipureintro; rw [View.read_writes_cons_put _ _ _ _ _ rfl, View.read_writes_cons_put _ _ _ _ _ rfl]; (try unfold bwdHalf_wp.sl.v32); (try unfold bwdHalf_wp.sl.v33); (try unfold bwdHalf_wp.sl.v36); (try unfold bwdHalf_wp.sl.v39); (try unfold bwdHalf_wp.sl.v41); (try unfold bwdHalf_wp.sl.v67); (try unfold bwdHalf_wp.sl.v69); (try unfold bwdHalf_wp.sl.v76); (try unfold bwdHalf_wp.sl.v81); (try unfold bwdHalf_wp.sl.v89); (try unfold bwdHalf_wp.sl.v36_1); (try unfold bwdHalf_wp.sl.v39_1); (try unfold bwdHalf_wp.sl.v41_1); (try unfold bwdHalf_wp.sl.v67_1); (try unfold bwdHalf_wp.sl.v69_1); (try unfold bwdHalf_wp.sl.v76_1); (try unfold bwdHalf_wp.sl.v81_1); (try unfold bwdHalf_wp.sl.v89_1); simp only [View.writes_nil, Memref.IsWhole.read_unread, readAt_unread_unit]; rfl
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

end Cert.Kernel.Body

end
-- ==== Proof.Bits.Kit.lean ====
/- The conditions of the body's branches at a point, the windows' staging buffers, and the scratch buffers. -/
module

public import proofs.«01_k».proof.Proof.Gen.Kernel.Frame

@[expose] public section

set_option synthInstance.maxSize 4096
set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
theorem hcond0_0 : ∀ t : Fin cfg0.N, cond0_0 (grid0.coords t) ↔ t.val % 252 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_0, e0, e1, e2]
    word_cmp
   : ∀ t : Fin grid0.N, cond0_0 (grid0.coords t) ↔ t.val % 252 = 0)

abbrev cond0_1 (i : grid0.Coords) : Prop := k0_cond2 i = 1#1
theorem hcond0_1 : ∀ t : Fin cfg0.N, cond0_1 (grid0.coords t) ↔ t.val / 18 % 2 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_1, k0_cond2, e0, e1, e2]
    word_cmp
   : ∀ t : Fin grid0.N, cond0_1 (grid0.coords t) ↔ t.val / 18 % 2 = 0)

abbrev cond0_2 (i : grid0.Coords) : Prop := (Scalar.cmpi .ne (Scalar.extui (Scalar.cmpi .eq (BitVec.ofNat 32 (i 2).val) 0#32)) 0#32) = 1#1
theorem hcond0_2 : ∀ t : Fin cfg0.N, cond0_2 (grid0.coords t) ↔ t.val % 18 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_2, e0, e1, e2]
    word_cmp
   : ∀ t : Fin grid0.N, cond0_2 (grid0.coords t) ↔ t.val % 18 = 0)

abbrev cond0_3 (i : grid0.Coords) : Prop := (Scalar.cmpi .ne (Scalar.extui (Scalar.andi (Scalar.cmpi .eq (BitVec.ofNat 32 (i 1).val) 1#32) (Scalar.cmpi .eq (BitVec.ofNat 32 (i 2).val) 0#32))) 0#32) = 1#1
theorem hcond0_3 : ∀ t : Fin cfg0.N, cond0_3 (grid0.coords t) ↔ t.val % 36 = 18 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_3, e0, e1, e2]
    word_cmp
   : ∀ t : Fin grid0.N, cond0_3 (grid0.coords t) ↔ t.val % 36 = 18)

abbrev cond0_4 (i : grid0.Coords) : Prop := k0_cond5 i = 1#1
theorem hcond0_4 : ∀ t : Fin cfg0.N, cond0_4 (grid0.coords t) ↔ t.val / 18 % 2 = 1 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_4, k0_cond5, e0, e1, e2]
    word_cmp
   : ∀ t : Fin grid0.N, cond0_4 (grid0.coords t) ↔ t.val / 18 % 2 = 1)

abbrev cond0_5 (i : grid0.Coords) : Prop := k0_cond6 i = 1#1
theorem hcond0_5 : ∀ t : Fin cfg0.N, cond0_5 (grid0.coords t) ↔ t.val % 252 = 251 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_5, k0_cond6, e0, e1, e2]
    word_cmp
   : ∀ t : Fin grid0.N, cond0_5 (grid0.coords t) ↔ t.val % 252 = 251)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev ms0_0 (t : Fin cfg0.N) : Memref sig .tc .vmem S3072x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3072x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
abbrev scM0_0 : Memref sig .tc .vmem S3072x1024 .f32 := Memref.whole cc0_scratch0
abbrev scM0_1 : Memref sig .tc .vmem S3072x1024 .bf16 := Memref.whole cc0_scratch1
abbrev scM0_2 : Memref sig .tc .vmem S1024x1024 .bf16 := Memref.whole cc0_scratch2
abbrev scM0_3 : Memref sig .tc .vmem S256x3072 .bf16 := Memref.whole cc0_scratch3
abbrev scM0_4 : Memref sig .tc .vmem S18x8x1024 .f32 := Memref.whole cc0_scratch4
abbrev scM0_5 : Memref sig .tc .vmem S18x8x1024 .f32 := Memref.whole cc0_scratch5
abbrev scM0_6 : Memref sig .tc .vmem S18x8x1024 .f32 := Memref.whole cc0_scratch6
abbrev scM0_7 : Memref sig .tc .vmem S18x8x1024 .f32 := Memref.whole cc0_scratch7
abbrev scM0_8 : Memref sig .tc .vmem S8x128 .f32 := Memref.whole cc0_scratch8
abbrev VS0_0 : View sig .tc .vmem S3072x1024 .f32 := scM0_0.view
abbrev VS0_8 : View sig .tc .vmem S8x128 .f32 := scM0_8.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl
end Cert.Kernel.Body

end
-- ==== Proof.Bits.BodyQuant.lean ====
/- The printed quantiser and product are the passes of chunks. -/
module

public import proofs.«01_k».proof.Proof.Bits.Chunks

@[expose] public section

set_option synthInstance.maxSize 4096
set_option maxRecDepth 65536

noncomputable section

namespace Cert.Kernel.Body

open Idealize.ShloMosaic Idealize.SL.Sem Cert.Kernel.Gen

variable {F : FTy → Type} [FloatOps F]

/-- The accumulator's reset, at the first row block only. -/
def accInit (arg2 : BitVec 32) (arg15 : Memref sig .tc .vmem S3072x1024 .f32) (harg15 : arg15.IsWhole) : Prog (TpuEff nD τ sig (Elt F) Λ₀ .tc) PUnit :=
  if k0_h3 : (Scalar.cmpi .ne (Scalar.extui (Scalar.cmpi .eq arg2 0#32) : BitVec 32) 0#32 : BitVec 1) = 1#1 then accZero arg15 harg15 else pure ⟨⟩

theorem accInit_pos (arg2 : BitVec 32) (arg15 : Memref sig .tc .vmem S3072x1024 .f32) (harg15 : arg15.IsWhole) (h : (Scalar.cmpi .ne (Scalar.extui (Scalar.cmpi .eq arg2 0#32) : BitVec 32) 0#32 : BitVec 1) = 1#1) :
    accInit (F := F) arg2 arg15 harg15 = accZero arg15 harg15 := dif_pos h

theorem accInit_neg (arg2 : BitVec 32) (arg15 : Memref sig .tc .vmem S3072x1024 .f32) (harg15 : arg15.IsWhole) (h : ¬ (Scalar.cmpi .ne (Scalar.extui (Scalar.cmpi .eq arg2 0#32) : BitVec 32) 0#32 : BitVec 1) = 1#1) :
    accInit (F := F) arg2 arg15 harg15 = pure ⟨⟩ := dif_neg h

/-- One part of the printed body with its reset a parameter. -/
def part52H (E : Prog (TpuEff nD τ sig (Elt F) Λ₀ .tc) PUnit) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (arg2 : BitVec 32) (k0_h2 : k0_cond2 i = 1#1) (v1856 : FVec F S1x256 .f32) (v1858 : FVec F S1x256 .f32) (v1871 : FVec F S1x256 .f32) (v1875 : FVec F S1x256 .f32) (v1888 : FVec F S128x256 .f32) (v1889 : FVec F S128x256 .f32) :
    Prog (TpuEff nD τ sig (Elt F) Λ₀ .tc) (Σ' (v1916 : Vec F S512x512 .f32), FVec F S512x1024 .bf16) := do
  let v1892 : Vec F S128x256 .bf16 ← Prog.lift (.load arg17 (Rect.unit (s := S1024x1024) ![896, 768] S128x256.size inb_S1024x1024_S128x256_896_768).toLoadRect (View.loadsAt_vmem h_S128x256))
  Prog.lift (.store arg17 (Rect.unit (s := S1024x1024) ![896, 768] S128x256.size inb_S1024x1024_S128x256_896_768) (k0_pay417 v1888 v1889) Finset.univ (View.stores_vmem h_S128x256 (harg17.storeExact_slice rfl _ packedbf16_S1024x1024_S128x256_896_768) (fun _ => rfl)) (.inl rfl))
  let v1895 : Vec F S1x256 .f32 ← Prog.lift (.load arg13 (Rect.unit (s := S8x1024) ![7, 768] S1x256.size inb_S8x1024_S1x256_7_768).toLoadRect (View.loadsAt_vmem h_S1x256))
  Prog.lift (.store arg13 (Rect.unit (s := S8x1024) ![7, 768] S1x256.size inb_S8x1024_S1x256_7_768) v1871 Finset.univ (View.stores_vmem_bits_univ h_S1x256 rfl) (.inl rfl))
  let v1896 : Vec F S1x256 .f32 ← Prog.lift (.load arg14 (Rect.unit (s := S8x1024) ![7, 768] S1x256.size inb_S8x1024_S1x256_7_768).toLoadRect (View.loadsAt_vmem h_S1x256))
  Prog.lift (.store arg14 (Rect.unit (s := S8x1024) ![7, 768] S1x256.size inb_S8x1024_S1x256_7_768) v1875 Finset.univ (View.stores_vmem_bits_univ h_S1x256 rfl) (.inl rfl))
  let v1898 : Vec F S1x1x256 .f32 ← Prog.lift (.load arg19 (Rect.unit (s := S18x8x1024) (k0_off32 i) S1x1x256.size (k0_off32_inb i k0_h2)).toLoadRect (View.loadsAt_vmem h_S1x1x256))
  Prog.lift (.store arg19 (Rect.unit (s := S18x8x1024) (k0_off32 i) S1x1x256.size (k0_off32_inb i k0_h2)) (k0_pay418 v1871) Finset.univ (View.stores_vmem_bits_univ h_S1x1x256 rfl) (.inl rfl))
  let v1902 : Vec F S1x1x256 .f32 ← Prog.lift (.load arg20 (Rect.unit (s := S18x8x1024) (k0_off32 i) S1x1x256.size (k0_off32_inb i k0_h2)).toLoadRect (View.loadsAt_vmem h_S1x1x256))
  Prog.lift (.store arg20 (Rect.unit (s := S18x8x1024) (k0_off32 i) S1x1x256.size (k0_off32_inb i k0_h2)) (k0_pay419 v1875) Finset.univ (View.stores_vmem_bits_univ h_S1x1x256 rfl) (.inl rfl))
  let v1906 : Vec F S1x1x256 .f32 ← Prog.lift (.load arg21 (Rect.unit (s := S18x8x1024) (k0_off32 i) S1x1x256.size (k0_off32_inb i k0_h2)).toLoadRect (View.loadsAt_vmem h_S1x1x256))
  Prog.lift (.store arg21 (Rect.unit (s := S18x8x1024) (k0_off32 i) S1x1x256.size (k0_off32_inb i k0_h2)) (k0_pay420 v1856) Finset.univ (View.stores_vmem_bits_univ h_S1x1x256 rfl) (.inl rfl))
  let v1910 : Vec F S1x1x256 .f32 ← Prog.lift (.load arg22 (Rect.unit (s := S18x8x1024) (k0_off32 i) S1x1x256.size (k0_off32_inb i k0_h2)).toLoadRect (View.loadsAt_vmem h_S1x1x256))
  Prog.lift (.store arg22 (Rect.unit (s := S18x8x1024) (k0_off32 i) S1x1x256.size (k0_off32_inb i k0_h2)) (k0_pay421 v1858) Finset.univ (View.stores_vmem_bits_univ h_S1x1x256 rfl) (.inl rfl))
  let v1913 : BitVec 1 := Scalar.cmpi .eq arg2 0#32
  let v1914 : BitVec 32 := Scalar.extui v1913
  let v1915 : BitVec 1 := Scalar.cmpi .ne v1914 0#32
  E
  let v1916 : Vec F S512x512 .f32 ← Prog.lift (.load arg15 (Rect.unit (s := S3072x1024) ![0, 0] S512x512.size inb_S3072x1024_S512x512_0_0).toLoadRect (View.loadsAt_vmem h_S512x512))
  let v1917 : Vec F S512x1024 .fp8e4m3 ← Prog.lift (.load arg3 (Rect.unit (s := S3072x1024) ![0, 0] S512x1024.size inb_S3072x1024_S512x1024_0_0).toLoadRect (View.loadsAt_vmem h_S512x1024))
  pure ⟨v1916, k0_pay423 v1917⟩
set_option maxRecDepth 65536 in
/-- The printed `k0_part52` is its skeleton: by definitional unfolding. -/

theorem part52_eq : k0_part52 (F := F) = fun i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889 => part52H (accInit arg2 arg15 harg15) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889 := by
  funext i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889
  rw [k0_part52_eq_skeleton]
  unfold k0_part52_skel part52H accInit
  by_cases h : (Scalar.cmpi .ne (Scalar.extui (Scalar.cmpi .eq arg2 0#32) : BitVec 32) 0#32 : BitVec 1) = 1#1
  · simp only [dif_pos h]; rfl
  · simp only [dif_neg h]; rfl

/-- The printed quantiser and product with the reset a parameter. -/
def part56H (E : Prog (TpuEff nD τ sig (Elt F) Λ₀ .tc) PUnit) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (arg2 : BitVec 32) (k0_h2 : k0_cond2 i = 1#1) :
    Prog (TpuEff nD τ sig (Elt F) Λ₀ .tc) (FVec F S512x512 .f32) := do
  let ⟨v27, v29, v42, v46, v65⟩ : Σ' (v27 : FVec F S1x256 .f32) (v29 : FVec F S1x256 .f32) (v42 : FVec F S1x256 .f32) (v46 : FVec F S1x256 .f32), FVec F S128x256 .bf16 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  let ⟨v84, v86, v88, v94, v97⟩ : Σ' (v84 : Vec F S128x256 .f32) (v86 : FVec F S1x256 .f32) (v88 : FVec F S1x256 .f32) (v94 : FVec F S1x256 .f32), FVec F S1x256 .f32 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v27 v29 v42 v46 v65
  k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v84 v94 v97
  let ⟨v145, v147, v160, v164, v173, v174⟩ : Σ' (v145 : FVec F S1x256 .f32) (v147 : FVec F S1x256 .f32) (v160 : FVec F S1x256 .f32) (v164 : FVec F S1x256 .f32) (v173 : FVec F S128x256 .f32), IVec S128x256 8 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v86 v88
  let ⟨v202, v204, v206⟩ : Σ' (v202 : Vec F S128x256 .f32) (v204 : FVec F S1x256 .f32), FVec F S1x256 .f32 ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v145 v147 v160 v164 v173 v174
  let ⟨v219, v223⟩ : Σ' (v219 : FVec F S1x256 .f32), FVec F S1x256 .f32 ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v202 v204 v206
  let ⟨v261, v263, v265, v278, v280, cst_135⟩ : Σ' (v261 : Vec F S128x256 .f32) (v263 : FVec F S1x256 .f32) (v265 : FVec F S1x256 .f32) (v278 : FVec F S1x256 .f32) (v280 : FVec F S1x256 .f32), F .f32 ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v204 v206 v219 v223
  k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v261 v263 v278 v280 cst_135
  let ⟨v322, v324, v337, v341, v357⟩ : Σ' (v322 : FVec F S1x256 .f32) (v324 : FVec F S1x256 .f32) (v337 : FVec F S1x256 .f32) (v341 : FVec F S1x256 .f32), FVec F S128x256 .bf16 ← k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v265
  let ⟨v379, v381, v383, v387, v388⟩ : Σ' (v379 : Vec F S128x256 .f32) (v381 : FVec F S1x256 .f32) (v383 : FVec F S1x256 .f32) (v387 : FVec F S1x256 .f32), FVec F S1x256 .f32 ← k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v322 v324 v337 v341 v357
  let v400 : FVec F S1x256 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v379 v383 v387 v388
  let ⟨v440, v442, v455, v459, v464, cst_226, cst_227⟩ : Σ' (v440 : FVec F S1x256 .f32) (v442 : FVec F S1x256 .f32) (v455 : FVec F S1x256 .f32) (v459 : FVec F S1x256 .f32) (v464 : FVec F S128x256 .f32) (cst_226 : F .f32), F .f32 ← k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v381 v383 v400
  let v497 : Vec F S128x256 .f32 ← k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v440 v442 v455 v459 v464 cst_226 cst_227
  let ⟨v499, v501, v514, v518⟩ : Σ' (v499 : FVec F S1x256 .f32) (v501 : FVec F S1x256 .f32) (v514 : FVec F S1x256 .f32), FVec F S1x256 .f32 ← k0_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v497
  let ⟨v556, v558, v560, v566, v569, v571, cst_283⟩ : Σ' (v556 : Vec F S128x256 .f32) (v558 : FVec F S1x256 .f32) (v560 : FVec F S1x256 .f32) (v566 : FVec F S1x256 .f32) (v569 : FVec F S1x256 .f32) (v571 : IVec S1x256 1), F .f32 ← k0_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v499 v501 v514 v518
  let v608 : Vec F S1x1x256 .f32 ← k0_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v556 v566 v569 v571 cst_283
  let ⟨v617, v619, v632, v636, v645⟩ : Σ' (v617 : FVec F S1x256 .f32) (v619 : FVec F S1x256 .f32) (v632 : FVec F S1x256 .f32) (v636 : FVec F S1x256 .f32), FVec F S128x256 .f32 ← k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v558 v560 v608
  let ⟨v674, v676, v678, v680⟩ : Σ' (v674 : Vec F S128x256 .f32) (v676 : FVec F S1x256 .f32) (v678 : FVec F S1x256 .f32), FVec F S1x256 .f32 ← k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v617 v619 v632 v636 v645
  let ⟨v691, v695, v718⟩ : Σ' (v691 : FVec F S1x256 .f32) (v695 : FVec F S1x256 .f32), Vec F S1x1x256 .f32 ← k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v674 v676 v678 v680
  let ⟨v735, v737, v750, v754, v756⟩ : Σ' (v735 : FVec F S1x256 .f32) (v737 : FVec F S1x256 .f32) (v750 : FVec F S1x256 .f32) (v754 : FVec F S1x256 .f32), FVec F S128x256 .f32 ← k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v676 v678 v691 v695 v718
  let v791 : FVec F S1x1x256 .f32 ← k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v735 v737 v750 v754 v756
  let ⟨v794, v796, v809, v813, v829⟩ : Σ' (v794 : FVec F S1x256 .f32) (v796 : FVec F S1x256 .f32) (v809 : FVec F S1x256 .f32) (v813 : FVec F S1x256 .f32), FVec F S128x256 .bf16 ← k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v791
  let ⟨v851, v853, v855, v861, v862, v863⟩ : Σ' (v851 : Vec F S128x256 .f32) (v853 : FVec F S1x256 .f32) (v855 : FVec F S1x256 .f32) (v861 : FVec F S1x256 .f32) (v862 : FVec F S1x256 .f32), FVec F S1x256 .f32 ← k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v794 v796 v809 v813 v829
  let v901 : FVec F S1x1x256 .f32 ← k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v851 v861 v862 v863
  let ⟨v912, v914, v927, v931, v940⟩ : Σ' (v912 : FVec F S1x256 .f32) (v914 : FVec F S1x256 .f32) (v927 : FVec F S1x256 .f32) (v931 : FVec F S1x256 .f32), FVec F S128x256 .f32 ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v853 v855 v901
  let ⟨v969, v971, v972⟩ : Σ' (v969 : Vec F S128x256 .f32) (v971 : FVec F S1x256 .f32), FVec F S256 .f32 ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v912 v914 v927 v931 v940
  let ⟨v973, v986, v990⟩ : Σ' (v973 : FVec F S1x256 .f32) (v986 : FVec F S1x256 .f32), FVec F S1x256 .f32 ← k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v969 v971 v972
  let ⟨v1028, v1030, v1032, v1045, v1047⟩ : Σ' (v1028 : Vec F S128x256 .f32) (v1030 : FVec F S1x256 .f32) (v1032 : FVec F S1x256 .f32) (v1045 : FVec F S1x256 .f32), FVec F S1x256 .f32 ← k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v971 v973 v986 v990
  k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1028 v1030 v1045 v1047
  let ⟨v1089, v1091, v1104, v1108, v1123⟩ : Σ' (v1089 : FVec F S1x256 .f32) (v1091 : FVec F S1x256 .f32) (v1104 : FVec F S1x256 .f32) (v1108 : FVec F S1x256 .f32), FVec F S128x256 .f32 ← k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v1032
  let ⟨v1146, v1148, v1150, v1152, v1154⟩ : Σ' (v1146 : Vec F S128x256 .f32) (v1148 : FVec F S1x256 .f32) (v1150 : FVec F S1x256 .f32) (v1152 : FVec F S1x256 .f32), FVec F S1x256 .f32 ← k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1089 v1091 v1104 v1108 v1123
  let v1167 : FVec F S1x256 .f32 ← k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1146 v1148 v1150 v1152 v1154
  let ⟨v1207, v1209, v1222, v1226, v1231, cst_610⟩ : Σ' (v1207 : FVec F S1x256 .f32) (v1209 : FVec F S1x256 .f32) (v1222 : FVec F S1x256 .f32) (v1226 : FVec F S1x256 .f32) (v1231 : FVec F S128x256 .f32), F .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1148 v1150 v1167
  let v1264 : Vec F S128x256 .f32 ← k0_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1207 v1209 v1222 v1226 v1231 cst_610
  let ⟨v1266, v1268, v1281, v1285⟩ : Σ' (v1266 : FVec F S1x256 .f32) (v1268 : FVec F S1x256 .f32) (v1281 : FVec F S1x256 .f32), FVec F S1x256 .f32 ← k0_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1264
  let ⟨v1323, v1325, v1327, v1333, v1336, v1338⟩ : Σ' (v1323 : Vec F S128x256 .f32) (v1325 : FVec F S1x256 .f32) (v1327 : FVec F S1x256 .f32) (v1333 : FVec F S1x256 .f32) (v1336 : FVec F S1x256 .f32), IVec S1x256 1 ← k0_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1266 v1268 v1281 v1285
  k0_part37 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1323 v1333 v1336 v1338
  let ⟨v1384, v1386, v1399, v1403, v1412, v1413⟩ : Σ' (v1384 : FVec F S1x256 .f32) (v1386 : FVec F S1x256 .f32) (v1399 : FVec F S1x256 .f32) (v1403 : FVec F S1x256 .f32) (v1412 : FVec F S128x256 .f32), IVec S128x256 8 ← k0_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1325 v1327
  let ⟨v1441, v1443, v1445, v1446⟩ : Σ' (v1441 : Vec F S128x256 .f32) (v1443 : FVec F S1x256 .f32) (v1445 : FVec F S1x256 .f32), Vec F S1x256 .f32 ← k0_part39 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1384 v1386 v1399 v1403 v1412 v1413
  let ⟨v1458, v1462⟩ : Σ' (v1458 : FVec F S1x256 .f32), FVec F S1x256 .f32 ← k0_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v1441 v1443 v1445 v1446
  let ⟨v1500, v1502, v1504, v1517, v1521, v1522⟩ : Σ' (v1500 : Vec F S128x256 .f32) (v1502 : FVec F S1x256 .f32) (v1504 : FVec F S1x256 .f32) (v1517 : FVec F S1x256 .f32) (v1521 : FVec F S1x256 .f32), FVec F S128x256 .f32 ← k0_part41 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1443 v1445 v1458 v1462
  k0_part42 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1500 v1502 v1517 v1521 v1522
  let ⟨v1561, v1563, v1576, v1580, v1596, v1597⟩ : Σ' (v1561 : FVec F S1x256 .f32) (v1563 : FVec F S1x256 .f32) (v1576 : FVec F S1x256 .f32) (v1580 : FVec F S1x256 .f32) (v1596 : FVec F S128x256 .bf16), Vec F S128x256 .bf16 ← k0_part43 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v1504
  let ⟨v1618, v1620, v1622, v1628, v1629, cst_815⟩ : Σ' (v1618 : Vec F S128x256 .f32) (v1620 : FVec F S1x256 .f32) (v1622 : FVec F S1x256 .f32) (v1628 : FVec F S1x256 .f32) (v1629 : FVec F S1x256 .f32), F .f32 ← k0_part44 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1561 v1563 v1576 v1580 v1596 v1597
  let v1639 : FVec F S1x256 .f32 ← k0_part45 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1618 v1628 v1629 cst_815
  let ⟨v1679, v1681, v1694, v1698, v1705, v1706⟩ : Σ' (v1679 : FVec F S1x256 .f32) (v1681 : FVec F S1x256 .f32) (v1694 : FVec F S1x256 .f32) (v1698 : FVec F S1x256 .f32) (v1705 : FVec F S128x256 .f32), FVec F S128x256 .f32 ← k0_part46 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1620 v1622 v1639
  let ⟨v1736, v1738⟩ : Σ' (v1736 : Vec F S128x256 .f32), FVec F S1x256 .f32 ← k0_part47 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1679 v1681 v1694 v1698 v1705 v1706
  let ⟨v1740, v1753, v1757⟩ : Σ' (v1740 : FVec F S1x256 .f32) (v1753 : FVec F S1x256 .f32), FVec F S1x256 .f32 ← k0_part48 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1736 v1738
  let ⟨v1795, v1797, v1799, v1812, v1813⟩ : Σ' (v1795 : Vec F S128x256 .f32) (v1797 : FVec F S1x256 .f32) (v1799 : FVec F S1x256 .f32) (v1812 : FVec F S1x256 .f32), FVec F S1x256 .f32 ← k0_part49 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1738 v1740 v1753 v1757
  k0_part50 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1795 v1797 v1812 v1813
  let ⟨v1856, v1858, v1871, v1875, v1888, v1889⟩ : Σ' (v1856 : FVec F S1x256 .f32) (v1858 : FVec F S1x256 .f32) (v1871 : FVec F S1x256 .f32) (v1875 : FVec F S1x256 .f32) (v1888 : FVec F S128x256 .f32), FVec F S128x256 .f32 ← k0_part51 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1799
  let ⟨v1916, v1919⟩ : Σ' (v1916 : Vec F S512x512 .f32), FVec F S512x1024 .bf16 ← part52H E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889
  let ⟨v1946, v1949⟩ : Σ' (v1946 : Vec F S512x512 .f32), FVec F S512x1024 .bf16 ← k0_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1916 v1919
  let ⟨v1976, v1979⟩ : Σ' (v1976 : Vec F S512x512 .f32), FVec F S512x1024 .bf16 ← k0_part54 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1946 v1949
  let ⟨v2006, v2009⟩ : Σ' (v2006 : Vec F S512x512 .f32), FVec F S512x1024 .bf16 ← k0_part55 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1976 v1979
  let v2010 : Vec F S1024x512 .bf16 ← Prog.lift (.load arg17 (Rect.unit (s := S1024x1024) ![0, 512] S1024x512.size inb_S1024x1024_S1024x512_0_512).toLoadRect (View.loadsAt_vmem h_S1024x512))
  pure (k0_pay436 v2006 v2009 v2010)
set_option maxRecDepth 65536 in

theorem part56_eq (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (arg2 : BitVec 32) (k0_h2 : k0_cond2 i = 1#1) : k0_part56 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 = part56H (accInit arg2 arg15 harg15) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 := by
  rw [k0_part56_eq_skeleton]
  unfold k0_part56_skel
  rw [part52_eq]
  rfl

set_option maxHeartbeats 8000000 in
theorem quantH_pos (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← part56H (accZero arg15 harg15) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (accZero arg15 harg15 >>= fun _ => dotPass arg3 harg3 arg15 harg15 arg17 harg17 >>= K)) := rfl

set_option maxHeartbeats 8000000 in
theorem quantH_neg (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← part56H (pure ⟨⟩) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (dotPass arg3 harg3 arg15 harg15 arg17 harg17 >>= K)) := rfl

set_option maxHeartbeats 8000000 in
theorem quant_pos (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (k0_h3 : Scalar.cmpi .ne (Scalar.extui (Scalar.cmpi .eq (BitVec.ofNat 32 (i 2).val) 0#32) : BitVec 32) 0#32 = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← k0_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (accZero arg15 harg15 >>= fun _ => dotPass arg3 harg3 arg15 harg15 arg17 harg17 >>= K)) := by
  have h := (part56_eq (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2).trans (congrArg (fun E => part56H E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2) (accInit_pos _ _ harg15 k0_h3))
  exact (congrArg (fun P => P >>= _) h).trans (quantH_pos i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 K)

set_option maxHeartbeats 8000000 in
theorem quant_neg (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (k0_h3 : ¬ Scalar.cmpi .ne (Scalar.extui (Scalar.cmpi .eq (BitVec.ofNat 32 (i 2).val) 0#32) : BitVec 32) 0#32 = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← k0_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (dotPass arg3 harg3 arg15 harg15 arg17 harg17 >>= K)) := by
  have h := (part56_eq (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2).trans (congrArg (fun E => part56H E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2) (accInit_neg _ _ harg15 k0_h3))
  exact (congrArg (fun P => P >>= _) h).trans (quantH_neg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 K)

end Cert.Kernel.Body

end
-- ==== Proof.Bits.BodyErr.lean ====
/- The printed body is its passes in sequence. -/
module

public import proofs.«01_k».proof.Proof.Bits.Chunks

@[expose] public section

set_option synthInstance.maxSize 4096
set_option maxRecDepth 65536

noncomputable section

namespace Cert.Kernel.Body

open Idealize.ShloMosaic Idealize.SL.Sem Cert.Kernel.Gen

variable {F : FTy → Type} [FloatOps F]

set_option maxHeartbeats 4000000 in
theorem errPass_eq (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (K : PUnit → Prog (TpuEff nD τ sig (Elt F) Λ₀ .tc) PUnit) :
    (do
      let ⟨v1013, v1019, v1020, v1022⟩ : Σ' (v1013 : FVec F S512x128 .f32) (v1019 : FVec F S512x128 .f32) (v1020 : Vec F S8x128 .f32), FVec F S64x8x128 .f32 ← k0_part85 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
        let v1025 : Vec F S8x128 .f32 ← Prog.lift (.load arg23 (Rect.unit (s := S8x128) ![0, 0] S8x128.size inb_S8x128_S8x128_0_0).toLoadRect (View.loadsAt_vmem h_S8x128))
      Prog.lift (.store arg23 (Rect.unit (s := S8x128) ![0, 0] S8x128.size inb_S8x128_S8x128_0_0) (k0_pay5 v1020 v1022) Finset.univ (View.stores_vmem_bits_univ h_S8x128 rfl) (.inl rfl))
      let v1030 : Vec F S512x128 .bf16 ← Prog.lift (.load arg16 (Rect.unit (s := S3072x1024) ![2560, 896] S512x128.size inb_S3072x1024_S512x128_2560_896).toLoadRect (View.loadsAt_vmem h_S512x128))
      Prog.lift (.store arg16 (Rect.unit (s := S3072x1024) ![2560, 896] S512x128.size inb_S3072x1024_S512x128_2560_896) (k0_pay6 v1013 v1019) Finset.univ (View.stores_vmem h_S512x128 (harg16.storeExact_slice rfl _ packedbf16_S3072x1024_S512x128_2560_896) (fun _ => rfl)) (.inl rfl))
      K ⟨⟩) = (errPass arg4 harg4 arg8 harg8 arg15 harg15 arg16 harg16 arg23 harg23 >>= K) := rfl

end Cert.Kernel.Body

end
-- ==== Proof.Bits.BodyBwd.lean ====
/- The printed backward pass is the pass of strips. -/
module

public import proofs.«01_k».proof.Proof.Bits.Chunks

@[expose] public section

set_option synthInstance.maxSize 4096
set_option maxRecDepth 65536

noncomputable section

namespace Cert.Kernel.Body

open Idealize.ShloMosaic Idealize.SL.Sem Cert.Kernel.Gen

variable {F : FTy → Type} [FloatOps F]

set_option maxHeartbeats 8000000 in
theorem bwd_eq (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h5 : k0_cond5 i = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let ⟨v34, v62⟩ : Σ' (v34 : FVec F S256x512 .f32), FVec F S128x512 .f32 ← k0_part86 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5
    let v97 : FVec F S1x512 .f32 ← k0_part87 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v62
    let ⟨v126, v130, v140⟩ : Σ' (v126 : FVec F S1x512 .f32) (v130 : FVec F S1x512 .f32), FVec F S1x512 .f32 ← k0_part88 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v34 v97
    let ⟨v157, v163, v166, v169, v173, v175, cst_89⟩ : Σ' (v157 : FVec F S256x512 .f32) (v163 : FVec F S1x512 .f32) (v166 : FVec F S128x512 .f32) (v169 : FVec F S128x512 .f32) (v173 : FVec F S128x512 .f32) (v175 : IVec S128x512 1), F .f32 ← k0_part89 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v126 v130 v140
    let v216 : FVec F S1x512 .f32 ← k0_part90 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v157 v163 v166 v169 v173 v175 cst_89
    let ⟨v249, v251, v253, v254, v255⟩ : Σ' (v249 : FVec F S1x512 .f32) (v251 : FVec F S1x512 .f32) (v253 : FVec F S1x512 .f32) (v254 : FVec F S1x512 .f32), FVec F S1x512 .f32 ← k0_part91 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v157 v216
    let ⟨v287, v289⟩ : Σ' (v287 : FVec F S256x512 .f32), Vec F S1x1x512 .f32 ← k0_part92 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v249 v251 v253 v254 v255
    let ⟨v319, v323, v331⟩ : Σ' (v319 : FVec F S1x512 .f32) (v323 : FVec F S1x512 .f32), FVec F S1x512 .f32 ← k0_part93 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v287 v289
    let ⟨v353, v356, v363, v368, cst_185⟩ : Σ' (v353 : FVec F S1x512 .f32) (v356 : FVec F S128x512 .f32) (v363 : FVec F S128x512 .f32) (v368 : IVec S128x512 1), F .f32 ← k0_part94 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v319 v323 v331
    k0_part95 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v287 v353 v356 v363 v368 cst_185
    let ⟨v410, v442, v444, v445⟩ : Σ' (v410 : FVec F S256x512 .f32) (v442 : FVec F S1x512 .f32) (v444 : FVec F S1x512 .f32), Vec F S1x512 .f32 ← k0_part96 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5
    let ⟨v476, v479, v482, cst_246, cst_247⟩ : Σ' (v476 : FVec F S1x512 .f32) (v479 : FVec F S128x512 .f32) (v482 : FVec F S128x512 .f32) (cst_246 : F .f32), F .f32 ← k0_part97 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v442 v444 v445
    let v523 : FVec F S1x512 .f32 ← k0_part98 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v410 v476 v479 v482 cst_246 cst_247
    let ⟨v540, v546, v549, v552, v556, v558, cst_287⟩ : Σ' (v540 : FVec F S256x512 .f32) (v546 : FVec F S1x512 .f32) (v549 : FVec F S128x512 .f32) (v552 : FVec F S128x512 .f32) (v556 : FVec F S128x512 .f32) (v558 : IVec S128x512 1), F .f32 ← k0_part99 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v523
    let v599 : FVec F S1x512 .f32 ← k0_part100 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v540 v546 v549 v552 v556 v558 cst_287
    let ⟨v632, v634, v636, v637, v638⟩ : Σ' (v632 : FVec F S1x512 .f32) (v634 : FVec F S1x512 .f32) (v636 : FVec F S1x512 .f32) (v637 : FVec F S1x512 .f32), FVec F S1x512 .f32 ← k0_part101 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v540 v599
    let ⟨v663, v669, v672, v673⟩ : Σ' (v663 : FVec F S256x512 .f32) (v669 : FVec F S1x512 .f32) (v672 : FVec F S128x512 .f32), FVec F S128x512 .f32 ← k0_part102 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v632 v634 v636 v637 v638
    let ⟨v699, v713, cst_365⟩ : Σ' (v699 : FVec F S1x512 .f32) (v713 : FVec F S1x512 .f32), F .f32 ← k0_part103 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v663 v669 v672 v673
    let ⟨v753, v754⟩ : Σ' (v753 : FVec F S1x512 .f32), FVec F S1x512 .f32 ← k0_part104 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v663 v699 v713 cst_365
    k0_part105 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v753 v754
    let ⟨v793, v825, v827, v828⟩ : Σ' (v793 : FVec F S256x512 .f32) (v825 : FVec F S1x512 .f32) (v827 : FVec F S1x512 .f32), Vec F S1x512 .f32 ← k0_part106 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5
    let ⟨v859, v862, v865, cst_442, cst_443⟩ : Σ' (v859 : FVec F S1x512 .f32) (v862 : FVec F S128x512 .f32) (v865 : FVec F S128x512 .f32) (cst_442 : F .f32), F .f32 ← k0_part107 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v825 v827 v828
    let v906 : FVec F S1x512 .f32 ← k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v793 v859 v862 v865 cst_442 cst_443
    let ⟨v916, v944⟩ : Σ' (v916 : FVec F S256x512 .f32), FVec F S128x512 .f32 ← k0_part109 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v906
    let v979 : FVec F S1x512 .f32 ← k0_part110 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v944
    let ⟨v1008, v1012, v1022⟩ : Σ' (v1008 : FVec F S1x512 .f32) (v1012 : FVec F S1x512 .f32), FVec F S1x512 .f32 ← k0_part111 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v916 v979
    let v1023 : Vec F S1x512 .f32 ← Prog.lift (.load arg9 (Rect.unit (s := S8x1024) ![7, 512] S1x512.size inb_S8x1024_S1x512_7_512).toLoadRect (View.loadsAt_vmem h_S1x512))
    Prog.lift (.store arg9 (Rect.unit (s := S8x1024) ![7, 512] S1x512.size inb_S8x1024_S1x512_7_512) v1022 Finset.univ (View.stores_vmem_bits_univ h_S1x512 rfl) (.inl rfl))
    let v1031 : Vec F S1x1x512 .f32 ← Prog.lift (.load arg22 (Rect.unit (s := S18x8x1024) (k0_off48 i) S1x1x512.size (k0_off48_inb i k0_h5)).toLoadRect (View.loadsAt_vmem h_S1x1x512))
    let v1036 : Vec F S1x512 .f32 ← Prog.lift (.load arg10 (Rect.unit (s := S8x1024) ![7, 512] S1x512.size inb_S8x1024_S1x512_7_512).toLoadRect (View.loadsAt_vmem h_S1x512))
    Prog.lift (.store arg10 (Rect.unit (s := S8x1024) ![7, 512] S1x512.size inb_S8x1024_S1x512_7_512) (k0_pay7 v1008 v1012 v1031) Finset.univ (View.stores_vmem_bits_univ h_S1x512 rfl) (.inl rfl))
    K ⟨⟩) = (bwdPass i arg3 harg3 arg5 harg5 arg6 harg6 arg7 harg7 arg9 harg9 arg10 harg10 arg19 harg19 arg20 harg20 arg21 harg21 arg22 harg22 arg16 harg16 arg18 harg18 >>= K) := rfl

end Cert.Kernel.Body

end
-- ==== Proof.Bits.BodyCases.lean ====
/- The printed body in each of its six cases. -/
module

public import proofs.«01_k».proof.Proof.Bits.Kit
public import proofs.«01_k».proof.Proof.Bits.Chunks
public import proofs.«01_k».proof.Proof.Bits.BodyQuant
public import proofs.«01_k».proof.Proof.Bits.BodyErr
public import proofs.«01_k».proof.Proof.Bits.BodyBwd

@[expose] public section

set_option synthInstance.maxSize 4096
set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 8000000 in
theorem body_A (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : cond0_0 i) (hc1 : cond0_1 i) (hc2 : cond0_2 i) (hc3 : ¬ cond0_3 i) (hc4 : ¬ cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (laccZero arg23 harg23 >>= fun _ => quantPass i arg5 harg5 arg6 harg6 arg7 harg7 arg12 harg12 arg13 harg13 arg14 harg14 arg17 harg17 arg19 harg19 arg20 harg20 arg21 harg21 arg22 harg22 >>= fun _ => accZero arg15 harg15 >>= fun _ => dotPass arg3 harg3 arg15 harg15 arg17 harg17 >>= fun _ => pure ⟨⟩) := by
  rw [cc0_lwc_backward_eq_skeleton]
  unfold cc0_lwc_backward_skel
  simp only [dif_pos hc0, dif_pos hc1, dif_neg hc3, dif_neg hc4, dif_neg hc5]
  exact congrArg (fun P => laccZero arg23 harg23 >>= fun _ => P) (quant_pos i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 (fun _ => pure ⟨⟩))

set_option maxHeartbeats 8000000 in
theorem body_B (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : cond0_1 i) (hc2 : ¬ cond0_2 i) (hc3 : ¬ cond0_3 i) (hc4 : ¬ cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (quantPass i arg5 harg5 arg6 harg6 arg7 harg7 arg12 harg12 arg13 harg13 arg14 harg14 arg17 harg17 arg19 harg19 arg20 harg20 arg21 harg21 arg22 harg22 >>= fun _ => dotPass arg3 harg3 arg15 harg15 arg17 harg17 >>= fun _ => pure ⟨⟩) := by
  rw [cc0_lwc_backward_eq_skeleton]
  unfold cc0_lwc_backward_skel
  simp only [dif_neg hc0, dif_pos hc1, dif_neg hc3, dif_neg hc4, dif_neg hc5]
  exact quant_neg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 (fun _ => pure ⟨⟩)

set_option maxHeartbeats 8000000 in
theorem body_E (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : cond0_1 i) (hc2 : cond0_2 i) (hc3 : ¬ cond0_3 i) (hc4 : ¬ cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (quantPass i arg5 harg5 arg6 harg6 arg7 harg7 arg12 harg12 arg13 harg13 arg14 harg14 arg17 harg17 arg19 harg19 arg20 harg20 arg21 harg21 arg22 harg22 >>= fun _ => accZero arg15 harg15 >>= fun _ => dotPass arg3 harg3 arg15 harg15 arg17 harg17 >>= fun _ => pure ⟨⟩) := by
  rw [cc0_lwc_backward_eq_skeleton]
  unfold cc0_lwc_backward_skel
  simp only [dif_neg hc0, dif_pos hc1, dif_neg hc3, dif_neg hc4, dif_neg hc5]
  exact quant_pos i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 (fun _ => pure ⟨⟩)

set_option maxHeartbeats 8000000 in
theorem body_C (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : ¬ cond0_1 i) (hc3 : cond0_3 i) (hc4 : cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (errPass arg4 harg4 arg8 harg8 arg15 harg15 arg16 harg16 arg23 harg23 >>= fun _ => bwdPass i arg3 harg3 arg5 harg5 arg6 harg6 arg7 harg7 arg9 harg9 arg10 harg10 arg19 harg19 arg20 harg20 arg21 harg21 arg22 harg22 arg16 harg16 arg18 harg18 >>= fun _ => pure ⟨⟩) := by
  rw [cc0_lwc_backward_eq_skeleton]
  unfold cc0_lwc_backward_skel
  simp only [dif_neg hc0, dif_neg hc1, dif_pos hc3, dif_pos hc4, dif_neg hc5]
  exact (errPass_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun _ => _)).trans (congrArg (fun P => errPass arg4 harg4 arg8 harg8 arg15 harg15 arg16 harg16 arg23 harg23 >>= fun _ => P) (bwd_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc4 (fun _ => pure ⟨⟩)))

set_option maxHeartbeats 8000000 in
theorem body_D (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : ¬ cond0_1 i) (hc3 : ¬ cond0_3 i) (hc4 : cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (bwdPass i arg3 harg3 arg5 harg5 arg6 harg6 arg7 harg7 arg9 harg9 arg10 harg10 arg19 harg19 arg20 harg20 arg21 harg21 arg22 harg22 arg16 harg16 arg18 harg18 >>= fun _ => pure ⟨⟩) := by
  rw [cc0_lwc_backward_eq_skeleton]
  unfold cc0_lwc_backward_skel
  simp only [dif_neg hc0, dif_neg hc1, dif_neg hc3, dif_pos hc4, dif_neg hc5]
  exact bwd_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc4 (fun _ => pure ⟨⟩)

set_option maxHeartbeats 8000000 in
theorem body_F (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : ¬ cond0_1 i) (hc3 : ¬ cond0_3 i) (hc4 : cond0_4 i) (hc5 : cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (bwdPass i arg3 harg3 arg5 harg5 arg6 harg6 arg7 harg7 arg9 harg9 arg10 harg10 arg19 harg19 arg20 harg20 arg21 harg21 arg22 harg22 arg16 harg16 arg18 harg18 >>= fun _ => lossStore arg11 harg11 arg23 harg23) := by
  rw [cc0_lwc_backward_eq_skeleton]
  unfold cc0_lwc_backward_skel
  simp only [dif_neg hc0, dif_neg hc1, dif_neg hc3, dif_pos hc4, dif_pos hc5]
  exact bwd_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc4 (fun _ => lossStore arg11 harg11 arg23 harg23)

end Cert.Kernel.Body

end
-- ==== Proof.Bits.BodyWp.lean ====
/- The body's whole step on the memrefs' contents, in each of its cases. -/
module

public import proofs.«01_k».proof.Proof.Bits.Steps
public import proofs.«01_k».proof.Proof.Bits.BodyCases

@[expose] public section

set_option synthInstance.maxSize 4096
set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Apply a chunk's step at `i`, `i + 1`, …, `k` times. -/
def iter {N : ℕ} [NeZero N] (f : Fin N → St F → St F) : ℕ → ℕ → St F → St F
  | 0, _, s => s
  | k + 1, i, s => iter f k (i + 1) (f (Fin.ofNat N i) s)

/-- A program that takes the memrefs from the contents `s` to the contents `s'`. -/
def Does (c : Dev nD) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (P : Prog (TpuEff nD τ sig (Elt F) Λ₀ .tc) PUnit) (s s' : St F) : Prop :=
  ∀ (E : Set ℕ) (K : PUnit → sProp 𝕄), iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 s' -∗ K ⟨⟩)) ⊢ wp frame (wpE (defs₀ (F := F)) Variants.none c none) E P K

section

variable (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)

local notation "DO" => Does (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23

theorem does_seq {P Q : Prog (TpuEff nD τ sig (Elt F) Λ₀ .tc) PUnit} {s s' s'' : St F} (h : DO P s s') (h' : DO Q s' s'') : DO (P >>= fun _ => Q) s s'' := fun E K => by
  rw [wp_bind]
  refine .trans ?_ (h E (fun _ => wp frame (wpE (defs₀ (F := F)) Variants.none c none) E Q K))
  iintro ⟨H, Hk⟩
  isplitl [H]
  · iexact H
  · iintro H'
    iapply (h' E K)
    isplitl [H']
    · iexact H'
    · iexact Hk

theorem does_pure (s : St F) : DO (pure ⟨⟩) s s := fun E K => by
  iintro ⟨H, Hk⟩
  sl_step
  iapply Hk
  iexact H

theorem does_loop {N : ℕ} [NeZero N] {f : Fin N → Prog (TpuEff nD τ sig (Elt F) Λ₀ .tc) PUnit} {g : Fin N → St F → St F} (h : ∀ n s, DO (f n) s (g n s)) :
    ∀ (k j : ℕ) (s : St F), DO (loop f k j) s (iter g k j s)
  | 0, _, s => does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s
  | k + 1, j, s => does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (h _ s) (does_loop h k (j + 1) _)

include i

theorem quant_does (s : St F) : DO (quantPass i arg5 harg5 arg6 harg6 arg7 harg7 arg12 harg12 arg13 harg13 arg14 harg14 arg17 harg17 arg19 harg19 arg20 harg20 arg21 harg21 arg22 harg22) s (iter (quantStep i) 32 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun n s E K => quantChunk_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n s E K) 32 0 s
theorem dot_does (s : St F) : DO (dotPass arg3 harg3 arg15 harg15 arg17 harg17) s (iter dotStep 12 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun n s E K => dotTile_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n s E K) 12 0 s
theorem err_does (s : St F) : DO (errPass arg4 harg4 arg8 harg8 arg15 harg15 arg16 harg16 arg23 harg23) s (iter errStep 48 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun n s E K => errChunk_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n s E K) 48 0 s
theorem bwd_does (s : St F) : DO (bwdPass i arg3 harg3 arg5 harg5 arg6 harg6 arg7 harg7 arg9 harg9 arg10 harg10 arg19 harg19 arg20 harg20 arg21 harg21 arg22 harg22 arg16 harg16 arg18 harg18) s (iter (bwdStripStep i) 4 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun d s => does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => bwdXt_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 d s E K)
    (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => bwdHalf_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 d 0 _ E K) (fun E K => bwdHalf_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 d 1 _ E K))) 4 0 s

theorem does_A (hc0 : cond0_0 i) (hc1 : cond0_1 i) (hc2 : cond0_2 i) (hc3 : ¬ cond0_3 i) (hc4 : ¬ cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter dotStep 12 0 (accZeroStep (iter (quantStep i) 32 0 (laccZeroStep s)))) := by
  rw [body_A i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => laccZero_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s E K) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (quant_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)
    (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => accZero_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ E K) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (dot_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _))))
theorem does_B (hc0 : ¬ cond0_0 i) (hc1 : cond0_1 i) (hc2 : ¬ cond0_2 i) (hc3 : ¬ cond0_3 i) (hc4 : ¬ cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter dotStep 12 0 (iter (quantStep i) 32 0 s)) := by
  rw [body_B i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (quant_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (dot_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _))
theorem does_E (hc0 : ¬ cond0_0 i) (hc1 : cond0_1 i) (hc2 : cond0_2 i) (hc3 : ¬ cond0_3 i) (hc4 : ¬ cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter dotStep 12 0 (accZeroStep (iter (quantStep i) 32 0 s))) := by
  rw [body_E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (quant_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)
    (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => accZero_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ E K) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (dot_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)))
theorem does_C (hc0 : ¬ cond0_0 i) (hc1 : ¬ cond0_1 i) (hc3 : cond0_3 i) (hc4 : cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter (bwdStripStep i) 4 0 (iter errStep 48 0 s)) := by
  rw [body_C i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (err_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (bwd_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _))
theorem does_D (hc0 : ¬ cond0_0 i) (hc1 : ¬ cond0_1 i) (hc3 : ¬ cond0_3 i) (hc4 : cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter (bwdStripStep i) 4 0 s) := by
  rw [body_D i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (bwd_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)
theorem does_F (hc0 : ¬ cond0_0 i) (hc1 : ¬ cond0_1 i) (hc3 : ¬ cond0_3 i) (hc4 : cond0_4 i) (hc5 : cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (lossStep (iter (bwdStripStep i) 4 0 s)) := by
  rw [body_F i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (bwd_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (fun E K => lossStore_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ E K)

end

end Cert.Kernel.Body

end
-- ==== Proof.Bits.Point.lean ====
/- What one grid point does, as a function of what the memrefs hold. -/
module

public import proofs.«01_k».proof.Proof.Bits.BodyWp

@[expose] public section

set_option synthInstance.maxSize 4096
set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- What a point of the first phase does: the accumulators are set to zero where `z0` and `z2` say so. -/
def fwd (i : grid0.Coords) (z0 z2 : Bool) (s : St F) : St F :=
  iter dotStep 12 0 (bif z2 then accZeroStep (iter (quantStep i) 32 0 (bif z0 then laccZeroStep s else s))
    else iter (quantStep i) 32 0 (bif z0 then laccZeroStep s else s))

/-- What a point of the second phase does: the error's pass is run where `e3`, the loss is stored where `e5`. -/
def bwd (i : grid0.Coords) (e3 e5 : Bool) (s : St F) : St F :=
  bif e5 then lossStep (iter (bwdStripStep i) 4 0 (bif e3 then iter errStep 48 0 s else s))
  else iter (bwdStripStep i) 4 0 (bif e3 then iter errStep 48 0 s else s)

/-- What point `t` does. -/
def pstep (t : Fin cfg0.N) (s : St F) : St F :=
  if t.val / 18 % 2 = 0 then fwd (grid0.coords t) (decide (t.val = 0)) (decide (t.val % 18 = 0)) s
  else bwd (grid0.coords t) (decide (t.val % 36 = 18)) (decide (t.val = 251)) s

theorem iter_keep {β : Type} (p : St F → β) {N : ℕ} [NeZero N] {f : Fin N → St F → St F} (h : ∀ n s, p (f n s) = p s) :
    ∀ (k j : ℕ) (s : St F), p (iter f k j s) = p s
  | 0, _, _ => rfl
  | k + 1, j, s => (iter_keep p h k (j + 1) _).trans (h _ s)

/-- The input windows' contents. -/
def ins (s : St F) := (s.a3, s.a4, s.a5, s.a6, s.a7, s.a8)

theorem ins_quant (i : grid0.Coords) (n : Fin 32) (s : St F) : ins (quantStep i n s) = ins s := rfl
theorem ins_dot (n : Fin 12) (s : St F) : ins (dotStep n s) = ins s := rfl
theorem ins_err (n : Fin 48) (s : St F) : ins (errStep n s) = ins s := rfl
theorem ins_group (i : grid0.Coords) (d : Fin 4) (j g : Fin 2) (G : FVec F S256x512 .f32) (s : St F) : ins (bwdGroupStep i d j g G s) = ins s := rfl
theorem ins_half (i : grid0.Coords) (d : Fin 4) (j : Fin 2) (s : St F) : ins (bwdHalfStep i d j s) = ins s := (ins_group i d j 1 _ _).trans (ins_group i d j 0 _ _)
theorem ins_xt (d : Fin 4) (s : St F) : ins (bwdXtStep d s) = ins s := rfl
theorem ins_bwd (i : grid0.Coords) (n : Fin 4) (s : St F) : ins (bwdStripStep i n s) = ins s := by
  unfold bwdStripStep; rw [ins_half, ins_half, ins_xt]

/-- A point leaves the input windows as they are. -/
theorem ins_pstep (t : Fin cfg0.N) (s : St F) : ins (pstep t s) = ins s := by
  have e1 := fun (i : grid0.Coords) (s : St F) => iter_keep ins (ins_quant i) 32 0 s
  have e2 := fun (s : St F) => iter_keep ins ins_dot 12 0 s
  have e3 := fun (s : St F) => iter_keep ins ins_err 48 0 s
  have e4 := fun (i : grid0.Coords) (s : St F) => iter_keep ins (ins_bwd i) 4 0 s
  have e5 : ∀ s : St F, ins (accZeroStep s) = ins s := fun _ => rfl
  have e6 : ∀ s : St F, ins (laccZeroStep s) = ins s := fun _ => rfl
  have e7 : ∀ s : St F, ins (lossStep s) = ins s := fun _ => rfl
  unfold pstep
  split
  · unfold fwd; rw [e2]
    cases decide (t.val % 18 = 0) <;> cases decide (t.val = 0) <;> simp only [cond_true, cond_false, e1, e5, e6]
  · unfold bwd
    cases decide (t.val = 251) <;> cases decide (t.val % 36 = 18) <;> simp only [cond_true, cond_false, e3, e4, e7]

section

variable (c : Dev nD) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)

local notation "DO" => Does (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23

/-- The body at point `t` does `pstep t`. -/
theorem does_pstep (t : Fin cfg0.N) (s : St F) : DO (cc0_lwc_backward (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (pstep t s) := by
  have ht : t.val < 252 := Nat.lt_of_lt_of_eq t.isLt N_0
  have h0 := hcond0_0 t; have h1 := hcond0_1 t; have h2 := hcond0_2 t; have h3 := hcond0_3 t; have h4 := hcond0_4 t; have h5 := hcond0_5 t
  unfold pstep
  split
  · next hp =>
    have n3 : ¬ cond0_3 (grid0.coords t) := fun h => by have := h3.mp h; omega
    have n4 : ¬ cond0_4 (grid0.coords t) := fun h => by have := h4.mp h; omega
    have n5 : ¬ cond0_5 (grid0.coords t) := fun h => by have := h5.mp h; omega
    unfold fwd
    by_cases hk : t.val % 18 = 0
    · by_cases hz : t.val = 0
      · rw [decide_eq_true hk, decide_eq_true hz]
        exact does_A c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (h0.mpr (by omega)) (h1.mpr hp) (h2.mpr hk) n3 n4 n5 s
      · rw [decide_eq_true hk, decide_eq_false hz]
        exact does_E c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun h => by have := h0.mp h; omega) (h1.mpr hp) (h2.mpr hk) n3 n4 n5 s
    · rw [decide_eq_false hk, decide_eq_false (fun h => by omega : ¬ t.val = 0)]
      exact does_B c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun h => by have := h0.mp h; omega) (h1.mpr hp) (fun h => hk (h2.mp h)) n3 n4 n5 s
  · next hp =>
    have n0 : ¬ cond0_0 (grid0.coords t) := fun h => by have := h0.mp h; omega
    have n1 : ¬ cond0_1 (grid0.coords t) := fun h => hp (h1.mp h)
    have n4 : cond0_4 (grid0.coords t) := h4.mpr (by omega)
    unfold bwd
    by_cases hl : t.val = 251
    · rw [decide_eq_true hl, decide_eq_false (fun h => by omega : ¬ t.val % 36 = 18)]
      exact does_F c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n0 n1 (fun h => by have := h3.mp h; omega) n4 (h5.mpr (by omega)) s
    · have n5 : ¬ cond0_5 (grid0.coords t) := fun h => by have := h5.mp h; omega
      by_cases he : t.val % 36 = 18
      · rw [decide_eq_false hl, decide_eq_true he]
        exact does_C c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n0 n1 (h3.mpr he) n4 n5 s
      · rw [decide_eq_false hl, decide_eq_false he]
        exact does_D c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n0 n1 (fun h => he (h3.mp h)) n4 n5 s

end

end Cert.Kernel.Body

end
-- ==== Proof.Bits.Launch.lean ====
/- The run of the program with what the body leaves in the outputs' windows held to a predicate. -/
module

public import proofs.«01_k».proof.Proof.Bits.Point
public import Idealize.ShloMosaic.Lib.Pipeline.DatRel
public import Idealize.ShloMosaic.Lib.Pipeline.ArrRel

@[expose] public section

set_option synthInstance.maxSize 4096
set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Predicates of the scratch memrefs' contents before a point. -/
abbrev ScrP (F : FTy → Type) := Vec F S3072x1024 .f32 → Vec F S3072x1024 .bf16 → Vec F S1024x1024 .bf16 → Vec F S256x3072 .bf16 → Vec F S18x8x1024 .f32 → Vec F S18x8x1024 .f32 → Vec F S18x8x1024 .f32 → Vec F S18x8x1024 .f32 → Vec F S8x128 .f32 → Prop

/-- Predicates of what the body leaves in a window at a point. -/
abbrev WinP (F : FTy → Type) := (w : Fin cfg0.W) → Fin cfg0.N → ((cfg0.win w).block.Idx → Elt F (cfg0.win w).elt) → Prop

/-- The scratch memrefs' predicate of a state. -/
abbrev ScrP.of (J : ScrP F) (s : St F) : Prop := J s.a15 s.a16 s.a17 s.a18 s.a19 s.a20 s.a21 s.a22 s.a23

variable (m : (ℓ : Loc nD τ sig) → Buf (Elt F) ℓ) (ρ : Dev nD → PrngReg)
variable (J : Dev nD → ℕ → ScrP F) (Rl : Dev nD → WinP F)

/-- The scratch memrefs at contents that meet `J c t`, and the generator register. -/
def scr (c : Dev nD) (t : ℕ) : sProp 𝕄 :=
  iprop((∃ d15 d16 d17 d18 d19 d20 d21 d22 d23, ⌜J c t d15 d16 d17 d18 d19 d20 d21 d22 d23⌝ ∗ owns (c : Thread nD τ) scM0_0 fullShare d15 ∗ owns (c : Thread nD τ) scM0_1 fullShare d16 ∗ owns (c : Thread nD τ) scM0_2 fullShare d17 ∗ owns (c : Thread nD τ) scM0_3 fullShare d18 ∗ owns (c : Thread nD τ) scM0_4 fullShare d19 ∗ owns (c : Thread nD τ) scM0_5 fullShare d20 ∗ owns (c : Thread nD τ) scM0_6 fullShare d21 ∗ owns (c : Thread nD τ) scM0_7 fullShare d22 ∗ owns (c : Thread nD τ) scM0_8 fullShare d23) ∗ (∃ r, prngReg c r))

/-- The proof data: the arrays as the region finds them, the inputs' blocks in their windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := scr J c t.val
  q _ := fullShare
  owed _ := 0

theorem A_eq (c : Dev nD) (w : Fin cfg0.W) : (dats m J 0 c).A w = V m c (Pipeline.arrRef spec0 w) := by
  dsimp only [dats]
theorem after0_0 (c : Dev nD) (t : Fin cfg0.N) : (dats m J 0 c).after 0 t = iblk m c 0 t := by dsimp only [dats]
theorem after0_1 (c : Dev nD) (t : Fin cfg0.N) : (dats m J 0 c).after 1 t = iblk m c 1 t := by dsimp only [dats]
theorem after0_2 (c : Dev nD) (t : Fin cfg0.N) : (dats m J 0 c).after 2 t = iblk m c 2 t := by dsimp only [dats]
theorem after0_3 (c : Dev nD) (t : Fin cfg0.N) : (dats m J 0 c).after 3 t = iblk m c 3 t := by dsimp only [dats]
theorem after0_4 (c : Dev nD) (t : Fin cfg0.N) : (dats m J 0 c).after 4 t = iblk m c 4 t := by dsimp only [dats]
theorem after0_5 (c : Dev nD) (t : Fin cfg0.N) : (dats m J 0 c).after 5 t = iblk m c 5 t := by dsimp only [dats]
theorem before0_0 (c : Dev nD) (t : Fin cfg0.N) (d) : (dats m J 0 c).before 0 t d = iblk m c 0 t :=
  before0_0_of m (dats m J 0 c) (A_eq m J c 0) (after0_0 m J c) t d
theorem before0_1 (c : Dev nD) (t : Fin cfg0.N) (d) : (dats m J 0 c).before 1 t d = iblk m c 1 t :=
  before0_1_of m (dats m J 0 c) (A_eq m J c 1) (after0_1 m J c) t d
theorem before0_2 (c : Dev nD) (t : Fin cfg0.N) (d) : (dats m J 0 c).before 2 t d = iblk m c 2 t :=
  before0_2_of m (dats m J 0 c) (A_eq m J c 2) (after0_2 m J c) t d
theorem before0_3 (c : Dev nD) (t : Fin cfg0.N) (d) : (dats m J 0 c).before 3 t d = iblk m c 3 t :=
  before0_3_of m (dats m J 0 c) (A_eq m J c 3) (after0_3 m J c) t d
theorem before0_4 (c : Dev nD) (t : Fin cfg0.N) (d) : (dats m J 0 c).before 4 t d = iblk m c 4 t :=
  before0_4_of m (dats m J 0 c) (A_eq m J c 4) (after0_4 m J c) t d
theorem before0_5 (c : Dev nD) (t : Fin cfg0.N) (d) : (dats m J 0 c).before 5 t d = iblk m c 5 t :=
  before0_5_of m (dats m J 0 c) (A_eq m J c 5) (after0_5 m J c) t d

/-- The outputs' windows. -/
def outW (w : Fin cfg0.W) : Bool := decide (6 ≤ w.val)

/-- The data with the outputs' windows held to `Rl`. -/
abbrev rdat (c : Dev nD) : Pipeline.RDat τ (Elt F) Unit ℕ (UR sig nD τ) ℕ cfg0 c := (dats m J 0 c).toRRel outW (Rl c)

/-- What is to be shown of a point: from its input blocks, the scratch memrefs' predicate and what the windows may hold, its step
    meets the next predicate and leaves the outputs' windows as `Rl` says. -/
def Steps : Prop := ∀ (c : Dev nD) (t : Fin cfg0.N) (s : St F),
  s.a3 = iblk m c 0 t → s.a4 = iblk m c 1 t → s.a5 = iblk m c 2 t → s.a6 = iblk m c 3 t → s.a7 = iblk m c 4 t → s.a8 = iblk m c 5 t → (J c t.val).of s →
  (rdat m J Rl c).Finds 9 t s.a12 → (rdat m J Rl c).Finds 10 t s.a13 → (rdat m J Rl c).Finds 11 t s.a14 →
  (J c (t.val + 1)).of (pstep t s) ∧ Rl c 6 t (pstep t s).a9 ∧ Rl c 7 t (pstep t s).a10 ∧ Rl c 8 t (pstep t s).a11 ∧ Rl c 9 t (pstep t s).a12 ∧ Rl c 10 t (pstep t s).a13 ∧ Rl c 11 t (pstep t s).a14

/-- The body table's row at a point's slots is the body. -/
theorem defs₀_row (t : Fin cfg0.N) : defs₀ (F := F) .tc cfg0.body (cfg0.bodyArgs t (cfg0.slots t)) = bodyAt0 t := by
  unfold defs₀; rw [Defs.onTc_tc]

variable {m J Rl}

theorem finds_in (c : Dev nD) (t : Fin cfg0.N) (Y : (w : Fin cfg0.W) → (cfg0.win w).block.Idx → Elt F (cfg0.win w).elt) (hY : ∀ w, (rdat m J Rl c).Finds w t (Y w)) :
    Y 0 = iblk m c 0 t ∧ Y 1 = iblk m c 1 t ∧ Y 2 = iblk m c 2 t ∧ Y 3 = iblk m c 3 t ∧ Y 4 = iblk m c 4 t ∧ Y 5 = iblk m c 5 t := by
  refine ⟨?_, ?_, ?_, ?_, ?_, ?_⟩
  · obtain ⟨d, hd⟩ := (dats m J 0 c).toRRel_finds (w := 0) rfl t (Y 0) (hY 0)
    exact hd.trans (before0_0 m J c t d)
  · obtain ⟨d, hd⟩ := (dats m J 0 c).toRRel_finds (w := 1) rfl t (Y 1) (hY 1)
    exact hd.trans (before0_1 m J c t d)
  · obtain ⟨d, hd⟩ := (dats m J 0 c).toRRel_finds (w := 2) rfl t (Y 2) (hY 2)
    exact hd.trans (before0_2 m J c t d)
  · obtain ⟨d, hd⟩ := (dats m J 0 c).toRRel_finds (w := 3) rfl t (Y 3) (hY 3)
    exact hd.trans (before0_3 m J c t d)
  · obtain ⟨d, hd⟩ := (dats m J 0 c).toRRel_finds (w := 4) rfl t (Y 4) (hY 4)
    exact hd.trans (before0_4 m J c t d)
  · obtain ⟨d, hd⟩ := (dats m J 0 c).toRRel_finds (w := 5) rfl t (Y 5) (hY 5)
    exact hd.trans (before0_5 m J c t d)
theorem after_in0 (c : Dev nD) (t : Fin cfg0.N) (Y X : (cfg0.win 0).block.Idx → Elt F (cfg0.win 0).elt) (h : X = iblk m c 0 t) : (rdat m J Rl c).after 0 t Y X := by
  rw [Dat.toRRel_after_of_eq_false _ (w := 0) rfl]
  exact (Dat.Leaves.live_iff _ (.inl (liveAt0_0 t))).mpr (h.trans (after0_0 m J c t).symm)
theorem after_in1 (c : Dev nD) (t : Fin cfg0.N) (Y X : (cfg0.win 1).block.Idx → Elt F (cfg0.win 1).elt) (h : X = iblk m c 1 t) : (rdat m J Rl c).after 1 t Y X := by
  rw [Dat.toRRel_after_of_eq_false _ (w := 1) rfl]
  exact (Dat.Leaves.live_iff _ (.inl (liveAt0_1 t))).mpr (h.trans (after0_1 m J c t).symm)
theorem after_in2 (c : Dev nD) (t : Fin cfg0.N) (Y X : (cfg0.win 2).block.Idx → Elt F (cfg0.win 2).elt) (h : X = iblk m c 2 t) : (rdat m J Rl c).after 2 t Y X := by
  rw [Dat.toRRel_after_of_eq_false _ (w := 2) rfl]
  exact (Dat.Leaves.live_iff _ (.inl (liveAt0_2 t))).mpr (h.trans (after0_2 m J c t).symm)
theorem after_in3 (c : Dev nD) (t : Fin cfg0.N) (Y X : (cfg0.win 3).block.Idx → Elt F (cfg0.win 3).elt) (h : X = iblk m c 3 t) : (rdat m J Rl c).after 3 t Y X := by
  rw [Dat.toRRel_after_of_eq_false _ (w := 3) rfl]
  exact (Dat.Leaves.live_iff _ (.inl (liveAt0_3 t))).mpr (h.trans (after0_3 m J c t).symm)
theorem after_in4 (c : Dev nD) (t : Fin cfg0.N) (Y X : (cfg0.win 4).block.Idx → Elt F (cfg0.win 4).elt) (h : X = iblk m c 4 t) : (rdat m J Rl c).after 4 t Y X := by
  rw [Dat.toRRel_after_of_eq_false _ (w := 4) rfl]
  exact (Dat.Leaves.live_iff _ (.inl (liveAt0_4 t))).mpr (h.trans (after0_4 m J c t).symm)
theorem after_in5 (c : Dev nD) (t : Fin cfg0.N) (Y X : (cfg0.win 5).block.Idx → Elt F (cfg0.win 5).elt) (h : X = iblk m c 5 t) : (rdat m J Rl c).after 5 t Y X := by
  rw [Dat.toRRel_after_of_eq_false _ (w := 5) rfl]
  exact (Dat.Leaves.live_iff _ (.inl (liveAt0_5 t))).mpr (h.trans (after0_5 m J c t).symm)
theorem after_out6 (c : Dev nD) (t : Fin cfg0.N) (Y X : (cfg0.win 6).block.Idx → Elt F (cfg0.win 6).elt) (h : Rl c 6 t X) : (rdat m J Rl c).after 6 t Y X := by
  rw [Dat.toRRel_after_of_eq_true _ (w := 6) rfl]
  exact h
theorem after_out7 (c : Dev nD) (t : Fin cfg0.N) (Y X : (cfg0.win 7).block.Idx → Elt F (cfg0.win 7).elt) (h : Rl c 7 t X) : (rdat m J Rl c).after 7 t Y X := by
  rw [Dat.toRRel_after_of_eq_true _ (w := 7) rfl]
  exact h
theorem after_out8 (c : Dev nD) (t : Fin cfg0.N) (Y X : (cfg0.win 8).block.Idx → Elt F (cfg0.win 8).elt) (h : Rl c 8 t X) : (rdat m J Rl c).after 8 t Y X := by
  rw [Dat.toRRel_after_of_eq_true _ (w := 8) rfl]
  exact h
theorem after_out9 (c : Dev nD) (t : Fin cfg0.N) (Y X : (cfg0.win 9).block.Idx → Elt F (cfg0.win 9).elt) (h : Rl c 9 t X) : (rdat m J Rl c).after 9 t Y X := by
  rw [Dat.toRRel_after_of_eq_true _ (w := 9) rfl]
  exact h
theorem after_out10 (c : Dev nD) (t : Fin cfg0.N) (Y X : (cfg0.win 10).block.Idx → Elt F (cfg0.win 10).elt) (h : Rl c 10 t X) : (rdat m J Rl c).after 10 t Y X := by
  rw [Dat.toRRel_after_of_eq_true _ (w := 10) rfl]
  exact h
theorem after_out11 (c : Dev nD) (t : Fin cfg0.N) (Y X : (cfg0.win 11).block.Idx → Elt F (cfg0.win 11).elt) (h : Rl c 11 t X) : (rdat m J Rl c).after 11 t Y X := by
  rw [Dat.toRRel_after_of_eq_true _ (w := 11) rfl]
  exact h

set_option maxHeartbeats 4000000 in
theorem body_obligation (H : Steps m J Rl) (c : Dev nD) : (rdat m J Rl c).BodyObligation (defs₀ (F := F)) Variants.none () Set.univ := fun t Y hY => by
  obtain ⟨y0, y1, y2, y3, y4, y5⟩ := finds_in c t Y hY
  rw [bigSep_W0, bigSep_W0, defs₀_row]
  show iprop(scr J c t.val ∗ (rdat m J Rl c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10) ∗ owns (c : Thread nD τ) (ms0_11 t) fullShare (Y 11))
    ⊢ wp frame (wpE (defs₀ (F := F)) Variants.none c none) Set.univ (bodyAt0 t) fun _ => iprop(scr J c (t.val + 1) ∗ (rdat m J Rl c).owesAt () t.castSucc ∗ (∃ X, ⌜(rdat m J Rl c).after 0 t (Y 0) X⌝ ∗ owns (c : Thread nD τ) (ms0_0 t) fullShare X) ∗ (∃ X, ⌜(rdat m J Rl c).after 1 t (Y 1) X⌝ ∗ owns (c : Thread nD τ) (ms0_1 t) fullShare X) ∗ (∃ X, ⌜(rdat m J Rl c).after 2 t (Y 2) X⌝ ∗ owns (c : Thread nD τ) (ms0_2 t) fullShare X) ∗ (∃ X, ⌜(rdat m J Rl c).after 3 t (Y 3) X⌝ ∗ owns (c : Thread nD τ) (ms0_3 t) fullShare X) ∗ (∃ X, ⌜(rdat m J Rl c).after 4 t (Y 4) X⌝ ∗ owns (c : Thread nD τ) (ms0_4 t) fullShare X) ∗ (∃ X, ⌜(rdat m J Rl c).after 5 t (Y 5) X⌝ ∗ owns (c : Thread nD τ) (ms0_5 t) fullShare X) ∗ (∃ X, ⌜(rdat m J Rl c).after 6 t (Y 6) X⌝ ∗ owns (c : Thread nD τ) (ms0_6 t) fullShare X) ∗ (∃ X, ⌜(rdat m J Rl c).after 7 t (Y 7) X⌝ ∗ owns (c : Thread nD τ) (ms0_7 t) fullShare X) ∗ (∃ X, ⌜(rdat m J Rl c).after 8 t (Y 8) X⌝ ∗ owns (c : Thread nD τ) (ms0_8 t) fullShare X) ∗ (∃ X, ⌜(rdat m J Rl c).after 9 t (Y 9) X⌝ ∗ owns (c : Thread nD τ) (ms0_9 t) fullShare X) ∗ (∃ X, ⌜(rdat m J Rl c).after 10 t (Y 10) X⌝ ∗ owns (c : Thread nD τ) (ms0_10 t) fullShare X) ∗ (∃ X, ⌜(rdat m J Rl c).after 11 t (Y 11) X⌝ ∗ owns (c : Thread nD τ) (ms0_11 t) fullShare X))
  unfold scr
  iintro ⟨⟨⟨%d15, %d16, %d17, %d18, %d19, %d20, %d21, %d22, %d23, %hJ, S15, S16, S17, S18, S19, S20, S21, S22, S23⟩, Hr⟩, HO, W0, W1, W2, W3, W4, W5, W6, W7, W8, W9, W10, W11⟩
  obtain ⟨s, hs⟩ : ∃ s : St F, s = St.mk (Y 0) (Y 1) (Y 2) (Y 3) (Y 4) (Y 5) (Y 6) (Y 7) (Y 8) (Y 9) (Y 10) (Y 11) d15 d16 d17 d18 d19 d20 d21 d22 d23 := ⟨_, rfl⟩
  have hst := H c t s (by rw [hs]; exact y0) (by rw [hs]; exact y1) (by rw [hs]; exact y2) (by rw [hs]; exact y3) (by rw [hs]; exact y4) (by rw [hs]; exact y5) (by rw [hs]; exact hJ) (by rw [hs]; exact hY 9) (by rw [hs]; exact hY 10) (by rw [hs]; exact hY 11)
  have hin := ins_pstep t s
  have hd := does_pstep c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) t s
  obtain ⟨s', hs'⟩ : ∃ s', s' = pstep t s := ⟨_, rfl⟩
  rw [← hs'] at hst hin hd
  have hi : s'.a3 = iblk m c 0 t ∧ s'.a4 = iblk m c 1 t ∧ s'.a5 = iblk m c 2 t ∧ s'.a6 = iblk m c 3 t ∧ s'.a7 = iblk m c 4 t ∧ s'.a8 = iblk m c 5 t := by
    simp only [ins, Prod.mk.injEq] at hin
    obtain ⟨i0, i1, i2, i3, i4, i5⟩ := hin
    rw [i0, i1, i2, i3, i4, i5, hs]
    exact ⟨y0, y1, y2, y3, y4, y5⟩
  obtain ⟨hJ', r6, r7, r8, r9, r10, r11⟩ := hst
  obtain ⟨i0, i1, i2, i3, i4, i5⟩ := hi
  iapply (hd Set.univ _)
  isplitl [W0 W1 W2 W3 W4 W5 W6 W7 W8 W9 W10 W11 S15 S16 S17 S18 S19 S20 S21 S22 S23]
  · rw [hs]; unfold own
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [W8]
    · iexact W8
    isplitl [W9]
    · iexact W9
    isplitl [W10]
    · iexact W10
    isplitl [W11]
    · iexact W11
    isplitl [S15]
    · iexact S15
    isplitl [S16]
    · iexact S16
    isplitl [S17]
    · iexact S17
    isplitl [S18]
    · iexact S18
    isplitl [S19]
    · iexact S19
    isplitl [S20]
    · iexact S20
    isplitl [S21]
    · iexact S21
    isplitl [S22]
    · iexact S22
    iexact S23
  · unfold own
    iintro ⟨W0, W1, W2, W3, W4, W5, W6, W7, W8, W9, W10, W11, S15, S16, S17, S18, S19, S20, S21, S22, S23⟩
    isplitl [S15 S16 S17 S18 S19 S20 S21 S22 S23 Hr]
    · isplitr [Hr]
      · iexists s'.a15, s'.a16, s'.a17, s'.a18, s'.a19, s'.a20, s'.a21, s'.a22, s'.a23
        isplitr
        · ipureintro; exact hJ'
        isplitl [S15]
        · iexact S15
        isplitl [S16]
        · iexact S16
        isplitl [S17]
        · iexact S17
        isplitl [S18]
        · iexact S18
        isplitl [S19]
        · iexact S19
        isplitl [S20]
        · iexact S20
        isplitl [S21]
        · iexact S21
        isplitl [S22]
        · iexact S22
        iexact S23
      · iexact Hr
    isplitl [HO]
    · iexact HO
    isplitl [W0]
    · iexists s'.a3; isplitr
      · ipureintro; exact after_in0 c t _ _ i0
      · iexact W0
    isplitl [W1]
    · iexists s'.a4; isplitr
      · ipureintro; exact after_in1 c t _ _ i1
      · iexact W1
    isplitl [W2]
    · iexists s'.a5; isplitr
      · ipureintro; exact after_in2 c t _ _ i2
      · iexact W2
    isplitl [W3]
    · iexists s'.a6; isplitr
      · ipureintro; exact after_in3 c t _ _ i3
      · iexact W3
    isplitl [W4]
    · iexists s'.a7; isplitr
      · ipureintro; exact after_in4 c t _ _ i4
      · iexact W4
    isplitl [W5]
    · iexists s'.a8; isplitr
      · ipureintro; exact after_in5 c t _ _ i5
      · iexact W5
    isplitl [W6]
    · iexists s'.a9; isplitr
      · ipureintro; exact after_out6 c t _ _ r6
      · iexact W6
    isplitl [W7]
    · iexists s'.a10; isplitr
      · ipureintro; exact after_out7 c t _ _ r7
      · iexact W7
    isplitl [W8]
    · iexists s'.a11; isplitr
      · ipureintro; exact after_out8 c t _ _ r8
      · iexact W8
    isplitl [W9]
    · iexists s'.a12; isplitr
      · ipureintro; exact after_out9 c t _ _ r9
      · iexact W9
    isplitl [W10]
    · iexists s'.a13; isplitr
      · ipureintro; exact after_out10 c t _ _ r10
      · iexact W10
    iexists s'.a14; isplitr
    · ipureintro; exact after_out11 c t _ _ r11
    · iexact W11

theorem scr_in (c : Dev nD) (t : ℕ) (h : ∀ d15 d16 d17 d18 d19 d20 d21 d22 d23, J c t d15 d16 d17 d18 d19 d20 d21 d22 d23) : (Pipeline.ΦA spec0 c : sProp 𝕄) ⊢ scr J c t := by
  rw [PhiA0_eq]; unfold scr
  iintro ⟨⟨⟨%d15, S15⟩, ⟨%d16, S16⟩, ⟨%d17, S17⟩, ⟨%d18, S18⟩, ⟨%d19, S19⟩, ⟨%d20, S20⟩, ⟨%d21, S21⟩, ⟨%d22, S22⟩, ⟨%d23, S23⟩⟩, Hr⟩
  isplitr [Hr]
  · iexists d15, d16, d17, d18, d19, d20, d21, d22, d23
    isplitr
    · ipureintro; exact h _ _ _ _ _ _ _ _ _
    isplitl [S15]
    · iexact S15
    isplitl [S16]
    · iexact S16
    isplitl [S17]
    · iexact S17
    isplitl [S18]
    · iexact S18
    isplitl [S19]
    · iexact S19
    isplitl [S20]
    · iexact S20
    isplitl [S21]
    · iexact S21
    isplitl [S22]
    · iexact S22
    iexact S23
  · iexact Hr

theorem scr_out (c : Dev nD) (t : ℕ) : scr J c t ⊢ (Pipeline.ΦA spec0 c : sProp 𝕄) := by
  rw [PhiA0_eq]; unfold scr
  iintro ⟨⟨%d15, %d16, %d17, %d18, %d19, %d20, %d21, %d22, %d23, %hJ, S15, S16, S17, S18, S19, S20, S21, S22, S23⟩, Hr⟩
  isplitr [Hr]
  · isplitl [S15]
    · iexists d15; iexact S15
    isplitl [S16]
    · iexists d16; iexact S16
    isplitl [S17]
    · iexists d17; iexact S17
    isplitl [S18]
    · iexists d18; iexact S18
    isplitl [S19]
    · iexists d19; iexact S19
    isplitl [S20]
    · iexists d20; iexact S20
    isplitl [S21]
    · iexists d21; iexact S21
    isplitl [S22]
    · iexists d22; iexact S22
    iexists d23; iexact S23
  · iexact Hr

set_option backward.isDefEq.respectTransparency.types false in
/-- The run: every array ends at something that the body's leavings allow, and every semaphore at zero. -/
theorem run (H : Steps m J Rl) (h0 : ∀ c d15 d16 d17 d18 d19 d20 d21 d22 d23, J c 0 d15 d16 d17 d18 d19 d20 d21 d22 d23) :
    θ_run defs (onTc (τ := τ) (main (F := F))) (s₀ m ρ) (fun r => Pipeline.RDat.FramePost cfg0 (rdat m J Rl) (V m) r ∧ r.2.sem = fun _ => 0) :=
  Pipeline.RDat.θ_run_frame_track (Q' := _) cfgs (0 : Fin 1) launch0 defs₀ Variants.none (rdat m J Rl) m ρ main
    (hbody := body_obligation H) (hshare := fun c => (dats m J 0 c).share_full fun _ => rfl)
    (howed := fun _ _ => rfl) (V := V m) (hmain := hmain m Variants.none) (hA := A_eq m J)
    (hin := fun c => scr_in c 0 (h0 c)) (hout := fun c => scr_out c _)

/-- The argument arrays end as they started. -/
theorem args_of {r : PUnit × MemSt nD τ sig (Elt F)} (h : Pipeline.RDat.FramePost cfg0 (rdat m J Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have e2 := (h c).1 2; have e3 := (h c).1 3; have e4 := (h c).1 4
  rw [Pipeline.RDat.ArrAt_in _ 2 rfl] at e2; rw [Pipeline.RDat.ArrAt_in _ 3 rfl] at e3; rw [Pipeline.RDat.ArrAt_in _ 4 rfl] at e4
  exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      e2.trans ((A_eq m J c 2).trans (V_main_arg2 m c)),
      e3.trans ((A_eq m J c 3).trans (V_main_arg3 m c)),
      e4.trans ((A_eq m J c 4).trans (V_main_arg4 m c)),
      ((h c).2 main_arg5 (Pipeline.mem_restRefs_of main_arg5 (by decide) (by decide))).trans (V_main_arg5 m c)⟩

variable (m)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨args_of h.1, h.2⟩)
    (run (m := m) ρ (J := fun _ _ _ _ _ _ _ _ _ _ _ => True) (Rl := fun _ _ _ _ => True)
      (fun _ _ _ _ _ _ _ _ _ _ _ _ _ => ⟨trivial, trivial, trivial, trivial, trivial, trivial, trivial⟩) (fun _ _ _ _ _ _ _ _ _ _ => trivial))

end Cert.Kernel.Body

end
-- ==== Proof.Chunks.lean ====
/- The kernel's body as loops over its chunks: each chunk kind is one program with symbolic offsets, and the printed
   body is the sequence of its chunks. -/
module

public import proofs.«01_k».proof.Proof.Gen.KernelIdeal.Skeleton

@[expose] public section

set_option synthInstance.maxSize 4096
set_option maxRecDepth 65536

noncomputable section

namespace Cert.KernelIdeal.Body

open Idealize.ShloMosaic Idealize.SL.Sem Cert.KernelIdeal.Gen

variable {F : FTy → Type} [FloatOps F]

/-- Run `f` at `i`, `i + 1`, …, `k` times. -/
def loop {N : ℕ} [NeZero N] (f : Fin N → Prog (TpuEff nD τ sig (Elt F) Λ₀ .tc) PUnit) : ℕ → ℕ → Prog (TpuEff nD τ sig (Elt F) Λ₀ .tc) PUnit
  | 0, _ => pure ⟨⟩
  | k + 1, i => f (Fin.ofNat N i) >>= fun _ => loop f k (i + 1)

/-- The row block a point works on, as an offset. -/
def kRow (i : grid0.Coords) : ℕ := (Scalar.indexCast (BitVec.ofNat 32 (i 2).val) : Index).toNat

theorem kRow_eq : ∀ i : grid0.Coords, kRow i = (i 2).val := by decide +kernel

theorem inbQw : ∀ n : Fin 32, ∀ a, (![n.val / 4 * 128, n.val % 4 * 256] : Fin 2 → Nat) a + S128x256.size a ≤ S1024x1024.size a := by decide +kernel
theorem inbQg : ∀ n : Fin 32, ∀ a, (![n.val / 4, n.val % 4 * 256] : Fin 2 → Nat) a + S1x256.size a ≤ S8x1024.size a := by decide +kernel
theorem packQ8 : ∀ n : Fin 32, (Rect.unit (s := S1024x1024) ![n.val / 4 * 128, n.val % 4 * 256] S128x256.size (inbQw n)).PackedRows (EltTy.packing .i8) := by decide +kernel
theorem packQ16 : ∀ n : Fin 32, (Rect.unit (s := S1024x1024) ![n.val / 4 * 128, n.val % 4 * 256] S128x256.size (inbQw n)).PackedRows (EltTy.packing .bf16) := by decide +kernel
theorem inbQk (i : grid0.Coords) (n : Fin 32) : ∀ a, (![kRow i, n.val / 4, n.val % 4 * 256] : Fin 3 → Nat) a + S1x1x256.size a ≤ S18x8x1024.size a := by
  have h2 := (i 2).isLt; have hn := n.isLt; have h0 := kRow_eq i
  have h3 : (i 2).val < 18 := h2
  have e0 : kRow i + 1 ≤ 18 := by omega
  have e1 : n.val / 4 + 1 ≤ 8 := by omega
  have e2 : n.val % 4 * 256 + 256 ≤ 1024 := by omega
  intro a; match a with
  | ⟨0, _⟩ => exact e0
  | ⟨1, _⟩ => exact e1
  | ⟨2, _⟩ => exact e2

/-- One 128×256 chunk of the quantiser. -/
def quantChunk (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg17 : Memref sig .tc .vmem S1024x1024 .bf16) (harg17 : arg17.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (n : Fin 32) : Prog (TpuEff nD τ sig (Elt F) Λ₀ .tc) PUnit := do
  let v25 : Vec F S128x256 .f32 ← Prog.lift (.load arg5 (Rect.unit (s := S1024x1024) ![n.val / 4 * 128, n.val % 4 * 256] S128x256.size (inbQw n)).toLoadRect (View.loadsAt_vmem h_S128x256))
  let v30 : Vec F S1x256 .f32 ← Prog.lift (.load arg6 (Rect.unit (s := S8x1024) ![n.val / 4, n.val % 4 * 256] S1x256.size (inbQg n)).toLoadRect (View.loadsAt_vmem h_S1x256))
  let v32 : Vec F S1x256 .f32 ← Prog.lift (.load arg7 (Rect.unit (s := S8x1024) ![n.val / 4, n.val % 4 * 256] S1x256.size (inbQg n)).toLoadRect (View.loadsAt_vmem h_S1x256))
  let v57 : Vec F S128x256 .i8 ← Prog.lift (.load arg12 (Rect.unit (s := S1024x1024) ![n.val / 4 * 128, n.val % 4 * 256] S128x256.size (inbQw n)).toLoadRect (View.loadsAt_vmem h_S128x256))
  Prog.lift (.store arg12 (Rect.unit (s := S1024x1024) ![n.val / 4 * 128, n.val % 4 * 256] S128x256.size (inbQw n)) (k0_pay15 v25 v30 v32) Finset.univ (View.stores_vmem h_S128x256 (harg12.storeExact_slice rfl _ (packQ8 n)) (fun _ => rfl)) (.inl rfl))
  let v63 : Vec F S128x256 .bf16 ← Prog.lift (.load arg17 (Rect.unit (s := S1024x1024) ![n.val / 4 * 128, n.val % 4 * 256] S128x256.size (inbQw n)).toLoadRect (View.loadsAt_vmem h_S128x256))
  Prog.lift (.store arg17 (Rect.unit (s := S1024x1024) ![n.val / 4 * 128, n.val % 4 * 256] S128x256.size (inbQw n)) (k0_pay16 v25 v30 v32) Finset.univ (View.stores_vmem h_S128x256 (harg17.storeExact_slice rfl _ (packQ16 n)) (fun _ => rfl)) (.inl rfl))
  let v66 : Vec F S1x256 .f32 ← Prog.lift (.load arg13 (Rect.unit (s := S8x1024) ![n.val / 4, n.val % 4 * 256] S1x256.size (inbQg n)).toLoadRect (View.loadsAt_vmem h_S1x256))
  Prog.lift (.store arg13 (Rect.unit (s := S8x1024) ![n.val / 4, n.val % 4 * 256] S1x256.size (inbQg n)) (k0_pay12 v25 v30 v32) Finset.univ (View.stores_vmem_bits_univ h_S1x256 rfl) (.inl rfl))
  let v67 : Vec F S1x256 .f32 ← Prog.lift (.load arg14 (Rect.unit (s := S8x1024) ![n.val / 4, n.val % 4 * 256] S1x256.size (inbQg n)).toLoadRect (View.loadsAt_vmem h_S1x256))
  Prog.lift (.store arg14 (Rect.unit (s := S8x1024) ![n.val / 4, n.val % 4 * 256] S1x256.size (inbQg n)) (k0_pay13 v25 v30 v32) Finset.univ (View.stores_vmem_bits_univ h_S1x256 rfl) (.inl rfl))
  let v69 : Vec F S1x1x256 .f32 ← Prog.lift (.load arg19 (Rect.unit (s := S18x8x1024) ![kRow i, n.val / 4, n.val % 4 * 256] S1x1x256.size (inbQk i n)).toLoadRect (View.loadsAt_vmem h_S1x1x256))
  Prog.lift (.store arg19 (Rect.unit (s := S18x8x1024) ![kRow i, n.val / 4, n.val % 4 * 256] S1x1x256.size (inbQk i n)) (k0_pay17 (k0_pay12 v25 v30 v32)) Finset.univ (View.stores_vmem_bits_univ h_S1x1x256 rfl) (.inl rfl))
  let v73 : Vec F S1x1x256 .f32 ← Prog.lift (.load arg20 (Rect.unit (s := S18x8x1024) ![kRow i, n.val / 4, n.val % 4 * 256] S1x1x256.size (inbQk i n)).toLoadRect (View.loadsAt_vmem h_S1x1x256))
  Prog.lift (.store arg20 (Rect.unit (s := S18x8x1024) ![kRow i, n.val / 4, n.val % 4 * 256] S1x1x256.size (inbQk i n)) (k0_pay18 (k0_pay13 v25 v30 v32)) Finset.univ (View.stores_vmem_bits_univ h_S1x1x256 rfl) (.inl rfl))
  let v77 : Vec F S1x1x256 .f32 ← Prog.lift (.load arg21 (Rect.unit (s := S18x8x1024) ![kRow i, n.val / 4, n.val % 4 * 256] S1x1x256.size (inbQk i n)).toLoadRect (View.loadsAt_vmem h_S1x1x256))
  Prog.lift (.store arg21 (Rect.unit (s := S18x8x1024) ![kRow i, n.val / 4, n.val % 4 * 256] S1x1x256.size (inbQk i n)) (k0_pay19 (k0_pay9 v25)) Finset.univ (View.stores_vmem_bits_univ h_S1x1x256 rfl) (.inl rfl))
  let v81 : Vec F S1x1x256 .f32 ← Prog.lift (.load arg22 (Rect.unit (s := S18x8x1024) ![kRow i, n.val / 4, n.val % 4 * 256] S1x1x256.size (inbQk i n)).toLoadRect (View.loadsAt_vmem h_S1x1x256))
  Prog.lift (.store arg22 (Rect.unit (s := S18x8x1024) ![kRow i, n.val / 4, n.val % 4 * 256] S1x1x256.size (inbQk i n)) (k0_pay20 (k0_pay10 v25)) Finset.univ (View.stores_vmem_bits_univ h_S1x1x256 rfl) (.inl rfl))
  pure ⟨⟩

/-- The accumulator set to zero. -/
def accZero (arg15 : Memref sig .tc .vmem S3072x1024 .f32) (harg15 : arg15.IsWhole) : Prog (TpuEff nD τ sig (Elt F) Λ₀ .tc) PUnit := do
  let v2037 : Vec F S3072x1024 .f32 ← Prog.lift (.load arg15 (Rect.unit (s := S3072x1024) ![0, 0] S3072x1024.size inb_S3072x1024_S3072x1024_0_0).toLoadRect (View.loadsAt_vmem h_S3072x1024))
  Prog.lift (.store arg15 (Rect.unit (s := S3072x1024) ![0, 0] S3072x1024.size inb_S3072x1024_S3072x1024_0_0) (k0_pay422 (F := F)) Finset.univ (View.stores_vmem_bits_univ h_S3072x1024 rfl) (.inl rfl))
  pure ⟨⟩

/-- The loss accumulator set to zero. -/
def laccZero (arg23 : Memref sig .tc .vmem S8x128 .f32) (harg23 : arg23.IsWhole) : Prog (TpuEff nD τ sig (Elt F) Λ₀ .tc) PUnit := do
  let v26 : Vec F S8x128 .f32 ← Prog.lift (.load arg23 (Rect.unit (s := S8x128) ![0, 0] S8x128.size inb_S8x128_S8x128_0_0).toLoadRect (View.loadsAt_vmem h_S8x128))
  Prog.lift (.store arg23 (Rect.unit (s := S8x128) ![0, 0] S8x128.size inb_S8x128_S8x128_0_0) (k0_pay1 (F := F)) Finset.univ (View.stores_vmem_bits_univ h_S8x128 rfl) (.inl rfl))
  pure ⟨⟩

theorem inbDa : ∀ n : Fin 12, ∀ a, (![n.val % 6 * 512, n.val / 6 * 512] : Fin 2 → Nat) a + S512x512.size a ≤ S3072x1024.size a := by decide +kernel
theorem inbDx : ∀ n : Fin 12, ∀ a, (![n.val % 6 * 512, 0] : Fin 2 → Nat) a + S512x1024.size a ≤ S3072x1024.size a := by decide +kernel
theorem inbDw : ∀ n : Fin 12, ∀ a, (![0, n.val / 6 * 512] : Fin 2 → Nat) a + S1024x512.size a ≤ S1024x1024.size a := by decide +kernel
/-- One 512×512 tile of the matrix product, added to the accumulator. -/
def dotTile (arg3 : Memref sig .tc .vmem S3072x1024 .fp8e4m3) (harg3 : arg3.IsWhole) (arg15 : Memref sig .tc .vmem S3072x1024 .f32) (harg15 : arg15.IsWhole) (arg17 : Memref sig .tc .vmem S1024x1024 .bf16) (harg17 : arg17.IsWhole) (n : Fin 12) : Prog (TpuEff nD τ sig (Elt F) Λ₀ .tc) PUnit := do
  let v2016 : Vec F S512x512 .f32 ← Prog.lift (.load arg15 (Rect.unit (s := S3072x1024) ![n.val % 6 * 512, n.val / 6 * 512] S512x512.size (inbDa n)).toLoadRect (View.loadsAt_vmem h_S512x512))
  let v2017 : Vec F S512x1024 .fp8e4m3 ← Prog.lift (.load arg3 (Rect.unit (s := S3072x1024) ![n.val % 6 * 512, 0] S512x1024.size (inbDx n)).toLoadRect (View.loadsAt_vmem h_S512x1024))
  let v2020 : Vec F S1024x512 .bf16 ← Prog.lift (.load arg17 (Rect.unit (s := S1024x1024) ![0, n.val / 6 * 512] S1024x512.size (inbDw n)).toLoadRect (View.loadsAt_vmem h_S1024x512))
  let v2023 : Vec F S512x512 .f32 ← Prog.lift (.load arg15 (Rect.unit (s := S3072x1024) ![n.val % 6 * 512, n.val / 6 * 512] S512x512.size (inbDa n)).toLoadRect (View.loadsAt_vmem h_S512x512))
  Prog.lift (.store arg15 (Rect.unit (s := S3072x1024) ![n.val % 6 * 512, n.val / 6 * 512] S512x512.size (inbDa n)) (k0_pay3 v2016 v2017 v2020) Finset.univ (View.stores_vmem_bits_univ h_S512x512 rfl) (.inl rfl))
  pure ⟨⟩

theorem inbEa : ∀ n : Fin 48, ∀ a, (![n.val / 8 * 512, n.val % 8 * 128] : Fin 2 → Nat) a + S512x128.size a ≤ S3072x1024.size a := by decide +kernel
theorem inbEx : ∀ n : Fin 48, ∀ a, (![n.val / 8 * 512, 0] : Fin 2 → Nat) a + S512x128.size a ≤ S3072x128.size a := by decide +kernel
theorem packE : ∀ n : Fin 48, (Rect.unit (s := S3072x1024) ![n.val / 8 * 512, n.val % 8 * 128] S512x128.size (inbEa n)).PackedRows (EltTy.packing .bf16) := by decide +kernel
/-- One 512×128 chunk of the error: its squares are added to the loss accumulator, its scaled copy is stored. -/
def errChunk (arg4 : Memref sig .tc .vmem S3072x128 .f32) (harg4 : arg4.IsWhole) (arg8 : Memref sig .tc .vmem S3072x1024 .bf16) (harg8 : arg8.IsWhole) (arg15 : Memref sig .tc .vmem S3072x1024 .f32) (harg15 : arg15.IsWhole) (arg16 : Memref sig .tc .vmem S3072x1024 .bf16) (harg16 : arg16.IsWhole) (arg23 : Memref sig .tc .vmem S8x128 .f32) (harg23 : arg23.IsWhole) (n : Fin 48) : Prog (TpuEff nD τ sig (Elt F) Λ₀ .tc) PUnit := do
  let v25 : Vec F S512x128 .f32 ← Prog.lift (.load arg4 (Rect.unit (s := S3072x128) ![n.val / 8 * 512, 0] S512x128.size (inbEx n)).toLoadRect (View.loadsAt_vmem h_S512x128))
  let v27 : Vec F S512x128 .f32 ← Prog.lift (.load arg15 (Rect.unit (s := S3072x1024) ![n.val / 8 * 512, n.val % 8 * 128] S512x128.size (inbEa n)).toLoadRect (View.loadsAt_vmem h_S512x128))
  let v29 : Vec F S512x128 .bf16 ← Prog.lift (.load arg8 (Rect.unit (s := S3072x1024) ![n.val / 8 * 512, n.val % 8 * 128] S512x128.size (inbEa n)).toLoadRect (View.loadsAt_vmem h_S512x128))
  let v33 : Vec F S8x128 .f32 ← Prog.lift (.load arg23 (Rect.unit (s := S8x128) ![0, 0] S8x128.size inb_S8x128_S8x128_0_0).toLoadRect (View.loadsAt_vmem h_S8x128))
  let v38 : Vec F S8x128 .f32 ← Prog.lift (.load arg23 (Rect.unit (s := S8x128) ![0, 0] S8x128.size inb_S8x128_S8x128_0_0).toLoadRect (View.loadsAt_vmem h_S8x128))
  Prog.lift (.store arg23 (Rect.unit (s := S8x128) ![0, 0] S8x128.size inb_S8x128_S8x128_0_0) (k0_pay439 v25 v27 v29 v33) Finset.univ (View.stores_vmem_bits_univ h_S8x128 rfl) (.inl rfl))
  let v43 : Vec F S512x128 .bf16 ← Prog.lift (.load arg16 (Rect.unit (s := S3072x1024) ![n.val / 8 * 512, n.val % 8 * 128] S512x128.size (inbEa n)).toLoadRect (View.loadsAt_vmem h_S512x128))
  Prog.lift (.store arg16 (Rect.unit (s := S3072x1024) ![n.val / 8 * 512, n.val % 8 * 128] S512x128.size (inbEa n)) (k0_pay440 v25 v27 v29) Finset.univ (View.stores_vmem h_S512x128 (harg16.storeExact_slice rfl _ (packE n)) (fun _ => rfl)) (.inl rfl))
  pure ⟨⟩

/-- What the backward pass multiplies the gradient by: the quantised weight less its zero point, less the masked scaled weight. -/
def bwdR (v36 v39 : Vec F S1x1x512 .f32) (v41 : Vec F S128x512 .f32) : FVec F S128x512 .f32 :=
  have v37 : FVec F S1x512 .f32 := shapeCast S1x512 v36 shapeCasts_S1x1x512_S1x512
  have v40 : FVec F S1x512 .f32 := shapeCast S1x512 v39 shapeCasts_S1x1x512_S1x512
  have v42 : FVec F S128x512 .f32 := broadcastTo S128x512 v37 broadcasts_S1x512_S128x512
  have v43 : FVec F S128x512 .f32 := divf v41 v42
  have v44 : FVec F S128x512 .f32 := roundeven v43
  have v45 : FVec F S128x512 .f32 := broadcastTo S128x512 v40 broadcasts_S1x512_S128x512
  have v46 : FVec F S128x512 .f32 := addf v44 v45
  have v47 : FVec F S128x512 .f32 := broadcast S128x512 (Scalar.ofBits .f32 0x00000000#32)
  have v48 : FVec F S128x512 .f32 := maximumf v47 v46
  have v49 : FVec F S128x512 .f32 := broadcast S128x512 (Scalar.ofBits .f32 0x41700000#32)
  have v50 : FVec F S128x512 .f32 := minimumf v49 v48
  have v51 : FVec F S128x512 .f32 := broadcast S128x512 (Scalar.ofBits .f32 0x00000000#32)
  have v52 : IVec S128x512 1 := cmpf .oge v46 v51
  have v53 : FVec F S128x512 .f32 := broadcast S128x512 (Scalar.ofBits .f32 0x41700000#32)
  have v54 : IVec S128x512 1 := cmpf .ole v46 v53
  have v55 : IVec S128x512 1 := andi v52 v54
  have v56 : FVec F S128x512 .f32 := broadcast S128x512 (Scalar.ofBits .f32 0x00000000#32)
  have v57 : FVec F S128x512 .f32 := select v55 v43 v56
  have v58 : FVec F S128x512 .f32 := broadcastTo S128x512 v40 broadcasts_S1x512_S128x512
  have v59 : FVec F S128x512 .f32 := subf v50 v58
  subf v59 v57

theorem slicesG : ∀ g : Fin 2, S256x512.Slices ![g.val * 128, 0] S128x512 := by decide +kernel

/-- One group's scaled sum of gradient products. -/
def bwdS (g : Fin 2) (grad : FVec F S256x512 .f32) (r : FVec F S128x512 .f32) : FVec F S1x512 .f32 :=
  have v61 : FVec F S128x512 .f32 := extractStridedSlice S128x512 ![g.val * 128, 0] grad (slicesG g)
  have v62 : FVec F S128x512 .f32 := mulf v61 r
  k0_pay659 v62

/-- One group's gradient of the upper clipping parameter. -/
def bwdDG (s : FVec F S1x512 .f32) (v67 : Vec F S1x512 .f32) (v76 : Vec F S1x1x512 .f32) : FVec F S1x512 .f32 :=
  have v68 : FVec F S1x512 .f32 := logistic v67
  have v71 : FVec F S1x512 .f32 := mulf s v68
  have v72 : FVec F S1x512 .f32 := broadcast S1x512 (Scalar.ofBits .f32 0x3F800000#32)
  have v73 : FVec F S1x512 .f32 := subf v72 v68
  have v74 : FVec F S1x512 .f32 := mulf v71 v73
  have v77 : FVec F S1x512 .f32 := shapeCast S1x512 v76 shapeCasts_S1x1x512_S1x512
  have v78 : FVec F S1x512 .f32 := mulf v74 v77
  have v79 : FVec F S1x512 .f32 := broadcast S1x512 (Scalar.ofBits .f32 0x41700000#32)
  divf v78 v79

/-- One group's gradient of the lower clipping parameter. -/
def bwdDB (s : FVec F S1x512 .f32) (v69 : Vec F S1x512 .f32) (v89 : Vec F S1x1x512 .f32) : FVec F S1x512 .f32 :=
  have v82 : FVec F S1x512 .f32 := broadcast S1x512 (Scalar.ofBits .f32 0x00000000#32)
  bwdDG (subf v82 s) v69 v89

theorem inbBx : ∀ d : Fin 4, ∀ a, (![0, d.val * 256] : Fin 2 → Nat) a + S3072x256.size a ≤ S3072x1024.size a := by decide +kernel
theorem inbBe : ∀ j : Fin 2, ∀ a, (![0, j.val * 512] : Fin 2 → Nat) a + S3072x512.size a ≤ S3072x1024.size a := by decide +kernel
theorem inbBw : ∀ (d : Fin 4) (j g : Fin 2), ∀ a, (![d.val * 256 + g.val * 128, j.val * 512] : Fin 2 → Nat) a + S128x512.size a ≤ S1024x1024.size a := by decide +kernel
theorem inbBg : ∀ (d : Fin 4) (j g : Fin 2), ∀ a, (![d.val * 2 + g.val, j.val * 512] : Fin 2 → Nat) a + S1x512.size a ≤ S8x1024.size a := by decide +kernel
theorem inbBk (i : grid0.Coords) (d : Fin 4) (j g : Fin 2) : ∀ a, (![kRow i, d.val * 2 + g.val, j.val * 512] : Fin 3 → Nat) a + S1x1x512.size a ≤ S18x8x1024.size a := by
  have h2 := (i 2).isLt; have hd := d.isLt; have hj := j.isLt; have hg := g.isLt; have h0 := kRow_eq i
  have h3 : (i 2).val < 18 := h2
  have e0 : kRow i + 1 ≤ 18 := by omega
  have e1 : d.val * 2 + g.val + 1 ≤ 8 := by omega
  have e2 : j.val * 512 + 512 ≤ 1024 := by omega
  intro a; match a with
  | ⟨0, _⟩ => exact e0
  | ⟨1, _⟩ => exact e1
  | ⟨2, _⟩ => exact e2

/-- One group's pieces of the two clipping gradients. -/
def bwdGroup (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (d : Fin 4) (j g : Fin 2) (grad : FVec F S256x512 .f32) : Prog (TpuEff nD τ sig (Elt F) Λ₀ .tc) PUnit := do
  let v36 : Vec F S1x1x512 .f32 ← Prog.lift (.load arg19 (Rect.unit (s := S18x8x1024) ![kRow i, d.val * 2 + g.val, j.val * 512] S1x1x512.size (inbBk i d j g)).toLoadRect (View.loadsAt_vmem h_S1x1x512))
  let v39 : Vec F S1x1x512 .f32 ← Prog.lift (.load arg20 (Rect.unit (s := S18x8x1024) ![kRow i, d.val * 2 + g.val, j.val * 512] S1x1x512.size (inbBk i d j g)).toLoadRect (View.loadsAt_vmem h_S1x1x512))
  let v41 : Vec F S128x512 .f32 ← Prog.lift (.load arg5 (Rect.unit (s := S1024x1024) ![d.val * 256 + g.val * 128, j.val * 512] S128x512.size (inbBw d j g)).toLoadRect (View.loadsAt_vmem h_S128x512))
  let v67 : Vec F S1x512 .f32 ← Prog.lift (.load arg6 (Rect.unit (s := S8x1024) ![d.val * 2 + g.val, j.val * 512] S1x512.size (inbBg d j g)).toLoadRect (View.loadsAt_vmem h_S1x512))
  let v69 : Vec F S1x512 .f32 ← Prog.lift (.load arg7 (Rect.unit (s := S8x1024) ![d.val * 2 + g.val, j.val * 512] S1x512.size (inbBg d j g)).toLoadRect (View.loadsAt_vmem h_S1x512))
  let v76 : Vec F S1x1x512 .f32 ← Prog.lift (.load arg21 (Rect.unit (s := S18x8x1024) ![kRow i, d.val * 2 + g.val, j.val * 512] S1x1x512.size (inbBk i d j g)).toLoadRect (View.loadsAt_vmem h_S1x1x512))
  let v81 : Vec F S1x512 .f32 ← Prog.lift (.load arg9 (Rect.unit (s := S8x1024) ![d.val * 2 + g.val, j.val * 512] S1x512.size (inbBg d j g)).toLoadRect (View.loadsAt_vmem h_S1x512))
  Prog.lift (.store arg9 (Rect.unit (s := S8x1024) ![d.val * 2 + g.val, j.val * 512] S1x512.size (inbBg d j g)) (bwdDG (bwdS g grad (bwdR v36 v39 v41)) v67 v76) Finset.univ (View.stores_vmem_bits_univ h_S1x512 rfl) (.inl rfl))
  let v89 : Vec F S1x1x512 .f32 ← Prog.lift (.load arg22 (Rect.unit (s := S18x8x1024) ![kRow i, d.val * 2 + g.val, j.val * 512] S1x1x512.size (inbBk i d j g)).toLoadRect (View.loadsAt_vmem h_S1x1x512))
  let v94 : Vec F S1x512 .f32 ← Prog.lift (.load arg10 (Rect.unit (s := S8x1024) ![d.val * 2 + g.val, j.val * 512] S1x512.size (inbBg d j g)).toLoadRect (View.loadsAt_vmem h_S1x512))
  Prog.lift (.store arg10 (Rect.unit (s := S8x1024) ![d.val * 2 + g.val, j.val * 512] S1x512.size (inbBg d j g)) (bwdDB (bwdS g grad (bwdR v36 v39 v41)) v69 v89) Finset.univ (View.stores_vmem_bits_univ h_S1x512 rfl) (.inl rfl))
  pure ⟨⟩

/-- One half of the columns: the gradient tile, then its two groups. -/
def bwdHalf (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg16 : Memref sig .tc .vmem S3072x1024 .bf16) (harg16 : arg16.IsWhole) (arg18 : Memref sig .tc .vmem S256x3072 .bf16) (harg18 : arg18.IsWhole) (d : Fin 4) (j : Fin 2) : Prog (TpuEff nD τ sig (Elt F) Λ₀ .tc) PUnit := do
  let v32 : Vec F S256x3072 .bf16 ← Prog.lift (.load arg18 (Rect.unit (s := S256x3072) ![0, 0] S256x3072.size inb_S256x3072_S256x3072_0_0).toLoadRect (View.loadsAt_vmem h_S256x3072))
  let v33 : Vec F S3072x512 .bf16 ← Prog.lift (.load arg16 (Rect.unit (s := S3072x1024) ![0, j.val * 512] S3072x512.size (inbBe j)).toLoadRect (View.loadsAt_vmem h_S3072x512))
  bwdGroup i arg5 harg5 arg6 harg6 arg7 harg7 arg9 harg9 arg10 harg10 arg19 harg19 arg20 harg20 arg21 harg21 arg22 harg22 d j 0 (k0_pay657 v32 v33)
  bwdGroup i arg5 harg5 arg6 harg6 arg7 harg7 arg9 harg9 arg10 harg10 arg19 harg19 arg20 harg20 arg21 harg21 arg22 harg22 d j 1 (k0_pay657 v32 v33)

/-- A strip of 256 input columns, transposed. -/
def bwdXt (arg3 : Memref sig .tc .vmem S3072x1024 .fp8e4m3) (harg3 : arg3.IsWhole) (arg18 : Memref sig .tc .vmem S256x3072 .bf16) (harg18 : arg18.IsWhole) (d : Fin 4) : Prog (TpuEff nD τ sig (Elt F) Λ₀ .tc) PUnit := do
  let v25 : Vec F S3072x256 .fp8e4m3 ← Prog.lift (.load arg3 (Rect.unit (s := S3072x1024) ![0, d.val * 256] S3072x256.size (inbBx d)).toLoadRect (View.loadsAt_vmem h_S3072x256))
  let v29 : Vec F S256x3072 .bf16 ← Prog.lift (.load arg18 (Rect.unit (s := S256x3072) ![0, 0] S256x3072.size inb_S256x3072_S256x3072_0_0).toLoadRect (View.loadsAt_vmem h_S256x3072))
  Prog.lift (.store arg18 (Rect.unit (s := S256x3072) ![0, 0] S256x3072.size inb_S256x3072_S256x3072_0_0) (k0_pay656 v25) Finset.univ (View.stores_vmem h_S256x3072 (harg18.storeExact_slice rfl _ packedbf16_S256x3072_S256x3072_0_0) (fun _ => rfl)) (.inl rfl))
  pure ⟨⟩

/-- One strip of 256 input columns: the strip transposed, then its two halves. -/
def bwdStrip (i : grid0.Coords) (arg3 : Memref sig .tc .vmem S3072x1024 .fp8e4m3) (harg3 : arg3.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg16 : Memref sig .tc .vmem S3072x1024 .bf16) (harg16 : arg16.IsWhole) (arg18 : Memref sig .tc .vmem S256x3072 .bf16) (harg18 : arg18.IsWhole) (d : Fin 4) : Prog (TpuEff nD τ sig (Elt F) Λ₀ .tc) PUnit := do
  bwdXt arg3 harg3 arg18 harg18 d
  bwdHalf i arg5 harg5 arg6 harg6 arg7 harg7 arg9 harg9 arg10 harg10 arg19 harg19 arg20 harg20 arg21 harg21 arg22 harg22 arg16 harg16 arg18 harg18 d 0
  bwdHalf i arg5 harg5 arg6 harg6 arg7 harg7 arg9 harg9 arg10 harg10 arg19 harg19 arg20 harg20 arg21 harg21 arg22 harg22 arg16 harg16 arg18 harg18 d 1

/-- The loss, from the loss accumulator. -/
def lossStore (arg11 : Memref sig .tc .smem S1x1 .f32) (harg11 : arg11.IsWhole) (arg23 : Memref sig .tc .vmem S8x128 .f32) (harg23 : arg23.IsWhole) : Prog (TpuEff nD τ sig (Elt F) Λ₀ .tc) PUnit := do
  let v25 : Vec F S8x128 .f32 ← Prog.lift (.load arg23 (Rect.unit (s := S8x128) ![0, 0] S8x128.size inb_S8x128_S8x128_0_0).toLoadRect (View.loadsAt_vmem h_S8x128))
  let v31 : Elt F .f32 ← smemLoad arg11 (Rect.unit (s := S1x1) ![0, 0] S1x1.size inb_S1x1_S1x1_0_0) numel1_S1x1 rfl
  Prog.lift (.store arg11 (Rect.unit (s := S1x1) ![0, 0] S1x1.size inb_S1x1_S1x1_0_0) (fun _ => k0_pay8 v25) Finset.univ (View.stores_smem_one rfl numel1_S1x1) (.inl rfl))
  pure ⟨⟩

/-- The whole error pass. -/
def errPass (arg4 : Memref sig .tc .vmem S3072x128 .f32) (harg4 : arg4.IsWhole) (arg8 : Memref sig .tc .vmem S3072x1024 .bf16) (harg8 : arg8.IsWhole) (arg15 : Memref sig .tc .vmem S3072x1024 .f32) (harg15 : arg15.IsWhole) (arg16 : Memref sig .tc .vmem S3072x1024 .bf16) (harg16 : arg16.IsWhole) (arg23 : Memref sig .tc .vmem S8x128 .f32) (harg23 : arg23.IsWhole) : Prog (TpuEff nD τ sig (Elt F) Λ₀ .tc) PUnit := loop (errChunk arg4 harg4 arg8 harg8 arg15 harg15 arg16 harg16 arg23 harg23) 48 0

/-- The whole backward pass. -/
def bwdPass (i : grid0.Coords) (arg3 : Memref sig .tc .vmem S3072x1024 .fp8e4m3) (harg3 : arg3.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg9 : Memref sig .tc .vmem S8x1024 .f32) (harg9 : arg9.IsWhole) (arg10 : Memref sig .tc .vmem S8x1024 .f32) (harg10 : arg10.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg16 : Memref sig .tc .vmem S3072x1024 .bf16) (harg16 : arg16.IsWhole) (arg18 : Memref sig .tc .vmem S256x3072 .bf16) (harg18 : arg18.IsWhole) : Prog (TpuEff nD τ sig (Elt F) Λ₀ .tc) PUnit := loop (bwdStrip i arg3 harg3 arg5 harg5 arg6 harg6 arg7 harg7 arg9 harg9 arg10 harg10 arg19 harg19 arg20 harg20 arg21 harg21 arg22 harg22 arg16 harg16 arg18 harg18) 4 0

/-- The whole quantiser. -/
def quantPass (i : grid0.Coords) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg17 : Memref sig .tc .vmem S1024x1024 .bf16) (harg17 : arg17.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) : Prog (TpuEff nD τ sig (Elt F) Λ₀ .tc) PUnit := loop (quantChunk i arg5 harg5 arg6 harg6 arg7 harg7 arg12 harg12 arg13 harg13 arg14 harg14 arg17 harg17 arg19 harg19 arg20 harg20 arg21 harg21 arg22 harg22) 32 0

/-- The whole matrix product. -/
def dotPass (arg3 : Memref sig .tc .vmem S3072x1024 .fp8e4m3) (harg3 : arg3.IsWhole) (arg15 : Memref sig .tc .vmem S3072x1024 .f32) (harg15 : arg15.IsWhole) (arg17 : Memref sig .tc .vmem S1024x1024 .bf16) (harg17 : arg17.IsWhole) : Prog (TpuEff nD τ sig (Elt F) Λ₀ .tc) PUnit := loop (dotTile arg3 harg3 arg15 harg15 arg17 harg17) 12 0

end Cert.KernelIdeal.Body

end
-- ==== Proof.Steps.lean ====
/- What each chunk does to the contents of the body's memrefs, as a function, and the proof that it does just that. -/
module

public import proofs.«01_k».proof.Proof.Chunks
public import proofs.«01_k».proof.Proof.Gen.KernelIdeal.Frame
public import Idealize.ShloMosaic.Lib.VecWindow
public import Idealize.ShloMosaic.Lib.WholeRead

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The contents of the body's memrefs. -/
structure St (F : FTy → Type) where
  a3 : Vec F S3072x1024 .fp8e4m3
  a4 : Vec F S3072x128 .f32
  a5 : Vec F S1024x1024 .f32
  a6 : Vec F S8x1024 .f32
  a7 : Vec F S8x1024 .f32
  a8 : Vec F S3072x1024 .bf16
  a9 : Vec F S8x1024 .f32
  a10 : Vec F S8x1024 .f32
  a11 : Vec F S1x1 .f32
  a12 : Vec F S1024x1024 .i8
  a13 : Vec F S8x1024 .f32
  a14 : Vec F S8x1024 .f32
  a15 : Vec F S3072x1024 .f32
  a16 : Vec F S3072x1024 .bf16
  a17 : Vec F S1024x1024 .bf16
  a18 : Vec F S256x3072 .bf16
  a19 : Vec F S18x8x1024 .f32
  a20 : Vec F S18x8x1024 .f32
  a21 : Vec F S18x8x1024 .f32
  a22 : Vec F S18x8x1024 .f32
  a23 : Vec F S8x128 .f32

/-- The body's memrefs at the contents `s`. -/
def own (c : Dev nD) (arg3 : Memref sig .tc .vmem S3072x1024 .fp8e4m3) (arg4 : Memref sig .tc .vmem S3072x128 .f32) (arg5 : Memref sig .tc .vmem S1024x1024 .f32) (arg6 : Memref sig .tc .vmem S8x1024 .f32) (arg7 : Memref sig .tc .vmem S8x1024 .f32) (arg8 : Memref sig .tc .vmem S3072x1024 .bf16) (arg9 : Memref sig .tc .vmem S8x1024 .f32) (arg10 : Memref sig .tc .vmem S8x1024 .f32) (arg11 : Memref sig .tc .smem S1x1 .f32) (arg12 : Memref sig .tc .vmem S1024x1024 .i8) (arg13 : Memref sig .tc .vmem S8x1024 .f32) (arg14 : Memref sig .tc .vmem S8x1024 .f32) (arg15 : Memref sig .tc .vmem S3072x1024 .f32) (arg16 : Memref sig .tc .vmem S3072x1024 .bf16) (arg17 : Memref sig .tc .vmem S1024x1024 .bf16) (arg18 : Memref sig .tc .vmem S256x3072 .bf16) (arg19 : Memref sig .tc .vmem S18x8x1024 .f32) (arg20 : Memref sig .tc .vmem S18x8x1024 .f32) (arg21 : Memref sig .tc .vmem S18x8x1024 .f32) (arg22 : Memref sig .tc .vmem S18x8x1024 .f32) (arg23 : Memref sig .tc .vmem S8x128 .f32) (s : St F) : sProp 𝕄 :=
  iprop(owns (c : Thread nD τ) arg3 fullShare s.a3 ∗ owns (c : Thread nD τ) arg4 fullShare s.a4 ∗ owns (c : Thread nD τ) arg5 fullShare s.a5 ∗ owns (c : Thread nD τ) arg6 fullShare s.a6 ∗ owns (c : Thread nD τ) arg7 fullShare s.a7 ∗ owns (c : Thread nD τ) arg8 fullShare s.a8 ∗ owns (c : Thread nD τ) arg9 fullShare s.a9 ∗ owns (c : Thread nD τ) arg10 fullShare s.a10 ∗ owns (c : Thread nD τ) arg11 fullShare s.a11 ∗ owns (c : Thread nD τ) arg12 fullShare s.a12 ∗ owns (c : Thread nD τ) arg13 fullShare s.a13 ∗ owns (c : Thread nD τ) arg14 fullShare s.a14 ∗ owns (c : Thread nD τ) arg15 fullShare s.a15 ∗ owns (c : Thread nD τ) arg16 fullShare s.a16 ∗ owns (c : Thread nD τ) arg17 fullShare s.a17 ∗ owns (c : Thread nD τ) arg18 fullShare s.a18 ∗ owns (c : Thread nD τ) arg19 fullShare s.a19 ∗ owns (c : Thread nD τ) arg20 fullShare s.a20 ∗ owns (c : Thread nD τ) arg21 fullShare s.a21 ∗ owns (c : Thread nD τ) arg22 fullShare s.a22 ∗ owns (c : Thread nD τ) arg23 fullShare s.a23)

/-- A load of a whole memref's contents through a unit-stride rectangle. -/
theorem readAt_unread_unit {κ : Kind} {sp : Space} {sh : Shape} {e : EltTy} {Val : EltTy → Type} {m : Memref sig κ sp sh e} (h : m.IsWhole) (X : sh.Idx → Val e) (r : Rect sh) :
    m.view.readAt Val r.toLoadRect (h.unread X) = View.ld X r := funext fun x => h.readAt_unread X _ x

/-- What a quantiser chunk does. -/
def quantStep (i : grid0.Coords) (n : Fin 32) (s : St F) : St F :=
  { s with
    a12 := VecWindow.put s.a12 ![n.val / 4 * 128, n.val % 4 * 256] S128x256.size (k0_pay15 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a17 := VecWindow.put s.a17 ![n.val / 4 * 128, n.val % 4 * 256] S128x256.size (k0_pay16 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a13 := VecWindow.put s.a13 ![n.val / 4, n.val % 4 * 256] S1x256.size (k0_pay12 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a14 := VecWindow.put s.a14 ![n.val / 4, n.val % 4 * 256] S1x256.size (k0_pay13 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n))))
    a19 := VecWindow.put s.a19 ![kRow i, n.val / 4, n.val % 4 * 256] S1x1x256.size (k0_pay17 (k0_pay12 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n)))))
    a20 := VecWindow.put s.a20 ![kRow i, n.val / 4, n.val % 4 * 256] S1x1x256.size (k0_pay18 (k0_pay13 (View.ld s.a5 (Rect.unit (s := S1024x1024) ![n.val / 4 * 128, n.val % 4 * 256] S128x256.size (inbQw n))) (View.ld s.a6 (Rect.unit (s := S8x1024) ![n.val / 4, n.val % 4 * 256] S1x256.size (inbQg n))) (View.ld s.a7 (Rect.unit (s := S8x1024) ![n.val / 4, n.val % 4 * 256] S1x256.size (inbQg n)))))
    a21 := VecWindow.put s.a21 ![kRow i, n.val / 4, n.val % 4 * 256] S1x1x256.size (k0_pay19 (k0_pay9 (View.ld s.a5 (Rect.unit (s := S1024x1024) ![n.val / 4 * 128, n.val % 4 * 256] S128x256.size (inbQw n)))))
    a22 := VecWindow.put s.a22 ![kRow i, n.val / 4, n.val % 4 * 256] S1x1x256.size (k0_pay20 (k0_pay10 (View.ld s.a5 (Rect.unit (s := S1024x1024) ![n.val / 4 * 128, n.val % 4 * 256] S128x256.size (inbQw n)))))
  }

/-- The accumulator set to zero. -/
def accZeroStep (s : St F) : St F := { s with a15 := k0_pay422 (F := F) }

/-- The loss accumulator set to zero. -/
def laccZeroStep (s : St F) : St F := { s with a23 := k0_pay1 (F := F) }

/-- What a product tile does. -/
def dotStep (n : Fin 12) (s : St F) : St F :=
  { s with a15 := VecWindow.put s.a15 ![n.val % 6 * 512, n.val / 6 * 512] S512x512.size (k0_pay3 (View.ld s.a15 (Rect.unit (s := S3072x1024) ![n.val % 6 * 512, n.val / 6 * 512] S512x512.size (inbDa n))) (View.ld s.a3 (Rect.unit (s := S3072x1024) ![n.val % 6 * 512, 0] S512x1024.size (inbDx n))) (View.ld s.a17 (Rect.unit (s := S1024x1024) ![0, n.val / 6 * 512] S1024x512.size (inbDw n)))) }

/-- What an error chunk does. -/
def errStep (n : Fin 48) (s : St F) : St F :=
  { s with
    a23 := k0_pay439 (View.ld s.a4 (Rect.unit (s := S3072x128) ![n.val / 8 * 512, 0] S512x128.size (inbEx n))) (View.ld s.a15 (Rect.unit (s := S3072x1024) ![n.val / 8 * 512, n.val % 8 * 128] S512x128.size (inbEa n))) (View.ld s.a8 (Rect.unit (s := S3072x1024) ![n.val / 8 * 512, n.val % 8 * 128] S512x128.size (inbEa n))) (View.ld s.a23 (Rect.unit (s := S8x128) ![0, 0] S8x128.size inb_S8x128_S8x128_0_0))
    a16 := VecWindow.put s.a16 ![n.val / 8 * 512, n.val % 8 * 128] S512x128.size (k0_pay440 (View.ld s.a4 (Rect.unit (s := S3072x128) ![n.val / 8 * 512, 0] S512x128.size (inbEx n))) (View.ld s.a15 (Rect.unit (s := S3072x1024) ![n.val / 8 * 512, n.val % 8 * 128] S512x128.size (inbEa n))) (View.ld s.a8 (Rect.unit (s := S3072x1024) ![n.val / 8 * 512, n.val % 8 * 128] S512x128.size (inbEa n)))) }

/-- What a group of the backward pass does. -/
def bwdGroupStep (i : grid0.Coords) (d : Fin 4) (j g : Fin 2) (grad : FVec F S256x512 .f32) (s : St F) : St F :=
  { s with
    a9 := VecWindow.put s.a9 ![d.val * 2 + g.val, j.val * 512] S1x512.size (bwdDG (bwdS g grad (bwdR (View.ld s.a19 (Rect.unit (s := S18x8x1024) ![kRow i, d.val * 2 + g.val, j.val * 512] S1x1x512.size (inbBk i d j g))) (View.ld s.a20 (Rect.unit (s := S18x8x1024) ![kRow i, d.val * 2 + g.val, j.val * 512] S1x1x512.size (inbBk i d j g))) (View.ld s.a5 (Rect.unit (s := S1024x1024) ![d.val * 256 + g.val * 128, j.val * 512] S128x512.size (inbBw d j g))))) (View.ld s.a6 (Rect.unit (s := S8x1024) ![d.val * 2 + g.val, j.val * 512] S1x512.size (inbBg d j g))) (View.ld s.a21 (Rect.unit (s := S18x8x1024) ![kRow i, d.val * 2 + g.val, j.val * 512] S1x1x512.size (inbBk i d j g))))
    a10 := VecWindow.put s.a10 ![d.val * 2 + g.val, j.val * 512] S1x512.size (bwdDB (bwdS g grad (bwdR (View.ld s.a19 (Rect.unit (s := S18x8x1024) ![kRow i, d.val * 2 + g.val, j.val * 512] S1x1x512.size (inbBk i d j g))) (View.ld s.a20 (Rect.unit (s := S18x8x1024) ![kRow i, d.val * 2 + g.val, j.val * 512] S1x1x512.size (inbBk i d j g))) (View.ld s.a5 (Rect.unit (s := S1024x1024) ![d.val * 256 + g.val * 128, j.val * 512] S128x512.size (inbBw d j g))))) (View.ld s.a7 (Rect.unit (s := S8x1024) ![d.val * 2 + g.val, j.val * 512] S1x512.size (inbBg d j g))) (View.ld s.a22 (Rect.unit (s := S18x8x1024) ![kRow i, d.val * 2 + g.val, j.val * 512] S1x1x512.size (inbBk i d j g)))) }

/-- What half a strip of the backward pass does. -/
def bwdHalfStep (i : grid0.Coords) (d : Fin 4) (j : Fin 2) (s : St F) : St F :=
  let g := k0_pay657 (View.ld s.a18 (Rect.unit (s := S256x3072) ![0, 0] S256x3072.size inb_S256x3072_S256x3072_0_0)) (View.ld s.a16 (Rect.unit (s := S3072x1024) ![0, j.val * 512] S3072x512.size (inbBe j)))
  bwdGroupStep i d j 1 g (bwdGroupStep i d j 0 g s)

/-- What the transposed strip's store does. -/
def bwdXtStep (d : Fin 4) (s : St F) : St F := { s with a18 := k0_pay656 (View.ld s.a3 (Rect.unit (s := S3072x1024) ![0, d.val * 256] S3072x256.size (inbBx d))) }

/-- What a strip of the backward pass does. -/
def bwdStripStep (i : grid0.Coords) (d : Fin 4) (s : St F) : St F :=
  bwdHalfStep i d 1 (bwdHalfStep i d 0 (bwdXtStep d s))

/-- What the loss store does. -/
def lossStep (s : St F) : St F := { s with a11 := fun _ => k0_pay8 (View.ld s.a23 (Rect.unit (s := S8x128) ![0, 0] S8x128.size inb_S8x128_S8x128_0_0)) }

set_option maxHeartbeats 4000000 in
theorem accZero_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)  (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (accZeroStep s) -∗ K ⟨⟩)) ⊢ wp frame (wpE (defs₀ (F := F)) Variants.none c none) E (accZero arg15 harg15) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold accZero
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; exact View.read_writes_full _ _ _ _ _
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem quantChunk_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (n : Fin 32) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (quantStep i n s) -∗ K ⟨⟩)) ⊢ wp frame (wpE (defs₀ (F := F)) Variants.none c none) E (quantChunk i arg5 harg5 arg6 harg6 arg7 harg7 arg12 harg12 arg13 harg13 arg14 harg14 arg17 harg17 arg19 harg19 arg20 harg20 arg21 harg21 arg22 harg22 n) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold quantChunk
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H13]
  · iexists _; isplitr; swap; · iexact H13
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H14]
  · iexists _; isplitr; swap; · iexact H14
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H18]
  · iexists _; isplitr; · ipureintro; exact harg18.read_unread _
    iexact H18
  isplitl [H19]
  · iexists _; isplitr; swap; · iexact H19
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H20]
  · iexists _; isplitr; swap; · iexact H20
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H21]
  · iexists _; isplitr; swap; · iexact H21
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  isplitl [H22]
  · iexists _; isplitr; swap; · iexact H22
    ipureintro; rw [View.read_writes_cons_put _ _ _ _ _ rfl]; (try unfold quantChunk_wp.sl.v25); (try unfold quantChunk_wp.sl.v30); (try unfold quantChunk_wp.sl.v32); simp only [View.writes_nil, Memref.IsWhole.read_unread, readAt_unread_unit]; rfl
  iexists _; isplitr; · ipureintro; exact harg23.read_unread _
  iexact H23

set_option maxHeartbeats 4000000 in
theorem laccZero_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)  (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (laccZeroStep s) -∗ K ⟨⟩)) ⊢ wp frame (wpE (defs₀ (F := F)) Variants.none c none) E (laccZero arg23 harg23) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold laccZero
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; swap; · iexact H23
  ipureintro; exact View.read_writes_full _ _ _ _ _

set_option maxHeartbeats 4000000 in
theorem dotTile_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (n : Fin 12) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (dotStep n s) -∗ K ⟨⟩)) ⊢ wp frame (wpE (defs₀ (F := F)) Variants.none c none) E (dotTile arg3 harg3 arg15 harg15 arg17 harg17 n) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold dotTile
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; rw [View.read_writes_cons_put _ _ _ _ _ rfl]; (try unfold dotTile_wp.sl.v2016); (try unfold dotTile_wp.sl.v2017); (try unfold dotTile_wp.sl.v2020); simp only [View.writes_nil, Memref.IsWhole.read_unread, readAt_unread_unit]; rfl
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem errChunk_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (n : Fin 48) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (errStep n s) -∗ K ⟨⟩)) ⊢ wp frame (wpE (defs₀ (F := F)) Variants.none c none) E (errChunk arg4 harg4 arg8 harg8 arg15 harg15 arg16 harg16 arg23 harg23 n) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold errChunk
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; swap; · iexact H16
    ipureintro; rw [View.read_writes_cons_put _ _ _ _ _ rfl]; (try unfold errChunk_wp.sl.v25); (try unfold errChunk_wp.sl.v27); (try unfold errChunk_wp.sl.v29); (try unfold errChunk_wp.sl.v33); simp only [View.writes_nil, Memref.IsWhole.read_unread, readAt_unread_unit]; rfl
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; swap; · iexact H23
  ipureintro; refine (View.read_writes_full _ _ _ _ _).trans ?_; (try unfold errChunk_wp.sl.v25); (try unfold errChunk_wp.sl.v27); (try unfold errChunk_wp.sl.v29); (try unfold errChunk_wp.sl.v33); simp only [readAt_unread_unit]; rfl

set_option maxHeartbeats 4000000 in
theorem bwdXt_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (d : Fin 4) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (bwdXtStep d s) -∗ K ⟨⟩)) ⊢ wp frame (wpE (defs₀ (F := F)) Variants.none c none) E (bwdXt arg3 harg3 arg18 harg18 d) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold bwdXt
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; swap; · iexact H18
    ipureintro; refine (View.read_writes_full _ _ _ _ _).trans ?_; (try unfold bwdXt_wp.sl.v25); simp only [readAt_unread_unit]; rfl
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem lossStore_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)  (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (lossStep s) -∗ K ⟨⟩)) ⊢ wp frame (wpE (defs₀ (F := F)) Variants.none c none) E (lossStore arg11 harg11 arg23 harg23) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold lossStore
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro; refine (View.read_writes_full _ _ _ _ _).trans ?_; (try unfold lossStore_wp.sl.v25); simp only [readAt_unread_unit]; rfl
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

set_option maxHeartbeats 4000000 in
theorem bwdHalf_wp (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (d : Fin 4) (j : Fin 2) (s : St F) (E : Set ℕ) (K : PUnit → sProp 𝕄) :
    iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 (bwdHalfStep i d j s) -∗ K ⟨⟩)) ⊢ wp frame (wpE (defs₀ (F := F)) Variants.none c none) E (bwdHalf i arg5 harg5 arg6 harg6 arg7 harg7 arg9 harg9 arg10 harg10 arg19 harg19 arg20 harg20 arg21 harg21 arg22 harg22 arg16 harg16 arg18 harg18 d j) K := by
  unfold own owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  unfold bwdHalf bwdGroup
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro; rw [View.read_writes_cons_put _ _ _ _ _ rfl, View.read_writes_cons_put _ _ _ _ _ rfl]; (try unfold bwdHalf_wp.sl.v32); (try unfold bwdHalf_wp.sl.v33); (try unfold bwdHalf_wp.sl.v36); (try unfold bwdHalf_wp.sl.v39); (try unfold bwdHalf_wp.sl.v41); (try unfold bwdHalf_wp.sl.v67); (try unfold bwdHalf_wp.sl.v69); (try unfold bwdHalf_wp.sl.v76); (try unfold bwdHalf_wp.sl.v81); (try unfold bwdHalf_wp.sl.v89); (try unfold bwdHalf_wp.sl.v36_1); (try unfold bwdHalf_wp.sl.v39_1); (try unfold bwdHalf_wp.sl.v41_1); (try unfold bwdHalf_wp.sl.v67_1); (try unfold bwdHalf_wp.sl.v69_1); (try unfold bwdHalf_wp.sl.v76_1); (try unfold bwdHalf_wp.sl.v81_1); (try unfold bwdHalf_wp.sl.v89_1); simp only [View.writes_nil, Memref.IsWhole.read_unread, readAt_unread_unit]; rfl
  isplitl [H10]
  · iexists _; isplitr; swap; · iexact H10
    ipureintro; rw [View.read_writes_cons_put _ _ _ _ _ rfl, View.read_writes_cons_put _ _ _ _ _ rfl]; (try unfold bwdHalf_wp.sl.v32); (try unfold bwdHalf_wp.sl.v33); (try unfold bwdHalf_wp.sl.v36); (try unfold bwdHalf_wp.sl.v39); (try unfold bwdHalf_wp.sl.v41); (try unfold bwdHalf_wp.sl.v67); (try unfold bwdHalf_wp.sl.v69); (try unfold bwdHalf_wp.sl.v76); (try unfold bwdHalf_wp.sl.v81); (try unfold bwdHalf_wp.sl.v89); (try unfold bwdHalf_wp.sl.v36_1); (try unfold bwdHalf_wp.sl.v39_1); (try unfold bwdHalf_wp.sl.v41_1); (try unfold bwdHalf_wp.sl.v67_1); (try unfold bwdHalf_wp.sl.v69_1); (try unfold bwdHalf_wp.sl.v76_1); (try unfold bwdHalf_wp.sl.v81_1); (try unfold bwdHalf_wp.sl.v89_1); simp only [View.writes_nil, Memref.IsWhole.read_unread, readAt_unread_unit]; rfl
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  iexists _; isplitr; · ipureintro; exact harg23.read_unread _
  iexact H23

end Cert.KernelIdeal.Body

end
-- ==== Proof.Kit.lean ====
/- The conditions of the body's branches at a point, the windows' staging buffers, and the scratch buffers. -/
module

public import proofs.«01_k».proof.Proof.Gen.KernelIdeal.Frame

@[expose] public section

set_option synthInstance.maxSize 4096
set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
theorem hcond0_0 : ∀ t : Fin cfg0.N, cond0_0 (grid0.coords t) ↔ t.val % 252 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_0, e0, e1, e2]
    word_cmp
   : ∀ t : Fin grid0.N, cond0_0 (grid0.coords t) ↔ t.val % 252 = 0)

abbrev cond0_1 (i : grid0.Coords) : Prop := k0_cond2 i = 1#1
theorem hcond0_1 : ∀ t : Fin cfg0.N, cond0_1 (grid0.coords t) ↔ t.val / 18 % 2 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_1, k0_cond2, e0, e1, e2]
    word_cmp
   : ∀ t : Fin grid0.N, cond0_1 (grid0.coords t) ↔ t.val / 18 % 2 = 0)

abbrev cond0_2 (i : grid0.Coords) : Prop := (Scalar.cmpi .ne (Scalar.extui (Scalar.cmpi .eq (BitVec.ofNat 32 (i 2).val) 0#32)) 0#32) = 1#1
theorem hcond0_2 : ∀ t : Fin cfg0.N, cond0_2 (grid0.coords t) ↔ t.val % 18 = 0 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_2, e0, e1, e2]
    word_cmp
   : ∀ t : Fin grid0.N, cond0_2 (grid0.coords t) ↔ t.val % 18 = 0)

abbrev cond0_3 (i : grid0.Coords) : Prop := (Scalar.cmpi .ne (Scalar.extui (Scalar.andi (Scalar.cmpi .eq (BitVec.ofNat 32 (i 1).val) 1#32) (Scalar.cmpi .eq (BitVec.ofNat 32 (i 2).val) 0#32))) 0#32) = 1#1
theorem hcond0_3 : ∀ t : Fin cfg0.N, cond0_3 (grid0.coords t) ↔ t.val % 36 = 18 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_3, e0, e1, e2]
    word_cmp
   : ∀ t : Fin grid0.N, cond0_3 (grid0.coords t) ↔ t.val % 36 = 18)

abbrev cond0_4 (i : grid0.Coords) : Prop := k0_cond5 i = 1#1
theorem hcond0_4 : ∀ t : Fin cfg0.N, cond0_4 (grid0.coords t) ↔ t.val / 18 % 2 = 1 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_4, k0_cond5, e0, e1, e2]
    word_cmp
   : ∀ t : Fin grid0.N, cond0_4 (grid0.coords t) ↔ t.val / 18 % 2 = 1)

abbrev cond0_5 (i : grid0.Coords) : Prop := k0_cond6 i = 1#1
theorem hcond0_5 : ∀ t : Fin cfg0.N, cond0_5 (grid0.coords t) ↔ t.val % 252 = 251 :=
  (fun t => by
    have ht : t.val < 252 := Nat.lt_of_lt_of_eq t.isLt N_0
    have e0 : (grid0.coords t 0).val = t.val / 36 % 7 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_5, k0_cond6, e0, e1, e2]
    word_cmp
   : ∀ t : Fin grid0.N, cond0_5 (grid0.coords t) ↔ t.val % 252 = 251)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev ms0_0 (t : Fin cfg0.N) : Memref sig .tc .vmem S3072x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3072x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
abbrev scM0_0 : Memref sig .tc .vmem S3072x1024 .f32 := Memref.whole cc0_scratch0
abbrev scM0_1 : Memref sig .tc .vmem S3072x1024 .bf16 := Memref.whole cc0_scratch1
abbrev scM0_2 : Memref sig .tc .vmem S1024x1024 .bf16 := Memref.whole cc0_scratch2
abbrev scM0_3 : Memref sig .tc .vmem S256x3072 .bf16 := Memref.whole cc0_scratch3
abbrev scM0_4 : Memref sig .tc .vmem S18x8x1024 .f32 := Memref.whole cc0_scratch4
abbrev scM0_5 : Memref sig .tc .vmem S18x8x1024 .f32 := Memref.whole cc0_scratch5
abbrev scM0_6 : Memref sig .tc .vmem S18x8x1024 .f32 := Memref.whole cc0_scratch6
abbrev scM0_7 : Memref sig .tc .vmem S18x8x1024 .f32 := Memref.whole cc0_scratch7
abbrev scM0_8 : Memref sig .tc .vmem S8x128 .f32 := Memref.whole cc0_scratch8
abbrev VS0_0 : View sig .tc .vmem S3072x1024 .f32 := scM0_0.view
abbrev VS0_8 : View sig .tc .vmem S8x128 .f32 := scM0_8.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl
end Cert.KernelIdeal.Body

end
-- ==== Proof.BodyQuant.lean ====
/- The printed quantiser and product are the passes of chunks. -/
module

public import proofs.«01_k».proof.Proof.Chunks

@[expose] public section

set_option synthInstance.maxSize 4096
set_option maxRecDepth 65536

noncomputable section

namespace Cert.KernelIdeal.Body

open Idealize.ShloMosaic Idealize.SL.Sem Cert.KernelIdeal.Gen

variable {F : FTy → Type} [FloatOps F]

/-- The accumulator's reset, at the first row block only. -/
def accInit (arg2 : BitVec 32) (arg15 : Memref sig .tc .vmem S3072x1024 .f32) (harg15 : arg15.IsWhole) : Prog (TpuEff nD τ sig (Elt F) Λ₀ .tc) PUnit :=
  if k0_h3 : (Scalar.cmpi .ne (Scalar.extui (Scalar.cmpi .eq arg2 0#32) : BitVec 32) 0#32 : BitVec 1) = 1#1 then accZero arg15 harg15 else pure ⟨⟩

theorem accInit_pos (arg2 : BitVec 32) (arg15 : Memref sig .tc .vmem S3072x1024 .f32) (harg15 : arg15.IsWhole) (h : (Scalar.cmpi .ne (Scalar.extui (Scalar.cmpi .eq arg2 0#32) : BitVec 32) 0#32 : BitVec 1) = 1#1) :
    accInit (F := F) arg2 arg15 harg15 = accZero arg15 harg15 := dif_pos h

theorem accInit_neg (arg2 : BitVec 32) (arg15 : Memref sig .tc .vmem S3072x1024 .f32) (harg15 : arg15.IsWhole) (h : ¬ (Scalar.cmpi .ne (Scalar.extui (Scalar.cmpi .eq arg2 0#32) : BitVec 32) 0#32 : BitVec 1) = 1#1) :
    accInit (F := F) arg2 arg15 harg15 = pure ⟨⟩ := dif_neg h

/-- One part of the printed body with its reset a parameter. -/
def part52H (E : Prog (TpuEff nD τ sig (Elt F) Λ₀ .tc) PUnit) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (arg2 : BitVec 32) (k0_h2 : k0_cond2 i = 1#1) (v1856 : FVec F S1x256 .f32) (v1858 : FVec F S1x256 .f32) (v1871 : FVec F S1x256 .f32) (v1875 : FVec F S1x256 .f32) (v1888 : FVec F S128x256 .f32) (v1889 : FVec F S128x256 .f32) :
    Prog (TpuEff nD τ sig (Elt F) Λ₀ .tc) (Σ' (v1916 : Vec F S512x512 .f32), FVec F S512x1024 .bf16) := do
  let v1892 : Vec F S128x256 .bf16 ← Prog.lift (.load arg17 (Rect.unit (s := S1024x1024) ![896, 768] S128x256.size inb_S1024x1024_S128x256_896_768).toLoadRect (View.loadsAt_vmem h_S128x256))
  Prog.lift (.store arg17 (Rect.unit (s := S1024x1024) ![896, 768] S128x256.size inb_S1024x1024_S128x256_896_768) (k0_pay417 v1888 v1889) Finset.univ (View.stores_vmem h_S128x256 (harg17.storeExact_slice rfl _ packedbf16_S1024x1024_S128x256_896_768) (fun _ => rfl)) (.inl rfl))
  let v1895 : Vec F S1x256 .f32 ← Prog.lift (.load arg13 (Rect.unit (s := S8x1024) ![7, 768] S1x256.size inb_S8x1024_S1x256_7_768).toLoadRect (View.loadsAt_vmem h_S1x256))
  Prog.lift (.store arg13 (Rect.unit (s := S8x1024) ![7, 768] S1x256.size inb_S8x1024_S1x256_7_768) v1871 Finset.univ (View.stores_vmem_bits_univ h_S1x256 rfl) (.inl rfl))
  let v1896 : Vec F S1x256 .f32 ← Prog.lift (.load arg14 (Rect.unit (s := S8x1024) ![7, 768] S1x256.size inb_S8x1024_S1x256_7_768).toLoadRect (View.loadsAt_vmem h_S1x256))
  Prog.lift (.store arg14 (Rect.unit (s := S8x1024) ![7, 768] S1x256.size inb_S8x1024_S1x256_7_768) v1875 Finset.univ (View.stores_vmem_bits_univ h_S1x256 rfl) (.inl rfl))
  let v1898 : Vec F S1x1x256 .f32 ← Prog.lift (.load arg19 (Rect.unit (s := S18x8x1024) (k0_off32 i) S1x1x256.size (k0_off32_inb i k0_h2)).toLoadRect (View.loadsAt_vmem h_S1x1x256))
  Prog.lift (.store arg19 (Rect.unit (s := S18x8x1024) (k0_off32 i) S1x1x256.size (k0_off32_inb i k0_h2)) (k0_pay418 v1871) Finset.univ (View.stores_vmem_bits_univ h_S1x1x256 rfl) (.inl rfl))
  let v1902 : Vec F S1x1x256 .f32 ← Prog.lift (.load arg20 (Rect.unit (s := S18x8x1024) (k0_off32 i) S1x1x256.size (k0_off32_inb i k0_h2)).toLoadRect (View.loadsAt_vmem h_S1x1x256))
  Prog.lift (.store arg20 (Rect.unit (s := S18x8x1024) (k0_off32 i) S1x1x256.size (k0_off32_inb i k0_h2)) (k0_pay419 v1875) Finset.univ (View.stores_vmem_bits_univ h_S1x1x256 rfl) (.inl rfl))
  let v1906 : Vec F S1x1x256 .f32 ← Prog.lift (.load arg21 (Rect.unit (s := S18x8x1024) (k0_off32 i) S1x1x256.size (k0_off32_inb i k0_h2)).toLoadRect (View.loadsAt_vmem h_S1x1x256))
  Prog.lift (.store arg21 (Rect.unit (s := S18x8x1024) (k0_off32 i) S1x1x256.size (k0_off32_inb i k0_h2)) (k0_pay420 v1856) Finset.univ (View.stores_vmem_bits_univ h_S1x1x256 rfl) (.inl rfl))
  let v1910 : Vec F S1x1x256 .f32 ← Prog.lift (.load arg22 (Rect.unit (s := S18x8x1024) (k0_off32 i) S1x1x256.size (k0_off32_inb i k0_h2)).toLoadRect (View.loadsAt_vmem h_S1x1x256))
  Prog.lift (.store arg22 (Rect.unit (s := S18x8x1024) (k0_off32 i) S1x1x256.size (k0_off32_inb i k0_h2)) (k0_pay421 v1858) Finset.univ (View.stores_vmem_bits_univ h_S1x1x256 rfl) (.inl rfl))
  let v1913 : BitVec 1 := Scalar.cmpi .eq arg2 0#32
  let v1914 : BitVec 32 := Scalar.extui v1913
  let v1915 : BitVec 1 := Scalar.cmpi .ne v1914 0#32
  E
  let v1916 : Vec F S512x512 .f32 ← Prog.lift (.load arg15 (Rect.unit (s := S3072x1024) ![0, 0] S512x512.size inb_S3072x1024_S512x512_0_0).toLoadRect (View.loadsAt_vmem h_S512x512))
  let v1917 : Vec F S512x1024 .fp8e4m3 ← Prog.lift (.load arg3 (Rect.unit (s := S3072x1024) ![0, 0] S512x1024.size inb_S3072x1024_S512x1024_0_0).toLoadRect (View.loadsAt_vmem h_S512x1024))
  pure ⟨v1916, k0_pay423 v1917⟩
set_option maxRecDepth 65536 in
/-- The printed `k0_part52` is its skeleton: by definitional unfolding. -/

theorem part52_eq : k0_part52 (F := F) = fun i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889 => part52H (accInit arg2 arg15 harg15) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889 := by
  funext i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889
  rw [k0_part52_eq_skeleton]
  unfold k0_part52_skel part52H accInit
  by_cases h : (Scalar.cmpi .ne (Scalar.extui (Scalar.cmpi .eq arg2 0#32) : BitVec 32) 0#32 : BitVec 1) = 1#1
  · simp only [dif_pos h]; rfl
  · simp only [dif_neg h]; rfl

/-- The printed quantiser and product with the reset a parameter. -/
def part56H (E : Prog (TpuEff nD τ sig (Elt F) Λ₀ .tc) PUnit) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (arg2 : BitVec 32) (k0_h2 : k0_cond2 i = 1#1) :
    Prog (TpuEff nD τ sig (Elt F) Λ₀ .tc) (FVec F S512x512 .f32) := do
  let ⟨v27, v29, v42, v46, v65⟩ : Σ' (v27 : FVec F S1x256 .f32) (v29 : FVec F S1x256 .f32) (v42 : FVec F S1x256 .f32) (v46 : FVec F S1x256 .f32), FVec F S128x256 .bf16 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  let ⟨v84, v86, v88, v94, v97⟩ : Σ' (v84 : Vec F S128x256 .f32) (v86 : FVec F S1x256 .f32) (v88 : FVec F S1x256 .f32) (v94 : FVec F S1x256 .f32), FVec F S1x256 .f32 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v27 v29 v42 v46 v65
  k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v84 v94 v97
  let ⟨v145, v147, v160, v164, v173, v174⟩ : Σ' (v145 : FVec F S1x256 .f32) (v147 : FVec F S1x256 .f32) (v160 : FVec F S1x256 .f32) (v164 : FVec F S1x256 .f32) (v173 : FVec F S128x256 .f32), IVec S128x256 8 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v86 v88
  let ⟨v202, v204, v206⟩ : Σ' (v202 : Vec F S128x256 .f32) (v204 : FVec F S1x256 .f32), FVec F S1x256 .f32 ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v145 v147 v160 v164 v173 v174
  let ⟨v219, v223⟩ : Σ' (v219 : FVec F S1x256 .f32), FVec F S1x256 .f32 ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v202 v204 v206
  let ⟨v261, v263, v265, v278, v280, cst_135⟩ : Σ' (v261 : Vec F S128x256 .f32) (v263 : FVec F S1x256 .f32) (v265 : FVec F S1x256 .f32) (v278 : FVec F S1x256 .f32) (v280 : FVec F S1x256 .f32), F .f32 ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v204 v206 v219 v223
  k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v261 v263 v278 v280 cst_135
  let ⟨v322, v324, v337, v341, v357⟩ : Σ' (v322 : FVec F S1x256 .f32) (v324 : FVec F S1x256 .f32) (v337 : FVec F S1x256 .f32) (v341 : FVec F S1x256 .f32), FVec F S128x256 .bf16 ← k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v265
  let ⟨v379, v381, v383, v387, v388⟩ : Σ' (v379 : Vec F S128x256 .f32) (v381 : FVec F S1x256 .f32) (v383 : FVec F S1x256 .f32) (v387 : FVec F S1x256 .f32), FVec F S1x256 .f32 ← k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v322 v324 v337 v341 v357
  let v400 : FVec F S1x256 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v379 v383 v387 v388
  let ⟨v440, v442, v455, v459, v464, cst_226, cst_227⟩ : Σ' (v440 : FVec F S1x256 .f32) (v442 : FVec F S1x256 .f32) (v455 : FVec F S1x256 .f32) (v459 : FVec F S1x256 .f32) (v464 : FVec F S128x256 .f32) (cst_226 : F .f32), F .f32 ← k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v381 v383 v400
  let v497 : Vec F S128x256 .f32 ← k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v440 v442 v455 v459 v464 cst_226 cst_227
  let ⟨v499, v501, v514, v518⟩ : Σ' (v499 : FVec F S1x256 .f32) (v501 : FVec F S1x256 .f32) (v514 : FVec F S1x256 .f32), FVec F S1x256 .f32 ← k0_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v497
  let ⟨v556, v558, v560, v566, v569, v571, cst_283⟩ : Σ' (v556 : Vec F S128x256 .f32) (v558 : FVec F S1x256 .f32) (v560 : FVec F S1x256 .f32) (v566 : FVec F S1x256 .f32) (v569 : FVec F S1x256 .f32) (v571 : IVec S1x256 1), F .f32 ← k0_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v499 v501 v514 v518
  let v608 : Vec F S1x1x256 .f32 ← k0_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v556 v566 v569 v571 cst_283
  let ⟨v617, v619, v632, v636, v645⟩ : Σ' (v617 : FVec F S1x256 .f32) (v619 : FVec F S1x256 .f32) (v632 : FVec F S1x256 .f32) (v636 : FVec F S1x256 .f32), FVec F S128x256 .f32 ← k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v558 v560 v608
  let ⟨v674, v676, v678, v680⟩ : Σ' (v674 : Vec F S128x256 .f32) (v676 : FVec F S1x256 .f32) (v678 : FVec F S1x256 .f32), FVec F S1x256 .f32 ← k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v617 v619 v632 v636 v645
  let ⟨v691, v695, v718⟩ : Σ' (v691 : FVec F S1x256 .f32) (v695 : FVec F S1x256 .f32), Vec F S1x1x256 .f32 ← k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v674 v676 v678 v680
  let ⟨v735, v737, v750, v754, v756⟩ : Σ' (v735 : FVec F S1x256 .f32) (v737 : FVec F S1x256 .f32) (v750 : FVec F S1x256 .f32) (v754 : FVec F S1x256 .f32), FVec F S128x256 .f32 ← k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v676 v678 v691 v695 v718
  let v791 : FVec F S1x1x256 .f32 ← k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v735 v737 v750 v754 v756
  let ⟨v794, v796, v809, v813, v829⟩ : Σ' (v794 : FVec F S1x256 .f32) (v796 : FVec F S1x256 .f32) (v809 : FVec F S1x256 .f32) (v813 : FVec F S1x256 .f32), FVec F S128x256 .bf16 ← k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v791
  let ⟨v851, v853, v855, v861, v862, v863⟩ : Σ' (v851 : Vec F S128x256 .f32) (v853 : FVec F S1x256 .f32) (v855 : FVec F S1x256 .f32) (v861 : FVec F S1x256 .f32) (v862 : FVec F S1x256 .f32), FVec F S1x256 .f32 ← k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v794 v796 v809 v813 v829
  let v901 : FVec F S1x1x256 .f32 ← k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v851 v861 v862 v863
  let ⟨v912, v914, v927, v931, v940⟩ : Σ' (v912 : FVec F S1x256 .f32) (v914 : FVec F S1x256 .f32) (v927 : FVec F S1x256 .f32) (v931 : FVec F S1x256 .f32), FVec F S128x256 .f32 ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v853 v855 v901
  let ⟨v969, v971, v972⟩ : Σ' (v969 : Vec F S128x256 .f32) (v971 : FVec F S1x256 .f32), FVec F S256 .f32 ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v912 v914 v927 v931 v940
  let ⟨v973, v986, v990⟩ : Σ' (v973 : FVec F S1x256 .f32) (v986 : FVec F S1x256 .f32), FVec F S1x256 .f32 ← k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v969 v971 v972
  let ⟨v1028, v1030, v1032, v1045, v1047⟩ : Σ' (v1028 : Vec F S128x256 .f32) (v1030 : FVec F S1x256 .f32) (v1032 : FVec F S1x256 .f32) (v1045 : FVec F S1x256 .f32), FVec F S1x256 .f32 ← k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v971 v973 v986 v990
  k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1028 v1030 v1045 v1047
  let ⟨v1089, v1091, v1104, v1108, v1123⟩ : Σ' (v1089 : FVec F S1x256 .f32) (v1091 : FVec F S1x256 .f32) (v1104 : FVec F S1x256 .f32) (v1108 : FVec F S1x256 .f32), FVec F S128x256 .f32 ← k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v1032
  let ⟨v1146, v1148, v1150, v1152, v1154⟩ : Σ' (v1146 : Vec F S128x256 .f32) (v1148 : FVec F S1x256 .f32) (v1150 : FVec F S1x256 .f32) (v1152 : FVec F S1x256 .f32), FVec F S1x256 .f32 ← k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1089 v1091 v1104 v1108 v1123
  let v1167 : FVec F S1x256 .f32 ← k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1146 v1148 v1150 v1152 v1154
  let ⟨v1207, v1209, v1222, v1226, v1231, cst_610⟩ : Σ' (v1207 : FVec F S1x256 .f32) (v1209 : FVec F S1x256 .f32) (v1222 : FVec F S1x256 .f32) (v1226 : FVec F S1x256 .f32) (v1231 : FVec F S128x256 .f32), F .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1148 v1150 v1167
  let v1264 : Vec F S128x256 .f32 ← k0_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1207 v1209 v1222 v1226 v1231 cst_610
  let ⟨v1266, v1268, v1281, v1285⟩ : Σ' (v1266 : FVec F S1x256 .f32) (v1268 : FVec F S1x256 .f32) (v1281 : FVec F S1x256 .f32), FVec F S1x256 .f32 ← k0_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1264
  let ⟨v1323, v1325, v1327, v1333, v1336, v1338⟩ : Σ' (v1323 : Vec F S128x256 .f32) (v1325 : FVec F S1x256 .f32) (v1327 : FVec F S1x256 .f32) (v1333 : FVec F S1x256 .f32) (v1336 : FVec F S1x256 .f32), IVec S1x256 1 ← k0_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1266 v1268 v1281 v1285
  k0_part37 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1323 v1333 v1336 v1338
  let ⟨v1384, v1386, v1399, v1403, v1412, v1413⟩ : Σ' (v1384 : FVec F S1x256 .f32) (v1386 : FVec F S1x256 .f32) (v1399 : FVec F S1x256 .f32) (v1403 : FVec F S1x256 .f32) (v1412 : FVec F S128x256 .f32), IVec S128x256 8 ← k0_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1325 v1327
  let ⟨v1441, v1443, v1445, v1446⟩ : Σ' (v1441 : Vec F S128x256 .f32) (v1443 : FVec F S1x256 .f32) (v1445 : FVec F S1x256 .f32), Vec F S1x256 .f32 ← k0_part39 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1384 v1386 v1399 v1403 v1412 v1413
  let ⟨v1458, v1462⟩ : Σ' (v1458 : FVec F S1x256 .f32), FVec F S1x256 .f32 ← k0_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v1441 v1443 v1445 v1446
  let ⟨v1500, v1502, v1504, v1517, v1521, v1522⟩ : Σ' (v1500 : Vec F S128x256 .f32) (v1502 : FVec F S1x256 .f32) (v1504 : FVec F S1x256 .f32) (v1517 : FVec F S1x256 .f32) (v1521 : FVec F S1x256 .f32), FVec F S128x256 .f32 ← k0_part41 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1443 v1445 v1458 v1462
  k0_part42 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1500 v1502 v1517 v1521 v1522
  let ⟨v1561, v1563, v1576, v1580, v1596, v1597⟩ : Σ' (v1561 : FVec F S1x256 .f32) (v1563 : FVec F S1x256 .f32) (v1576 : FVec F S1x256 .f32) (v1580 : FVec F S1x256 .f32) (v1596 : FVec F S128x256 .bf16), Vec F S128x256 .bf16 ← k0_part43 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 v1504
  let ⟨v1618, v1620, v1622, v1628, v1629, cst_815⟩ : Σ' (v1618 : Vec F S128x256 .f32) (v1620 : FVec F S1x256 .f32) (v1622 : FVec F S1x256 .f32) (v1628 : FVec F S1x256 .f32) (v1629 : FVec F S1x256 .f32), F .f32 ← k0_part44 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1561 v1563 v1576 v1580 v1596 v1597
  let v1639 : FVec F S1x256 .f32 ← k0_part45 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1618 v1628 v1629 cst_815
  let ⟨v1679, v1681, v1694, v1698, v1705, v1706⟩ : Σ' (v1679 : FVec F S1x256 .f32) (v1681 : FVec F S1x256 .f32) (v1694 : FVec F S1x256 .f32) (v1698 : FVec F S1x256 .f32) (v1705 : FVec F S128x256 .f32), FVec F S128x256 .f32 ← k0_part46 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1620 v1622 v1639
  let ⟨v1736, v1738⟩ : Σ' (v1736 : Vec F S128x256 .f32), FVec F S1x256 .f32 ← k0_part47 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1679 v1681 v1694 v1698 v1705 v1706
  let ⟨v1740, v1753, v1757⟩ : Σ' (v1740 : FVec F S1x256 .f32) (v1753 : FVec F S1x256 .f32), FVec F S1x256 .f32 ← k0_part48 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1736 v1738
  let ⟨v1795, v1797, v1799, v1812, v1813⟩ : Σ' (v1795 : Vec F S128x256 .f32) (v1797 : FVec F S1x256 .f32) (v1799 : FVec F S1x256 .f32) (v1812 : FVec F S1x256 .f32), FVec F S1x256 .f32 ← k0_part49 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1738 v1740 v1753 v1757
  k0_part50 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1795 v1797 v1812 v1813
  let ⟨v1856, v1858, v1871, v1875, v1888, v1889⟩ : Σ' (v1856 : FVec F S1x256 .f32) (v1858 : FVec F S1x256 .f32) (v1871 : FVec F S1x256 .f32) (v1875 : FVec F S1x256 .f32) (v1888 : FVec F S128x256 .f32), FVec F S128x256 .f32 ← k0_part51 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1799
  let ⟨v1916, v1919⟩ : Σ' (v1916 : Vec F S512x512 .f32), FVec F S512x1024 .bf16 ← part52H E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 v1856 v1858 v1871 v1875 v1888 v1889
  let ⟨v1946, v1949⟩ : Σ' (v1946 : Vec F S512x512 .f32), FVec F S512x1024 .bf16 ← k0_part53 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1916 v1919
  let ⟨v1976, v1979⟩ : Σ' (v1976 : Vec F S512x512 .f32), FVec F S512x1024 .bf16 ← k0_part54 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1946 v1949
  let ⟨v2006, v2009⟩ : Σ' (v2006 : Vec F S512x512 .f32), FVec F S512x1024 .bf16 ← k0_part55 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1976 v1979
  let v2010 : Vec F S1024x512 .bf16 ← Prog.lift (.load arg17 (Rect.unit (s := S1024x1024) ![0, 512] S1024x512.size inb_S1024x1024_S1024x512_0_512).toLoadRect (View.loadsAt_vmem h_S1024x512))
  pure (k0_pay436 v2006 v2009 v2010)
set_option maxRecDepth 65536 in

theorem part56_eq (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (arg2 : BitVec 32) (k0_h2 : k0_cond2 i = 1#1) : k0_part56 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 = part56H (accInit arg2 arg15 harg15) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2 := by
  rw [k0_part56_eq_skeleton]
  unfold k0_part56_skel
  rw [part52_eq]
  rfl

set_option maxHeartbeats 8000000 in
theorem quantH_pos (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← part56H (accZero arg15 harg15) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (accZero arg15 harg15 >>= fun _ => dotPass arg3 harg3 arg15 harg15 arg17 harg17 >>= K)) := rfl

set_option maxHeartbeats 8000000 in
theorem quantH_neg (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← part56H (pure ⟨⟩) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (dotPass arg3 harg3 arg15 harg15 arg17 harg17 >>= K)) := rfl

set_option maxHeartbeats 8000000 in
theorem quant_pos (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (k0_h3 : Scalar.cmpi .ne (Scalar.extui (Scalar.cmpi .eq (BitVec.ofNat 32 (i 2).val) 0#32) : BitVec 32) 0#32 = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← k0_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (accZero arg15 harg15 >>= fun _ => dotPass arg3 harg3 arg15 harg15 arg17 harg17 >>= K)) := by
  have h := (part56_eq (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2).trans (congrArg (fun E => part56H E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2) (accInit_pos _ _ harg15 k0_h3))
  exact (congrArg (fun P => P >>= _) h).trans (quantH_pos i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 K)

set_option maxHeartbeats 8000000 in
theorem quant_neg (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h2 : k0_cond2 i = 1#1) (k0_h3 : ¬ Scalar.cmpi .ne (Scalar.extui (Scalar.cmpi .eq (BitVec.ofNat 32 (i 2).val) 0#32) : BitVec 32) 0#32 = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let v2012 : FVec F S512x512 .f32 ← k0_part56 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h2
    let v2013 : Vec F S512x512 .f32 ← Prog.lift (.load arg15 (Rect.unit (s := S3072x1024) ![1536, 512] S512x512.size inb_S3072x1024_S512x512_1536_512).toLoadRect (View.loadsAt_vmem h_S512x512))
    Prog.lift (.store arg15 (Rect.unit (s := S3072x1024) ![1536, 512] S512x512.size inb_S3072x1024_S512x512_1536_512) (k0_pay2 v2012) Finset.univ (View.stores_vmem_bits_univ h_S512x512 rfl) (.inl rfl))
    let v2016 : Vec F S512x512 .f32 ← Prog.lift (.load arg15 (Rect.unit (s := S3072x1024) ![2048, 512] S512x512.size inb_S3072x1024_S512x512_2048_512).toLoadRect (View.loadsAt_vmem h_S512x512))
    let v2017 : Vec F S512x1024 .fp8e4m3 ← Prog.lift (.load arg3 (Rect.unit (s := S3072x1024) ![2048, 0] S512x1024.size inb_S3072x1024_S512x1024_2048_0).toLoadRect (View.loadsAt_vmem h_S512x1024))
    let v2020 : Vec F S1024x512 .bf16 ← Prog.lift (.load arg17 (Rect.unit (s := S1024x1024) ![0, 512] S1024x512.size inb_S1024x1024_S1024x512_0_512).toLoadRect (View.loadsAt_vmem h_S1024x512))
    let v2023 : Vec F S512x512 .f32 ← Prog.lift (.load arg15 (Rect.unit (s := S3072x1024) ![2048, 512] S512x512.size inb_S3072x1024_S512x512_2048_512).toLoadRect (View.loadsAt_vmem h_S512x512))
    Prog.lift (.store arg15 (Rect.unit (s := S3072x1024) ![2048, 512] S512x512.size inb_S3072x1024_S512x512_2048_512) (k0_pay3 v2016 v2017 v2020) Finset.univ (View.stores_vmem_bits_univ h_S512x512 rfl) (.inl rfl))
    let v2026 : Vec F S512x512 .f32 ← Prog.lift (.load arg15 (Rect.unit (s := S3072x1024) ![2560, 512] S512x512.size inb_S3072x1024_S512x512_2560_512).toLoadRect (View.loadsAt_vmem h_S512x512))
    let v2027 : Vec F S512x1024 .fp8e4m3 ← Prog.lift (.load arg3 (Rect.unit (s := S3072x1024) ![2560, 0] S512x1024.size inb_S3072x1024_S512x1024_2560_0).toLoadRect (View.loadsAt_vmem h_S512x1024))
    let v2030 : Vec F S1024x512 .bf16 ← Prog.lift (.load arg17 (Rect.unit (s := S1024x1024) ![0, 512] S1024x512.size inb_S1024x1024_S1024x512_0_512).toLoadRect (View.loadsAt_vmem h_S1024x512))
    let v2033 : Vec F S512x512 .f32 ← Prog.lift (.load arg15 (Rect.unit (s := S3072x1024) ![2560, 512] S512x512.size inb_S3072x1024_S512x512_2560_512).toLoadRect (View.loadsAt_vmem h_S512x512))
    Prog.lift (.store arg15 (Rect.unit (s := S3072x1024) ![2560, 512] S512x512.size inb_S3072x1024_S512x512_2560_512) (k0_pay4 v2026 v2027 v2030) Finset.univ (View.stores_vmem_bits_univ h_S512x512 rfl) (.inl rfl))
    K ⟨⟩) = (quantPass i arg5 harg5 arg6 harg6 arg7 harg7 arg12 harg12 arg13 harg13 arg14 harg14 arg17 harg17 arg19 harg19 arg20 harg20 arg21 harg21 arg22 harg22 >>= fun _ => (dotPass arg3 harg3 arg15 harg15 arg17 harg17 >>= K)) := by
  have h := (part56_eq (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2).trans (congrArg (fun E => part56H E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 2).val) k0_h2) (accInit_neg _ _ harg15 k0_h3))
  exact (congrArg (fun P => P >>= _) h).trans (quantH_neg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 K)

end Cert.KernelIdeal.Body

end
-- ==== Proof.BodyErr.lean ====
/- The printed body is its passes in sequence. -/
module

public import proofs.«01_k».proof.Proof.Chunks

@[expose] public section

set_option synthInstance.maxSize 4096
set_option maxRecDepth 65536

noncomputable section

namespace Cert.KernelIdeal.Body

open Idealize.ShloMosaic Idealize.SL.Sem Cert.KernelIdeal.Gen

variable {F : FTy → Type} [FloatOps F]

set_option maxHeartbeats 4000000 in
theorem errPass_eq (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (K : PUnit → Prog (TpuEff nD τ sig (Elt F) Λ₀ .tc) PUnit) :
    (do
      let ⟨v1013, v1019, v1020, v1022⟩ : Σ' (v1013 : FVec F S512x128 .f32) (v1019 : FVec F S512x128 .f32) (v1020 : Vec F S8x128 .f32), FVec F S64x8x128 .f32 ← k0_part85 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
        let v1025 : Vec F S8x128 .f32 ← Prog.lift (.load arg23 (Rect.unit (s := S8x128) ![0, 0] S8x128.size inb_S8x128_S8x128_0_0).toLoadRect (View.loadsAt_vmem h_S8x128))
      Prog.lift (.store arg23 (Rect.unit (s := S8x128) ![0, 0] S8x128.size inb_S8x128_S8x128_0_0) (k0_pay5 v1020 v1022) Finset.univ (View.stores_vmem_bits_univ h_S8x128 rfl) (.inl rfl))
      let v1030 : Vec F S512x128 .bf16 ← Prog.lift (.load arg16 (Rect.unit (s := S3072x1024) ![2560, 896] S512x128.size inb_S3072x1024_S512x128_2560_896).toLoadRect (View.loadsAt_vmem h_S512x128))
      Prog.lift (.store arg16 (Rect.unit (s := S3072x1024) ![2560, 896] S512x128.size inb_S3072x1024_S512x128_2560_896) (k0_pay6 v1013 v1019) Finset.univ (View.stores_vmem h_S512x128 (harg16.storeExact_slice rfl _ packedbf16_S3072x1024_S512x128_2560_896) (fun _ => rfl)) (.inl rfl))
      K ⟨⟩) = (errPass arg4 harg4 arg8 harg8 arg15 harg15 arg16 harg16 arg23 harg23 >>= K) := rfl

end Cert.KernelIdeal.Body

end
-- ==== Proof.BodyBwd.lean ====
/- The printed backward pass is the pass of strips. -/
module

public import proofs.«01_k».proof.Proof.Chunks

@[expose] public section

set_option synthInstance.maxSize 4096
set_option maxRecDepth 65536

noncomputable section

namespace Cert.KernelIdeal.Body

open Idealize.ShloMosaic Idealize.SL.Sem Cert.KernelIdeal.Gen

variable {F : FTy → Type} [FloatOps F]

set_option maxHeartbeats 8000000 in
theorem bwd_eq (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (k0_h5 : k0_cond5 i = 1#1) (K : PUnit → Prog (TpuEff nD τ sig (Elt F) Λ₀ .tc) PUnit) :
    (do
    let arg0 : BitVec 32 := BitVec.ofNat 32 (i 0).val
    let arg1 : BitVec 32 := BitVec.ofNat 32 (i 1).val
    let arg2 : BitVec 32 := BitVec.ofNat 32 (i 2).val
    let ⟨v34, v62⟩ : Σ' (v34 : FVec F S256x512 .f32), FVec F S128x512 .f32 ← k0_part86 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5
    let v97 : FVec F S1x512 .f32 ← k0_part87 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v62
    let ⟨v126, v130, v140⟩ : Σ' (v126 : FVec F S1x512 .f32) (v130 : FVec F S1x512 .f32), FVec F S1x512 .f32 ← k0_part88 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v34 v97
    let ⟨v157, v163, v166, v169, v173, v175, cst_89⟩ : Σ' (v157 : FVec F S256x512 .f32) (v163 : FVec F S1x512 .f32) (v166 : FVec F S128x512 .f32) (v169 : FVec F S128x512 .f32) (v173 : FVec F S128x512 .f32) (v175 : IVec S128x512 1), F .f32 ← k0_part89 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v126 v130 v140
    let v216 : FVec F S1x512 .f32 ← k0_part90 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v157 v163 v166 v169 v173 v175 cst_89
    let ⟨v249, v251, v253, v254, v255⟩ : Σ' (v249 : FVec F S1x512 .f32) (v251 : FVec F S1x512 .f32) (v253 : FVec F S1x512 .f32) (v254 : FVec F S1x512 .f32), FVec F S1x512 .f32 ← k0_part91 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v157 v216
    let ⟨v287, v289⟩ : Σ' (v287 : FVec F S256x512 .f32), Vec F S1x1x512 .f32 ← k0_part92 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v249 v251 v253 v254 v255
    let ⟨v319, v323, v331⟩ : Σ' (v319 : FVec F S1x512 .f32) (v323 : FVec F S1x512 .f32), FVec F S1x512 .f32 ← k0_part93 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v287 v289
    let ⟨v353, v356, v363, v368, cst_185⟩ : Σ' (v353 : FVec F S1x512 .f32) (v356 : FVec F S128x512 .f32) (v363 : FVec F S128x512 .f32) (v368 : IVec S128x512 1), F .f32 ← k0_part94 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v319 v323 v331
    k0_part95 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v287 v353 v356 v363 v368 cst_185
    let ⟨v410, v442, v444, v445⟩ : Σ' (v410 : FVec F S256x512 .f32) (v442 : FVec F S1x512 .f32) (v444 : FVec F S1x512 .f32), Vec F S1x512 .f32 ← k0_part96 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5
    let ⟨v476, v479, v482, cst_246, cst_247⟩ : Σ' (v476 : FVec F S1x512 .f32) (v479 : FVec F S128x512 .f32) (v482 : FVec F S128x512 .f32) (cst_246 : F .f32), F .f32 ← k0_part97 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v442 v444 v445
    let v523 : FVec F S1x512 .f32 ← k0_part98 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v410 v476 v479 v482 cst_246 cst_247
    let ⟨v540, v546, v549, v552, v556, v558, cst_287⟩ : Σ' (v540 : FVec F S256x512 .f32) (v546 : FVec F S1x512 .f32) (v549 : FVec F S128x512 .f32) (v552 : FVec F S128x512 .f32) (v556 : FVec F S128x512 .f32) (v558 : IVec S128x512 1), F .f32 ← k0_part99 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v523
    let v599 : FVec F S1x512 .f32 ← k0_part100 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v540 v546 v549 v552 v556 v558 cst_287
    let ⟨v632, v634, v636, v637, v638⟩ : Σ' (v632 : FVec F S1x512 .f32) (v634 : FVec F S1x512 .f32) (v636 : FVec F S1x512 .f32) (v637 : FVec F S1x512 .f32), FVec F S1x512 .f32 ← k0_part101 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v540 v599
    let ⟨v663, v669, v672, v673⟩ : Σ' (v663 : FVec F S256x512 .f32) (v669 : FVec F S1x512 .f32) (v672 : FVec F S128x512 .f32), FVec F S128x512 .f32 ← k0_part102 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v632 v634 v636 v637 v638
    let ⟨v699, v713, cst_365⟩ : Σ' (v699 : FVec F S1x512 .f32) (v713 : FVec F S1x512 .f32), F .f32 ← k0_part103 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v663 v669 v672 v673
    let ⟨v753, v754⟩ : Σ' (v753 : FVec F S1x512 .f32), FVec F S1x512 .f32 ← k0_part104 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v663 v699 v713 cst_365
    k0_part105 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v753 v754
    let ⟨v793, v825, v827, v828⟩ : Σ' (v793 : FVec F S256x512 .f32) (v825 : FVec F S1x512 .f32) (v827 : FVec F S1x512 .f32), Vec F S1x512 .f32 ← k0_part106 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5
    let ⟨v859, v862, v865, cst_442, cst_443⟩ : Σ' (v859 : FVec F S1x512 .f32) (v862 : FVec F S128x512 .f32) (v865 : FVec F S128x512 .f32) (cst_442 : F .f32), F .f32 ← k0_part107 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v825 v827 v828
    let v906 : FVec F S1x512 .f32 ← k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v793 v859 v862 v865 cst_442 cst_443
    let ⟨v916, v944⟩ : Σ' (v916 : FVec F S256x512 .f32), FVec F S128x512 .f32 ← k0_part109 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v906
    let v979 : FVec F S1x512 .f32 ← k0_part110 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v944
    let ⟨v1008, v1012, v1022⟩ : Σ' (v1008 : FVec F S1x512 .f32) (v1012 : FVec F S1x512 .f32), FVec F S1x512 .f32 ← k0_part111 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 k0_h5 v916 v979
    let v1023 : Vec F S1x512 .f32 ← Prog.lift (.load arg9 (Rect.unit (s := S8x1024) ![7, 512] S1x512.size inb_S8x1024_S1x512_7_512).toLoadRect (View.loadsAt_vmem h_S1x512))
    Prog.lift (.store arg9 (Rect.unit (s := S8x1024) ![7, 512] S1x512.size inb_S8x1024_S1x512_7_512) v1022 Finset.univ (View.stores_vmem_bits_univ h_S1x512 rfl) (.inl rfl))
    let v1031 : Vec F S1x1x512 .f32 ← Prog.lift (.load arg22 (Rect.unit (s := S18x8x1024) (k0_off48 i) S1x1x512.size (k0_off48_inb i k0_h5)).toLoadRect (View.loadsAt_vmem h_S1x1x512))
    let v1036 : Vec F S1x512 .f32 ← Prog.lift (.load arg10 (Rect.unit (s := S8x1024) ![7, 512] S1x512.size inb_S8x1024_S1x512_7_512).toLoadRect (View.loadsAt_vmem h_S1x512))
    Prog.lift (.store arg10 (Rect.unit (s := S8x1024) ![7, 512] S1x512.size inb_S8x1024_S1x512_7_512) (k0_pay7 v1008 v1012 v1031) Finset.univ (View.stores_vmem_bits_univ h_S1x512 rfl) (.inl rfl))
    K ⟨⟩) = (bwdPass i arg3 harg3 arg5 harg5 arg6 harg6 arg7 harg7 arg9 harg9 arg10 harg10 arg19 harg19 arg20 harg20 arg21 harg21 arg22 harg22 arg16 harg16 arg18 harg18 >>= K) := rfl

end Cert.KernelIdeal.Body

end
-- ==== Proof.BodyCases.lean ====
/- The printed body in each of its six cases. -/
module

public import proofs.«01_k».proof.Proof.Kit
public import proofs.«01_k».proof.Proof.Chunks
public import proofs.«01_k».proof.Proof.BodyQuant
public import proofs.«01_k».proof.Proof.BodyErr
public import proofs.«01_k».proof.Proof.BodyBwd

@[expose] public section

set_option synthInstance.maxSize 4096
set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
theorem body_A (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : cond0_0 i) (hc1 : cond0_1 i) (hc2 : cond0_2 i) (hc3 : ¬ cond0_3 i) (hc4 : ¬ cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (laccZero arg23 harg23 >>= fun _ => quantPass i arg5 harg5 arg6 harg6 arg7 harg7 arg12 harg12 arg13 harg13 arg14 harg14 arg17 harg17 arg19 harg19 arg20 harg20 arg21 harg21 arg22 harg22 >>= fun _ => accZero arg15 harg15 >>= fun _ => dotPass arg3 harg3 arg15 harg15 arg17 harg17 >>= fun _ => pure ⟨⟩) := by
  rw [cc0_lwc_backward_eq_skeleton]
  unfold cc0_lwc_backward_skel
  simp only [dif_pos hc0, dif_pos hc1, dif_neg hc3, dif_neg hc4, dif_neg hc5]
  exact congrArg (fun P => laccZero arg23 harg23 >>= fun _ => P) (quant_pos i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 (fun _ => pure ⟨⟩))

set_option maxHeartbeats 8000000 in
theorem body_B (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : cond0_1 i) (hc2 : ¬ cond0_2 i) (hc3 : ¬ cond0_3 i) (hc4 : ¬ cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (quantPass i arg5 harg5 arg6 harg6 arg7 harg7 arg12 harg12 arg13 harg13 arg14 harg14 arg17 harg17 arg19 harg19 arg20 harg20 arg21 harg21 arg22 harg22 >>= fun _ => dotPass arg3 harg3 arg15 harg15 arg17 harg17 >>= fun _ => pure ⟨⟩) := by
  rw [cc0_lwc_backward_eq_skeleton]
  unfold cc0_lwc_backward_skel
  simp only [dif_neg hc0, dif_pos hc1, dif_neg hc3, dif_neg hc4, dif_neg hc5]
  exact quant_neg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 (fun _ => pure ⟨⟩)

set_option maxHeartbeats 8000000 in
theorem body_E (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : cond0_1 i) (hc2 : cond0_2 i) (hc3 : ¬ cond0_3 i) (hc4 : ¬ cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (quantPass i arg5 harg5 arg6 harg6 arg7 harg7 arg12 harg12 arg13 harg13 arg14 harg14 arg17 harg17 arg19 harg19 arg20 harg20 arg21 harg21 arg22 harg22 >>= fun _ => accZero arg15 harg15 >>= fun _ => dotPass arg3 harg3 arg15 harg15 arg17 harg17 >>= fun _ => pure ⟨⟩) := by
  rw [cc0_lwc_backward_eq_skeleton]
  unfold cc0_lwc_backward_skel
  simp only [dif_neg hc0, dif_pos hc1, dif_neg hc3, dif_neg hc4, dif_neg hc5]
  exact quant_pos i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 (fun _ => pure ⟨⟩)

set_option maxHeartbeats 8000000 in
theorem body_C (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : ¬ cond0_1 i) (hc3 : cond0_3 i) (hc4 : cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (errPass arg4 harg4 arg8 harg8 arg15 harg15 arg16 harg16 arg23 harg23 >>= fun _ => bwdPass i arg3 harg3 arg5 harg5 arg6 harg6 arg7 harg7 arg9 harg9 arg10 harg10 arg19 harg19 arg20 harg20 arg21 harg21 arg22 harg22 arg16 harg16 arg18 harg18 >>= fun _ => pure ⟨⟩) := by
  rw [cc0_lwc_backward_eq_skeleton]
  unfold cc0_lwc_backward_skel
  simp only [dif_neg hc0, dif_neg hc1, dif_pos hc3, dif_pos hc4, dif_neg hc5]
  exact (errPass_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun _ => _)).trans (congrArg (fun P => errPass arg4 harg4 arg8 harg8 arg15 harg15 arg16 harg16 arg23 harg23 >>= fun _ => P) (bwd_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc4 (fun _ => pure ⟨⟩)))

set_option maxHeartbeats 8000000 in
theorem body_D (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : ¬ cond0_1 i) (hc3 : ¬ cond0_3 i) (hc4 : cond0_4 i) (hc5 : ¬ cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (bwdPass i arg3 harg3 arg5 harg5 arg6 harg6 arg7 harg7 arg9 harg9 arg10 harg10 arg19 harg19 arg20 harg20 arg21 harg21 arg22 harg22 arg16 harg16 arg18 harg18 >>= fun _ => pure ⟨⟩) := by
  rw [cc0_lwc_backward_eq_skeleton]
  unfold cc0_lwc_backward_skel
  simp only [dif_neg hc0, dif_neg hc1, dif_neg hc3, dif_pos hc4, dif_neg hc5]
  exact bwd_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc4 (fun _ => pure ⟨⟩)

set_option maxHeartbeats 8000000 in
theorem body_F (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (hc0 : ¬ cond0_0 i) (hc1 : ¬ cond0_1 i) (hc3 : ¬ cond0_3 i) (hc4 : cond0_4 i) (hc5 : cond0_5 i) :
    cc0_lwc_backward (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (bwdPass i arg3 harg3 arg5 harg5 arg6 harg6 arg7 harg7 arg9 harg9 arg10 harg10 arg19 harg19 arg20 harg20 arg21 harg21 arg22 harg22 arg16 harg16 arg18 harg18 >>= fun _ => lossStore arg11 harg11 arg23 harg23) := by
  rw [cc0_lwc_backward_eq_skeleton]
  unfold cc0_lwc_backward_skel
  simp only [dif_neg hc0, dif_neg hc1, dif_neg hc3, dif_pos hc4, dif_pos hc5]
  exact bwd_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc4 (fun _ => lossStore arg11 harg11 arg23 harg23)

end Cert.KernelIdeal.Body

end
-- ==== Proof.BodyWp.lean ====
/- The body's whole step on the memrefs' contents, in each of its cases. -/
module

public import proofs.«01_k».proof.Proof.Steps
public import proofs.«01_k».proof.Proof.BodyCases

@[expose] public section

set_option synthInstance.maxSize 4096
set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Apply a chunk's step at `i`, `i + 1`, …, `k` times. -/
def iter {N : ℕ} [NeZero N] (f : Fin N → St F → St F) : ℕ → ℕ → St F → St F
  | 0, _, s => s
  | k + 1, i, s => iter f k (i + 1) (f (Fin.ofNat N i) s)

/-- A program that takes the memrefs from the contents `s` to the contents `s'`. -/
def Does (c : Dev nD) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole) (P : Prog (TpuEff nD τ sig (Elt F) Λ₀ .tc) PUnit) (s s' : St F) : Prop :=
  ∀ (E : Set ℕ) (K : PUnit → sProp 𝕄), iprop(own c arg3 arg4 arg5 arg6 arg7 arg8 arg9 arg10 arg11 arg12 arg13 arg14 arg15 arg16 arg17 arg18 arg19 arg20 arg21 arg22 arg23 s ∗ (own c arg3 arg4 arg5 arg6 arg7 arg8 arg9 arg10 arg11 arg12 arg13 arg14 arg15 arg16 arg17 arg18 arg19 arg20 arg21 arg22 arg23 s' -∗ K ⟨⟩)) ⊢ wp frame (wpE (defs₀ (F := F)) Variants.none c none) E P K

section

variable (c : Dev nD) (i : grid0.Coords) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)

local notation "DO" => Does (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23

theorem does_seq {P Q : Prog (TpuEff nD τ sig (Elt F) Λ₀ .tc) PUnit} {s s' s'' : St F} (h : DO P s s') (h' : DO Q s' s'') : DO (P >>= fun _ => Q) s s'' := fun E K => by
  rw [wp_bind]
  refine .trans ?_ (h E (fun _ => wp frame (wpE (defs₀ (F := F)) Variants.none c none) E Q K))
  iintro ⟨H, Hk⟩
  isplitl [H]
  · iexact H
  · iintro H'
    iapply (h' E K)
    isplitl [H']
    · iexact H'
    · iexact Hk

theorem does_pure (s : St F) : DO (pure ⟨⟩) s s := fun E K => by
  iintro ⟨H, Hk⟩
  sl_step
  iapply Hk
  iexact H

theorem does_loop {N : ℕ} [NeZero N] {f : Fin N → Prog (TpuEff nD τ sig (Elt F) Λ₀ .tc) PUnit} {g : Fin N → St F → St F} (h : ∀ n s, DO (f n) s (g n s)) :
    ∀ (k j : ℕ) (s : St F), DO (loop f k j) s (iter g k j s)
  | 0, _, s => does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s
  | k + 1, j, s => does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (h _ s) (does_loop h k (j + 1) _)

include i

theorem quant_does (s : St F) : DO (quantPass i arg5 harg5 arg6 harg6 arg7 harg7 arg12 harg12 arg13 harg13 arg14 harg14 arg17 harg17 arg19 harg19 arg20 harg20 arg21 harg21 arg22 harg22) s (iter (quantStep i) 32 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun n s E K => quantChunk_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n s E K) 32 0 s
theorem dot_does (s : St F) : DO (dotPass arg3 harg3 arg15 harg15 arg17 harg17) s (iter dotStep 12 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun n s E K => dotTile_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n s E K) 12 0 s
theorem err_does (s : St F) : DO (errPass arg4 harg4 arg8 harg8 arg15 harg15 arg16 harg16 arg23 harg23) s (iter errStep 48 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun n s E K => errChunk_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n s E K) 48 0 s
theorem bwd_does (s : St F) : DO (bwdPass i arg3 harg3 arg5 harg5 arg6 harg6 arg7 harg7 arg9 harg9 arg10 harg10 arg19 harg19 arg20 harg20 arg21 harg21 arg22 harg22 arg16 harg16 arg18 harg18) s (iter (bwdStripStep i) 4 0 s) :=
  does_loop c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun d s => does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => bwdXt_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 d s E K)
    (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => bwdHalf_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 d 0 _ E K) (fun E K => bwdHalf_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 d 1 _ E K))) 4 0 s

theorem does_A (hc0 : cond0_0 i) (hc1 : cond0_1 i) (hc2 : cond0_2 i) (hc3 : ¬ cond0_3 i) (hc4 : ¬ cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter dotStep 12 0 (accZeroStep (iter (quantStep i) 32 0 (laccZeroStep s)))) := by
  rw [body_A i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => laccZero_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 s E K) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (quant_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)
    (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => accZero_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ E K) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (dot_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _))))
theorem does_B (hc0 : ¬ cond0_0 i) (hc1 : cond0_1 i) (hc2 : ¬ cond0_2 i) (hc3 : ¬ cond0_3 i) (hc4 : ¬ cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter dotStep 12 0 (iter (quantStep i) 32 0 s)) := by
  rw [body_B i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (quant_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (dot_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _))
theorem does_E (hc0 : ¬ cond0_0 i) (hc1 : cond0_1 i) (hc2 : cond0_2 i) (hc3 : ¬ cond0_3 i) (hc4 : ¬ cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter dotStep 12 0 (accZeroStep (iter (quantStep i) 32 0 s))) := by
  rw [body_E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (quant_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)
    (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun E K => accZero_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ E K) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (dot_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)))
theorem does_C (hc0 : ¬ cond0_0 i) (hc1 : ¬ cond0_1 i) (hc3 : cond0_3 i) (hc4 : cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter (bwdStripStep i) 4 0 (iter errStep 48 0 s)) := by
  rw [body_C i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (err_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (bwd_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _))
theorem does_D (hc0 : ¬ cond0_0 i) (hc1 : ¬ cond0_1 i) (hc3 : ¬ cond0_3 i) (hc4 : cond0_4 i) (hc5 : ¬ cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (iter (bwdStripStep i) 4 0 s) := by
  rw [body_D i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (bwd_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (does_pure c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _)
theorem does_F (hc0 : ¬ cond0_0 i) (hc1 : ¬ cond0_1 i) (hc3 : ¬ cond0_3 i) (hc4 : cond0_4 i) (hc5 : cond0_5 i) (s : St F) :
    DO (cc0_lwc_backward i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (lossStep (iter (bwdStripStep i) 4 0 s)) := by
  rw [body_F i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc3 hc4 hc5]
  exact does_seq c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (bwd_does c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) (fun E K => lossStore_wp c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ E K)

end

end Cert.KernelIdeal.Body

end
-- ==== Proof.Point.lean ====
/- What one grid point does, as a function of what the memrefs hold. -/
module

public import proofs.«01_k».proof.Proof.BodyWp

@[expose] public section

set_option synthInstance.maxSize 4096
set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What a point of the first phase does: the accumulators are set to zero where `z0` and `z2` say so. -/
def fwd (i : grid0.Coords) (z0 z2 : Bool) (s : St F) : St F :=
  iter dotStep 12 0 (bif z2 then accZeroStep (iter (quantStep i) 32 0 (bif z0 then laccZeroStep s else s))
    else iter (quantStep i) 32 0 (bif z0 then laccZeroStep s else s))

/-- What a point of the second phase does: the error's pass is run where `e3`, the loss is stored where `e5`. -/
def bwd (i : grid0.Coords) (e3 e5 : Bool) (s : St F) : St F :=
  bif e5 then lossStep (iter (bwdStripStep i) 4 0 (bif e3 then iter errStep 48 0 s else s))
  else iter (bwdStripStep i) 4 0 (bif e3 then iter errStep 48 0 s else s)

/-- What point `t` does. -/
def pstep (t : Fin cfg0.N) (s : St F) : St F :=
  if t.val / 18 % 2 = 0 then fwd (grid0.coords t) (decide (t.val = 0)) (decide (t.val % 18 = 0)) s
  else bwd (grid0.coords t) (decide (t.val % 36 = 18)) (decide (t.val = 251)) s

theorem iter_keep {β : Type} (p : St F → β) {N : ℕ} [NeZero N] {f : Fin N → St F → St F} (h : ∀ n s, p (f n s) = p s) :
    ∀ (k j : ℕ) (s : St F), p (iter f k j s) = p s
  | 0, _, _ => rfl
  | k + 1, j, s => (iter_keep p h k (j + 1) _).trans (h _ s)

/-- The input windows' contents. -/
def ins (s : St F) := (s.a3, s.a4, s.a5, s.a6, s.a7, s.a8)

theorem ins_quant (i : grid0.Coords) (n : Fin 32) (s : St F) : ins (quantStep i n s) = ins s := rfl
theorem ins_dot (n : Fin 12) (s : St F) : ins (dotStep n s) = ins s := rfl
theorem ins_err (n : Fin 48) (s : St F) : ins (errStep n s) = ins s := rfl
theorem ins_group (i : grid0.Coords) (d : Fin 4) (j g : Fin 2) (G : FVec F S256x512 .f32) (s : St F) : ins (bwdGroupStep i d j g G s) = ins s := rfl
theorem ins_half (i : grid0.Coords) (d : Fin 4) (j : Fin 2) (s : St F) : ins (bwdHalfStep i d j s) = ins s := (ins_group i d j 1 _ _).trans (ins_group i d j 0 _ _)
theorem ins_xt (d : Fin 4) (s : St F) : ins (bwdXtStep d s) = ins s := rfl
theorem ins_bwd (i : grid0.Coords) (n : Fin 4) (s : St F) : ins (bwdStripStep i n s) = ins s := by
  unfold bwdStripStep; rw [ins_half, ins_half, ins_xt]

/-- A point leaves the input windows as they are. -/
theorem ins_pstep (t : Fin cfg0.N) (s : St F) : ins (pstep t s) = ins s := by
  have e1 := fun (i : grid0.Coords) (s : St F) => iter_keep ins (ins_quant i) 32 0 s
  have e2 := fun (s : St F) => iter_keep ins ins_dot 12 0 s
  have e3 := fun (s : St F) => iter_keep ins ins_err 48 0 s
  have e4 := fun (i : grid0.Coords) (s : St F) => iter_keep ins (ins_bwd i) 4 0 s
  have e5 : ∀ s : St F, ins (accZeroStep s) = ins s := fun _ => rfl
  have e6 : ∀ s : St F, ins (laccZeroStep s) = ins s := fun _ => rfl
  have e7 : ∀ s : St F, ins (lossStep s) = ins s := fun _ => rfl
  unfold pstep
  split
  · unfold fwd; rw [e2]
    cases decide (t.val % 18 = 0) <;> cases decide (t.val = 0) <;> simp only [cond_true, cond_false, e1, e5, e6]
  · unfold bwd
    cases decide (t.val = 251) <;> cases decide (t.val % 36 = 18) <;> simp only [cond_true, cond_false, e3, e4, e7]

section

variable (c : Dev nD) (arg3 : Memref sig .tc .vmem S3072x1024 .fp8e4m3) (harg3 : arg3.IsWhole) (arg4 : Memref sig .tc .vmem S3072x128 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S3072x1024 .bf16) (harg8 : arg8.IsWhole) (arg9 : Memref sig .tc .vmem S8x1024 .f32) (harg9 : arg9.IsWhole) (arg10 : Memref sig .tc .vmem S8x1024 .f32) (harg10 : arg10.IsWhole) (arg11 : Memref sig .tc .smem S1x1 .f32) (harg11 : arg11.IsWhole) (arg12 : Memref sig .tc .vmem S1024x1024 .i8) (harg12 : arg12.IsWhole) (arg13 : Memref sig .tc .vmem S8x1024 .f32) (harg13 : arg13.IsWhole) (arg14 : Memref sig .tc .vmem S8x1024 .f32) (harg14 : arg14.IsWhole) (arg15 : Memref sig .tc .vmem S3072x1024 .f32) (harg15 : arg15.IsWhole) (arg16 : Memref sig .tc .vmem S3072x1024 .bf16) (harg16 : arg16.IsWhole) (arg17 : Memref sig .tc .vmem S1024x1024 .bf16) (harg17 : arg17.IsWhole) (arg18 : Memref sig .tc .vmem S256x3072 .bf16) (harg18 : arg18.IsWhole) (arg19 : Memref sig .tc .vmem S18x8x1024 .f32) (harg19 : arg19.IsWhole) (arg20 : Memref sig .tc .vmem S18x8x1024 .f32) (harg20 : arg20.IsWhole) (arg21 : Memref sig .tc .vmem S18x8x1024 .f32) (harg21 : arg21.IsWhole) (arg22 : Memref sig .tc .vmem S18x8x1024 .f32) (harg22 : arg22.IsWhole) (arg23 : Memref sig .tc .vmem S8x128 .f32) (harg23 : arg23.IsWhole)

local notation "DO" => Does (F := F) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23

/-- The body at point `t` does `pstep t`. -/
theorem does_pstep (t : Fin cfg0.N) (s : St F) : DO (cc0_lwc_backward (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) s (pstep t s) := by
  have ht : t.val < 252 := Nat.lt_of_lt_of_eq t.isLt N_0
  have h0 := hcond0_0 t; have h1 := hcond0_1 t; have h2 := hcond0_2 t; have h3 := hcond0_3 t; have h4 := hcond0_4 t; have h5 := hcond0_5 t
  unfold pstep
  split
  · next hp =>
    have n3 : ¬ cond0_3 (grid0.coords t) := fun h => by have := h3.mp h; omega
    have n4 : ¬ cond0_4 (grid0.coords t) := fun h => by have := h4.mp h; omega
    have n5 : ¬ cond0_5 (grid0.coords t) := fun h => by have := h5.mp h; omega
    unfold fwd
    by_cases hk : t.val % 18 = 0
    · by_cases hz : t.val = 0
      · rw [decide_eq_true hk, decide_eq_true hz]
        exact does_A c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (h0.mpr (by omega)) (h1.mpr hp) (h2.mpr hk) n3 n4 n5 s
      · rw [decide_eq_true hk, decide_eq_false hz]
        exact does_E c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun h => by have := h0.mp h; omega) (h1.mpr hp) (h2.mpr hk) n3 n4 n5 s
    · rw [decide_eq_false hk, decide_eq_false (fun h => by omega : ¬ t.val = 0)]
      exact does_B c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (fun h => by have := h0.mp h; omega) (h1.mpr hp) (fun h => hk (h2.mp h)) n3 n4 n5 s
  · next hp =>
    have n0 : ¬ cond0_0 (grid0.coords t) := fun h => by have := h0.mp h; omega
    have n1 : ¬ cond0_1 (grid0.coords t) := fun h => hp (h1.mp h)
    have n4 : cond0_4 (grid0.coords t) := h4.mpr (by omega)
    unfold bwd
    by_cases hl : t.val = 251
    · rw [decide_eq_true hl, decide_eq_false (fun h => by omega : ¬ t.val % 36 = 18)]
      exact does_F c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n0 n1 (fun h => by have := h3.mp h; omega) n4 (h5.mpr (by omega)) s
    · have n5 : ¬ cond0_5 (grid0.coords t) := fun h => by have := h5.mp h; omega
      by_cases he : t.val % 36 = 18
      · rw [decide_eq_false hl, decide_eq_true he]
        exact does_C c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n0 n1 (h3.mpr he) n4 n5 s
      · rw [decide_eq_false hl, decide_eq_false he]
        exact does_D c (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 n0 n1 (fun h => he (h3.mp h)) n4 n5 s

end

end Cert.KernelIdeal.Body

end
-- ==== Proof.Launch.lean ====
/- The run of the program with what the body leaves in the outputs' windows held to a predicate. -/
module

public import proofs.«01_k».proof.Proof.Point
public import Idealize.ShloMosaic.Lib.Pipeline.DatRel
public import Idealize.ShloMosaic.Lib.Pipeline.ArrRel

@[expose] public section

set_option synthInstance.maxSize 4096
set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Predicates of the scratch memrefs' contents before a point. -/
abbrev ScrP (F : FTy → Type) := Vec F S3072x1024 .f32 → Vec F S3072x1024 .bf16 → Vec F S1024x1024 .bf16 → Vec F S256x3072 .bf16 → Vec F S18x8x1024 .f32 → Vec F S18x8x1024 .f32 → Vec F S18x8x1024 .f32 → Vec F S18x8x1024 .f32 → Vec F S8x128 .f32 → Prop

/-- Predicates of what the body leaves in a window at a point. -/
abbrev WinP (F : FTy → Type) := (w : Fin cfg0.W) → Fin cfg0.N → ((cfg0.win w).block.Idx → Elt F (cfg0.win w).elt) → Prop

/-- The scratch memrefs' predicate of a state. -/
abbrev ScrP.of (J : ScrP F) (s : St F) : Prop := J s.a15 s.a16 s.a17 s.a18 s.a19 s.a20 s.a21 s.a22 s.a23

variable (m : (ℓ : Loc nD τ sig) → Buf (Elt F) ℓ) (ρ : Dev nD → PrngReg)
variable (J : Dev nD → ℕ → ScrP F) (Rl : Dev nD → WinP F)

/-- The scratch memrefs at contents that meet `J c t`, and the generator register. -/
def scr (c : Dev nD) (t : ℕ) : sProp 𝕄 :=
  iprop((∃ d15 d16 d17 d18 d19 d20 d21 d22 d23, ⌜J c t d15 d16 d17 d18 d19 d20 d21 d22 d23⌝ ∗ owns (c : Thread nD τ) scM0_0 fullShare d15 ∗ owns (c : Thread nD τ) scM0_1 fullShare d16 ∗ owns (c : Thread nD τ) scM0_2 fullShare d17 ∗ owns (c : Thread nD τ) scM0_3 fullShare d18 ∗ owns (c : Thread nD τ) scM0_4 fullShare d19 ∗ owns (c : Thread nD τ) scM0_5 fullShare d20 ∗ owns (c : Thread nD τ) scM0_6 fullShare d21 ∗ owns (c : Thread nD τ) scM0_7 fullShare d22 ∗ owns (c : Thread nD τ) scM0_8 fullShare d23) ∗ (∃ r, prngReg c r))

/-- The proof data: the arrays as the region finds them, the inputs' blocks in their windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := scr J c t.val
  q _ := fullShare
  owed _ := 0

theorem A_eq (c : Dev nD) (w : Fin cfg0.W) : (dats m J 0 c).A w = V m c (Pipeline.arrRef spec0 w) := by
  dsimp only [dats]
theorem after0_0 (c : Dev nD) (t : Fin cfg0.N) : (dats m J 0 c).after 0 t = iblk m c 0 t := by dsimp only [dats]
theorem after0_1 (c : Dev nD) (t : Fin cfg0.N) : (dats m J 0 c).after 1 t = iblk m c 1 t := by dsimp only [dats]
theorem after0_2 (c : Dev nD) (t : Fin cfg0.N) : (dats m J 0 c).after 2 t = iblk m c 2 t := by dsimp only [dats]
theorem after0_3 (c : Dev nD) (t : Fin cfg0.N) : (dats m J 0 c).after 3 t = iblk m c 3 t := by dsimp only [dats]
theorem after0_4 (c : Dev nD) (t : Fin cfg0.N) : (dats m J 0 c).after 4 t = iblk m c 4 t := by dsimp only [dats]
theorem after0_5 (c : Dev nD) (t : Fin cfg0.N) : (dats m J 0 c).after 5 t = iblk m c 5 t := by dsimp only [dats]
theorem before0_0 (c : Dev nD) (t : Fin cfg0.N) (d) : (dats m J 0 c).before 0 t d = iblk m c 0 t :=
  before0_0_of m (dats m J 0 c) (A_eq m J c 0) (after0_0 m J c) t d
theorem before0_1 (c : Dev nD) (t : Fin cfg0.N) (d) : (dats m J 0 c).before 1 t d = iblk m c 1 t :=
  before0_1_of m (dats m J 0 c) (A_eq m J c 1) (after0_1 m J c) t d
theorem before0_2 (c : Dev nD) (t : Fin cfg0.N) (d) : (dats m J 0 c).before 2 t d = iblk m c 2 t :=
  before0_2_of m (dats m J 0 c) (A_eq m J c 2) (after0_2 m J c) t d
theorem before0_3 (c : Dev nD) (t : Fin cfg0.N) (d) : (dats m J 0 c).before 3 t d = iblk m c 3 t :=
  before0_3_of m (dats m J 0 c) (A_eq m J c 3) (after0_3 m J c) t d
theorem before0_4 (c : Dev nD) (t : Fin cfg0.N) (d) : (dats m J 0 c).before 4 t d = iblk m c 4 t :=
  before0_4_of m (dats m J 0 c) (A_eq m J c 4) (after0_4 m J c) t d
theorem before0_5 (c : Dev nD) (t : Fin cfg0.N) (d) : (dats m J 0 c).before 5 t d = iblk m c 5 t :=
  before0_5_of m (dats m J 0 c) (A_eq m J c 5) (after0_5 m J c) t d

/-- The outputs' windows. -/
def outW (w : Fin cfg0.W) : Bool := decide (6 ≤ w.val)

/-- The data with the outputs' windows held to `Rl`. -/
abbrev rdat (c : Dev nD) : Pipeline.RDat τ (Elt F) Unit ℕ (UR sig nD τ) ℕ cfg0 c := (dats m J 0 c).toRRel outW (Rl c)

/-- What is to be shown of a point: from its input blocks, the scratch memrefs' predicate and what the windows may hold, its step
    meets the next predicate and leaves the outputs' windows as `Rl` says. -/
def Steps : Prop := ∀ (c : Dev nD) (t : Fin cfg0.N) (s : St F),
  s.a3 = iblk m c 0 t → s.a4 = iblk m c 1 t → s.a5 = iblk m c 2 t → s.a6 = iblk m c 3 t → s.a7 = iblk m c 4 t → s.a8 = iblk m c 5 t → (J c t.val).of s →
  (rdat m J Rl c).Finds 9 t s.a12 → (rdat m J Rl c).Finds 10 t s.a13 → (rdat m J Rl c).Finds 11 t s.a14 →
  (J c (t.val + 1)).of (pstep t s) ∧ Rl c 6 t (pstep t s).a9 ∧ Rl c 7 t (pstep t s).a10 ∧ Rl c 8 t (pstep t s).a11 ∧ Rl c 9 t (pstep t s).a12 ∧ Rl c 10 t (pstep t s).a13 ∧ Rl c 11 t (pstep t s).a14

/-- The body table's row at a point's slots is the body. -/
theorem defs₀_row (t : Fin cfg0.N) : defs₀ (F := F) .tc cfg0.body (cfg0.bodyArgs t (cfg0.slots t)) = bodyAt0 t := by
  unfold defs₀; rw [Defs.onTc_tc]

variable {m J Rl}

theorem finds_in (c : Dev nD) (t : Fin cfg0.N) (Y : (w : Fin cfg0.W) → (cfg0.win w).block.Idx → Elt F (cfg0.win w).elt) (hY : ∀ w, (rdat m J Rl c).Finds w t (Y w)) :
    Y 0 = iblk m c 0 t ∧ Y 1 = iblk m c 1 t ∧ Y 2 = iblk m c 2 t ∧ Y 3 = iblk m c 3 t ∧ Y 4 = iblk m c 4 t ∧ Y 5 = iblk m c 5 t := by
  refine ⟨?_, ?_, ?_, ?_, ?_, ?_⟩
  · obtain ⟨d, hd⟩ := (dats m J 0 c).toRRel_finds (w := 0) rfl t (Y 0) (hY 0)
    exact hd.trans (before0_0 m J c t d)
  · obtain ⟨d, hd⟩ := (dats m J 0 c).toRRel_finds (w := 1) rfl t (Y 1) (hY 1)
    exact hd.trans (before0_1 m J c t d)
  · obtain ⟨d, hd⟩ := (dats m J 0 c).toRRel_finds (w := 2) rfl t (Y 2) (hY 2)
    exact hd.trans (before0_2 m J c t d)
  · obtain ⟨d, hd⟩ := (dats m J 0 c).toRRel_finds (w := 3) rfl t (Y 3) (hY 3)
    exact hd.trans (before0_3 m J c t d)
  · obtain ⟨d, hd⟩ := (dats m J 0 c).toRRel_finds (w := 4) rfl t (Y 4) (hY 4)
    exact hd.trans (before0_4 m J c t d)
  · obtain ⟨d, hd⟩ := (dats m J 0 c).toRRel_finds (w := 5) rfl t (Y 5) (hY 5)
    exact hd.trans (before0_5 m J c t d)
theorem after_in0 (c : Dev nD) (t : Fin cfg0.N) (Y X : (cfg0.win 0).block.Idx → Elt F (cfg0.win 0).elt) (h : X = iblk m c 0 t) : (rdat m J Rl c).after 0 t Y X := by
  rw [Dat.toRRel_after_of_eq_false _ (w := 0) rfl]
  exact (Dat.Leaves.live_iff _ (.inl (liveAt0_0 t))).mpr (h.trans (after0_0 m J c t).symm)
theorem after_in1 (c : Dev nD) (t : Fin cfg0.N) (Y X : (cfg0.win 1).block.Idx → Elt F (cfg0.win 1).elt) (h : X = iblk m c 1 t) : (rdat m J Rl c).after 1 t Y X := by
  rw [Dat.toRRel_after_of_eq_false _ (w := 1) rfl]
  exact (Dat.Leaves.live_iff _ (.inl (liveAt0_1 t))).mpr (h.trans (after0_1 m J c t).symm)
theorem after_in2 (c : Dev nD) (t : Fin cfg0.N) (Y X : (cfg0.win 2).block.Idx → Elt F (cfg0.win 2).elt) (h : X = iblk m c 2 t) : (rdat m J Rl c).after 2 t Y X := by
  rw [Dat.toRRel_after_of_eq_false _ (w := 2) rfl]
  exact (Dat.Leaves.live_iff _ (.inl (liveAt0_2 t))).mpr (h.trans (after0_2 m J c t).symm)
theorem after_in3 (c : Dev nD) (t : Fin cfg0.N) (Y X : (cfg0.win 3).block.Idx → Elt F (cfg0.win 3).elt) (h : X = iblk m c 3 t) : (rdat m J Rl c).after 3 t Y X := by
  rw [Dat.toRRel_after_of_eq_false _ (w := 3) rfl]
  exact (Dat.Leaves.live_iff _ (.inl (liveAt0_3 t))).mpr (h.trans (after0_3 m J c t).symm)
theorem after_in4 (c : Dev nD) (t : Fin cfg0.N) (Y X : (cfg0.win 4).block.Idx → Elt F (cfg0.win 4).elt) (h : X = iblk m c 4 t) : (rdat m J Rl c).after 4 t Y X := by
  rw [Dat.toRRel_after_of_eq_false _ (w := 4) rfl]
  exact (Dat.Leaves.live_iff _ (.inl (liveAt0_4 t))).mpr (h.trans (after0_4 m J c t).symm)
theorem after_in5 (c : Dev nD) (t : Fin cfg0.N) (Y X : (cfg0.win 5).block.Idx → Elt F (cfg0.win 5).elt) (h : X = iblk m c 5 t) : (rdat m J Rl c).after 5 t Y X := by
  rw [Dat.toRRel_after_of_eq_false _ (w := 5) rfl]
  exact (Dat.Leaves.live_iff _ (.inl (liveAt0_5 t))).mpr (h.trans (after0_5 m J c t).symm)
theorem after_out6 (c : Dev nD) (t : Fin cfg0.N) (Y X : (cfg0.win 6).block.Idx → Elt F (cfg0.win 6).elt) (h : Rl c 6 t X) : (rdat m J Rl c).after 6 t Y X := by
  rw [Dat.toRRel_after_of_eq_true _ (w := 6) rfl]
  exact h
theorem after_out7 (c : Dev nD) (t : Fin cfg0.N) (Y X : (cfg0.win 7).block.Idx → Elt F (cfg0.win 7).elt) (h : Rl c 7 t X) : (rdat m J Rl c).after 7 t Y X := by
  rw [Dat.toRRel_after_of_eq_true _ (w := 7) rfl]
  exact h
theorem after_out8 (c : Dev nD) (t : Fin cfg0.N) (Y X : (cfg0.win 8).block.Idx → Elt F (cfg0.win 8).elt) (h : Rl c 8 t X) : (rdat m J Rl c).after 8 t Y X := by
  rw [Dat.toRRel_after_of_eq_true _ (w := 8) rfl]
  exact h
theorem after_out9 (c : Dev nD) (t : Fin cfg0.N) (Y X : (cfg0.win 9).block.Idx → Elt F (cfg0.win 9).elt) (h : Rl c 9 t X) : (rdat m J Rl c).after 9 t Y X := by
  rw [Dat.toRRel_after_of_eq_true _ (w := 9) rfl]
  exact h
theorem after_out10 (c : Dev nD) (t : Fin cfg0.N) (Y X : (cfg0.win 10).block.Idx → Elt F (cfg0.win 10).elt) (h : Rl c 10 t X) : (rdat m J Rl c).after 10 t Y X := by
  rw [Dat.toRRel_after_of_eq_true _ (w := 10) rfl]
  exact h
theorem after_out11 (c : Dev nD) (t : Fin cfg0.N) (Y X : (cfg0.win 11).block.Idx → Elt F (cfg0.win 11).elt) (h : Rl c 11 t X) : (rdat m J Rl c).after 11 t Y X := by
  rw [Dat.toRRel_after_of_eq_true _ (w := 11) rfl]
  exact h

set_option maxHeartbeats 4000000 in
theorem body_obligation (H : Steps m J Rl) (c : Dev nD) : (rdat m J Rl c).BodyObligation (defs₀ (F := F)) Variants.none () Set.univ := fun t Y hY => by
  obtain ⟨y0, y1, y2, y3, y4, y5⟩ := finds_in c t Y hY
  rw [bigSep_W0, bigSep_W0, defs₀_row]
  show iprop(scr J c t.val ∗ (rdat m J Rl c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10) ∗ owns (c : Thread nD τ) (ms0_11 t) fullShare (Y 11))
    ⊢ wp frame (wpE (defs₀ (F := F)) Variants.none c none) Set.univ (bodyAt0 t) fun _ => iprop(scr J c (t.val + 1) ∗ (rdat m J Rl c).owesAt () t.castSucc ∗ (∃ X, ⌜(rdat m J Rl c).after 0 t (Y 0) X⌝ ∗ owns (c : Thread nD τ) (ms0_0 t) fullShare X) ∗ (∃ X, ⌜(rdat m J Rl c).after 1 t (Y 1) X⌝ ∗ owns (c : Thread nD τ) (ms0_1 t) fullShare X) ∗ (∃ X, ⌜(rdat m J Rl c).after 2 t (Y 2) X⌝ ∗ owns (c : Thread nD τ) (ms0_2 t) fullShare X) ∗ (∃ X, ⌜(rdat m J Rl c).after 3 t (Y 3) X⌝ ∗ owns (c : Thread nD τ) (ms0_3 t) fullShare X) ∗ (∃ X, ⌜(rdat m J Rl c).after 4 t (Y 4) X⌝ ∗ owns (c : Thread nD τ) (ms0_4 t) fullShare X) ∗ (∃ X, ⌜(rdat m J Rl c).after 5 t (Y 5) X⌝ ∗ owns (c : Thread nD τ) (ms0_5 t) fullShare X) ∗ (∃ X, ⌜(rdat m J Rl c).after 6 t (Y 6) X⌝ ∗ owns (c : Thread nD τ) (ms0_6 t) fullShare X) ∗ (∃ X, ⌜(rdat m J Rl c).after 7 t (Y 7) X⌝ ∗ owns (c : Thread nD τ) (ms0_7 t) fullShare X) ∗ (∃ X, ⌜(rdat m J Rl c).after 8 t (Y 8) X⌝ ∗ owns (c : Thread nD τ) (ms0_8 t) fullShare X) ∗ (∃ X, ⌜(rdat m J Rl c).after 9 t (Y 9) X⌝ ∗ owns (c : Thread nD τ) (ms0_9 t) fullShare X) ∗ (∃ X, ⌜(rdat m J Rl c).after 10 t (Y 10) X⌝ ∗ owns (c : Thread nD τ) (ms0_10 t) fullShare X) ∗ (∃ X, ⌜(rdat m J Rl c).after 11 t (Y 11) X⌝ ∗ owns (c : Thread nD τ) (ms0_11 t) fullShare X))
  unfold scr
  iintro ⟨⟨⟨%d15, %d16, %d17, %d18, %d19, %d20, %d21, %d22, %d23, %hJ, S15, S16, S17, S18, S19, S20, S21, S22, S23⟩, Hr⟩, HO, W0, W1, W2, W3, W4, W5, W6, W7, W8, W9, W10, W11⟩
  obtain ⟨s, hs⟩ : ∃ s : St F, s = St.mk (Y 0) (Y 1) (Y 2) (Y 3) (Y 4) (Y 5) (Y 6) (Y 7) (Y 8) (Y 9) (Y 10) (Y 11) d15 d16 d17 d18 d19 d20 d21 d22 d23 := ⟨_, rfl⟩
  have hst := H c t s (by rw [hs]; exact y0) (by rw [hs]; exact y1) (by rw [hs]; exact y2) (by rw [hs]; exact y3) (by rw [hs]; exact y4) (by rw [hs]; exact y5) (by rw [hs]; exact hJ) (by rw [hs]; exact hY 9) (by rw [hs]; exact hY 10) (by rw [hs]; exact hY 11)
  have hin := ins_pstep t s
  have hd := does_pstep c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) t s
  obtain ⟨s', hs'⟩ : ∃ s', s' = pstep t s := ⟨_, rfl⟩
  rw [← hs'] at hst hin hd
  have hi : s'.a3 = iblk m c 0 t ∧ s'.a4 = iblk m c 1 t ∧ s'.a5 = iblk m c 2 t ∧ s'.a6 = iblk m c 3 t ∧ s'.a7 = iblk m c 4 t ∧ s'.a8 = iblk m c 5 t := by
    simp only [ins, Prod.mk.injEq] at hin
    obtain ⟨i0, i1, i2, i3, i4, i5⟩ := hin
    rw [i0, i1, i2, i3, i4, i5, hs]
    exact ⟨y0, y1, y2, y3, y4, y5⟩
  obtain ⟨hJ', r6, r7, r8, r9, r10, r11⟩ := hst
  obtain ⟨i0, i1, i2, i3, i4, i5⟩ := hi
  iapply (hd Set.univ _)
  isplitl [W0 W1 W2 W3 W4 W5 W6 W7 W8 W9 W10 W11 S15 S16 S17 S18 S19 S20 S21 S22 S23]
  · rw [hs]; unfold own
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [W8]
    · iexact W8
    isplitl [W9]
    · iexact W9
    isplitl [W10]
    · iexact W10
    isplitl [W11]
    · iexact W11
    isplitl [S15]
    · iexact S15
    isplitl [S16]
    · iexact S16
    isplitl [S17]
    · iexact S17
    isplitl [S18]
    · iexact S18
    isplitl [S19]
    · iexact S19
    isplitl [S20]
    · iexact S20
    isplitl [S21]
    · iexact S21
    isplitl [S22]
    · iexact S22
    iexact S23
  · unfold own
    iintro ⟨W0, W1, W2, W3, W4, W5, W6, W7, W8, W9, W10, W11, S15, S16, S17, S18, S19, S20, S21, S22, S23⟩
    isplitl [S15 S16 S17 S18 S19 S20 S21 S22 S23 Hr]
    · isplitr [Hr]
      · iexists s'.a15, s'.a16, s'.a17, s'.a18, s'.a19, s'.a20, s'.a21, s'.a22, s'.a23
        isplitr
        · ipureintro; exact hJ'
        isplitl [S15]
        · iexact S15
        isplitl [S16]
        · iexact S16
        isplitl [S17]
        · iexact S17
        isplitl [S18]
        · iexact S18
        isplitl [S19]
        · iexact S19
        isplitl [S20]
        · iexact S20
        isplitl [S21]
        · iexact S21
        isplitl [S22]
        · iexact S22
        iexact S23
      · iexact Hr
    isplitl [HO]
    · iexact HO
    isplitl [W0]
    · iexists s'.a3; isplitr
      · ipureintro; exact after_in0 c t _ _ i0
      · iexact W0
    isplitl [W1]
    · iexists s'.a4; isplitr
      · ipureintro; exact after_in1 c t _ _ i1
      · iexact W1
    isplitl [W2]
    · iexists s'.a5; isplitr
      · ipureintro; exact after_in2 c t _ _ i2
      · iexact W2
    isplitl [W3]
    · iexists s'.a6; isplitr
      · ipureintro; exact after_in3 c t _ _ i3
      · iexact W3
    isplitl [W4]
    · iexists s'.a7; isplitr
      · ipureintro; exact after_in4 c t _ _ i4
      · iexact W4
    isplitl [W5]
    · iexists s'.a8; isplitr
      · ipureintro; exact after_in5 c t _ _ i5
      · iexact W5
    isplitl [W6]
    · iexists s'.a9; isplitr
      · ipureintro; exact after_out6 c t _ _ r6
      · iexact W6
    isplitl [W7]
    · iexists s'.a10; isplitr
      · ipureintro; exact after_out7 c t _ _ r7
      · iexact W7
    isplitl [W8]
    · iexists s'.a11; isplitr
      · ipureintro; exact after_out8 c t _ _ r8
      · iexact W8
    isplitl [W9]
    · iexists s'.a12; isplitr
      · ipureintro; exact after_out9 c t _ _ r9
      · iexact W9
    isplitl [W10]
    · iexists s'.a13; isplitr
      · ipureintro; exact after_out10 c t _ _ r10
      · iexact W10
    iexists s'.a14; isplitr
    · ipureintro; exact after_out11 c t _ _ r11
    · iexact W11

theorem scr_in (c : Dev nD) (t : ℕ) (h : ∀ d15 d16 d17 d18 d19 d20 d21 d22 d23, J c t d15 d16 d17 d18 d19 d20 d21 d22 d23) : (Pipeline.ΦA spec0 c : sProp 𝕄) ⊢ scr J c t := by
  rw [PhiA0_eq]; unfold scr
  iintro ⟨⟨⟨%d15, S15⟩, ⟨%d16, S16⟩, ⟨%d17, S17⟩, ⟨%d18, S18⟩, ⟨%d19, S19⟩, ⟨%d20, S20⟩, ⟨%d21, S21⟩, ⟨%d22, S22⟩, ⟨%d23, S23⟩⟩, Hr⟩
  isplitr [Hr]
  · iexists d15, d16, d17, d18, d19, d20, d21, d22, d23
    isplitr
    · ipureintro; exact h _ _ _ _ _ _ _ _ _
    isplitl [S15]
    · iexact S15
    isplitl [S16]
    · iexact S16
    isplitl [S17]
    · iexact S17
    isplitl [S18]
    · iexact S18
    isplitl [S19]
    · iexact S19
    isplitl [S20]
    · iexact S20
    isplitl [S21]
    · iexact S21
    isplitl [S22]
    · iexact S22
    iexact S23
  · iexact Hr

theorem scr_out (c : Dev nD) (t : ℕ) : scr J c t ⊢ (Pipeline.ΦA spec0 c : sProp 𝕄) := by
  rw [PhiA0_eq]; unfold scr
  iintro ⟨⟨%d15, %d16, %d17, %d18, %d19, %d20, %d21, %d22, %d23, %hJ, S15, S16, S17, S18, S19, S20, S21, S22, S23⟩, Hr⟩
  isplitr [Hr]
  · isplitl [S15]
    · iexists d15; iexact S15
    isplitl [S16]
    · iexists d16; iexact S16
    isplitl [S17]
    · iexists d17; iexact S17
    isplitl [S18]
    · iexists d18; iexact S18
    isplitl [S19]
    · iexists d19; iexact S19
    isplitl [S20]
    · iexists d20; iexact S20
    isplitl [S21]
    · iexists d21; iexact S21
    isplitl [S22]
    · iexists d22; iexact S22
    iexists d23; iexact S23
  · iexact Hr

set_option backward.isDefEq.respectTransparency.types false in
/-- The run: every array ends at something that the body's leavings allow, and every semaphore at zero. -/
theorem run (H : Steps m J Rl) (h0 : ∀ c d15 d16 d17 d18 d19 d20 d21 d22 d23, J c 0 d15 d16 d17 d18 d19 d20 d21 d22 d23) :
    θ_run defs (onTc (τ := τ) (main (F := F))) (s₀ m ρ) (fun r => Pipeline.RDat.FramePost cfg0 (rdat m J Rl) (V m) r ∧ r.2.sem = fun _ => 0) :=
  Pipeline.RDat.θ_run_frame_track (Q' := _) cfgs (0 : Fin 1) launch0 defs₀ Variants.none (rdat m J Rl) m ρ main
    (hbody := body_obligation H) (hshare := fun c => (dats m J 0 c).share_full fun _ => rfl)
    (howed := fun _ _ => rfl) (V := V m) (hmain := hmain m Variants.none) (hA := A_eq m J)
    (hin := fun c => scr_in c 0 (h0 c)) (hout := fun c => scr_out c _)

/-- The argument arrays end as they started. -/
theorem args_of {r : PUnit × MemSt nD τ sig (Elt F)} (h : Pipeline.RDat.FramePost cfg0 (rdat m J Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have e2 := (h c).1 2; have e3 := (h c).1 3; have e4 := (h c).1 4
  rw [Pipeline.RDat.ArrAt_in _ 2 rfl] at e2; rw [Pipeline.RDat.ArrAt_in _ 3 rfl] at e3; rw [Pipeline.RDat.ArrAt_in _ 4 rfl] at e4
  exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      e2.trans ((A_eq m J c 2).trans (V_main_arg2 m c)),
      e3.trans ((A_eq m J c 3).trans (V_main_arg3 m c)),
      e4.trans ((A_eq m J c 4).trans (V_main_arg4 m c)),
      ((h c).2 main_arg5 (Pipeline.mem_restRefs_of main_arg5 (by decide) (by decide))).trans (V_main_arg5 m c)⟩

variable (m)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨args_of h.1, h.2⟩)
    (run (m := m) ρ (J := fun _ _ _ _ _ _ _ _ _ _ _ => True) (Rl := fun _ _ _ _ => True)
      (fun _ _ _ _ _ _ _ _ _ _ _ _ _ => ⟨trivial, trivial, trivial, trivial, trivial, trivial, trivial⟩) (fun _ _ _ _ _ _ _ _ _ _ => trivial))

end Cert.KernelIdeal.Body

end
-- ==== Proof.Frames.lean ====
/- The frames of the kernel at the machine's values and at the reals. -/
module

public import proofs.«01_k».proof.Defs
public import proofs.«01_k».proof.Proof.Bits.Launch
public import proofs.«01_k».proof.Proof.Launch

@[expose] public section

set_option maxRecDepth 65536

open Idealize.ShloMosaic Idealize.SL.Sem

namespace Cert

theorem frame_kernel : quiescent_Kernel (hKernel := Cert.Kernel.Gen.facts) := fun m g _ =>
  Cert.Kernel.Body.frame (F := Bits) m g

theorem frame_kernelIdeal : quiescent_KernelIdeal (hKernelIdeal := Cert.KernelIdeal.Gen.facts) := fun m g _ =>
  Cert.KernelIdeal.Body.frame (F := Ideal) m g

end Cert
-- ==== Proof.Spec.lean ====
/- The mathematics of the layer over the extended reals, at natural-number coordinates. -/
module

public import Idealize.ShloMosaic.Lib.Pointwise
public import Idealize.ShloMosaic.Lib.VecWindow

@[expose] public section

noncomputable section

namespace Cert.Lwc

open Idealize.ShloMosaic

/-- The largest quantisation level. -/
def c15 : EReal := Ideal.ofBits .f32 0x41700000#32
/-- Rounding to the nearest integer, ties to even. -/
def rnd (x : EReal) : EReal := Ideal.liftRound Ideal.roundHalfEven x
/-- The largest weight of a group. -/
def mxS (w : Fin 128 → EReal) : EReal := Finset.univ.fold max (Ideal.ofBits .f32 0xFF800000#32) w
/-- The smallest weight of a group. -/
def mnS (w : Fin 128 → EReal) : EReal := Finset.univ.fold min (Ideal.ofBits .f32 0x7F800000#32) w
/-- The step of a group. -/
def hS (mx mn γ β : EReal) : EReal :=
  if Ideal.div (Ideal.logistic γ * mx - Ideal.logistic β * mn) c15 = 0 then 1
  else Ideal.div (Ideal.logistic γ * mx - Ideal.logistic β * mn) c15
/-- The zero point of a group. -/
def zS (mn β h : EReal) : EReal := 0 - rnd (Ideal.div (Ideal.logistic β * mn) h)
/-- A weight's level before clipping. -/
def cS (w h z : EReal) : EReal := rnd (Ideal.div w h) + z
/-- A level clipped. -/
def qS (c : EReal) : EReal := min c15 (max 0 c)
/-- What the clipped level differs from the straight-through level by. -/
def rS (w h z : EReal) : EReal :=
  (qS (cS w h z) - z) - (if 0 ≤ cS w h z ∧ cS w h z ≤ c15 then Ideal.div w h else 0)
/-- The gradient of a clipping parameter from the group's sum. -/
def dS (s γ mx : EReal) : EReal := Ideal.div (s * Ideal.logistic γ * (1 - Ideal.logistic γ) * mx) c15

/-- The arguments at coordinates. -/
structure In where
  X : ℕ → ℕ → EReal
  XS : ℕ → EReal
  W : ℕ → ℕ → EReal
  G : ℕ → ℕ → EReal
  B : ℕ → ℕ → EReal
  Y : ℕ → ℕ → EReal

variable (A : In)

def In.mx (g n : ℕ) : EReal := mxS fun r => A.W (g * 128 + r.val) n
def In.mn (g n : ℕ) : EReal := mnS fun r => A.W (g * 128 + r.val) n
def In.h (g n : ℕ) : EReal := hS (A.mx g n) (A.mn g n) (A.G g n) (A.B g n)
def In.z (g n : ℕ) : EReal := zS (A.mn g n) (A.B g n) (A.h g n)
def In.c (κ n : ℕ) : EReal := cS (A.W κ n) (A.h (κ / 128) n) (A.z (κ / 128) n)
def In.q (κ n : ℕ) : BitVec 8 := Ideal.fptosi 8 (qS (A.c κ n))
def In.what (κ n : ℕ) : EReal := (qS (A.c κ n) - A.z (κ / 128) n) * A.h (κ / 128) n
/-- The product of the codes with the quantised weights over the first `K` inputs. -/
def In.acc (K m n : ℕ) : EReal := ∑ κ ∈ Finset.range K, A.X m κ * A.what κ n
def In.err (m n : ℕ) : EReal := A.acc 18432 m n * A.XS m - A.Y m n
def In.eb (m n : ℕ) : EReal := A.err m n * A.XS m
/-- The squared errors of a block of 1024 output columns. -/
def In.sq (b : ℕ) : EReal := ∑ m ∈ Finset.range 3072, ∑ c ∈ Finset.range 1024, A.err m (b * 1024 + c) * A.err m (b * 1024 + c)
def In.loss : EReal := Ideal.div (∑ b ∈ Finset.range 7, A.sq b) (Ideal.ofBits .f32 0x4BA80000#32)
def In.grad (κ n : ℕ) : EReal := ∑ m ∈ Finset.range 3072, A.X m κ * A.eb m n
def In.r (κ n : ℕ) : EReal := rS (A.W κ n) (A.h (κ / 128) n) (A.z (κ / 128) n)
def In.s (g n : ℕ) : EReal := Ideal.ofBits .f32 0x33C30C31#32 * ∑ r ∈ Finset.range 128, A.grad (g * 128 + r) n * A.r (g * 128 + r) n
def In.dg (g n : ℕ) : EReal := dS (A.s g n) (A.G g n) (A.mx g n)
def In.db (g n : ℕ) : EReal := dS (0 - A.s g n) (A.B g n) (A.mn g n)

/-- Two rectangular ranges cut in tiles. -/
theorem sum_tiles {M : Type} [AddCommMonoid M] (a b : ℕ) (f : ℕ → M) :
    ∑ x ∈ Finset.range (a * b), f x = ∑ i ∈ Finset.range a, ∑ j ∈ Finset.range b, f (i * b + j) := by
  induction a with
  | zero => simp
  | succ a ih => rw [Nat.succ_mul, Finset.sum_range_add, ih, Finset.sum_range_succ]

/-- A window written over an array, where the window's contents and the array agree with one function. -/
theorem put2_agree {m n p q : ℕ} {α : Type} (x : (⟨2, ![m, n]⟩ : Shape).Idx → α) (o0 o1 : ℕ)
    (w : ((a : Fin 2) → Fin (![p, q] a)) → α) (f : ℕ → ℕ → α)
    (hw : ∀ (r : Fin p) (l : Fin q), w (ix2 r l : (⟨2, ![p, q]⟩ : Shape).Idx) = f (o0 + r.val) (o1 + l.val))
    (a : Fin m) (b : Fin n) (h : (o0 ≤ a.val ∧ a.val < o0 + p ∧ o1 ≤ b.val ∧ b.val < o1 + q) ∨ x (ix2 a b) = f a.val b.val) :
    VecWindow.put (s := ⟨2, ![m, n]⟩) x ![o0, o1] ![p, q] w (ix2 a b) = f a.val b.val := by
  unfold VecWindow.put
  by_cases hc : ∀ i : Fin 2, (![o0, o1] : Fin 2 → ℕ) i ≤ ((ix2 a b : (⟨2, ![m, n]⟩ : Shape).Idx) i).val ∧ ((ix2 a b : (⟨2, ![m, n]⟩ : Shape).Idx) i).val < (![o0, o1] : Fin 2 → ℕ) i + (![p, q] : Fin 2 → ℕ) i
  · rw [dif_pos hc]
    have h0 : o0 ≤ a.val ∧ a.val < o0 + p := hc 0
    have h1 : o1 ≤ b.val ∧ b.val < o1 + q := hc 1
    have e := hw ⟨a.val - o0, by omega⟩ ⟨b.val - o1, by omega⟩
    rw [show o0 + (a.val - o0) = a.val by omega, show o1 + (b.val - o1) = b.val by omega] at e
    refine Eq.trans (congrArg w ?_) e
    funext i
    match i with
    | ⟨0, _⟩ => rfl
    | ⟨1, _⟩ => rfl
  · rw [dif_neg hc]
    rcases h with h | h
    · refine absurd (fun i => ?_) hc
      match i with
      | ⟨0, _⟩ => exact ⟨h.1, h.2.1⟩
      | ⟨1, _⟩ => exact ⟨h.2.2.1, h.2.2.2⟩
    · exact h

/-- One row of a stack written over, as `put2_agree`. -/
theorem put3_agree {l m n q : ℕ} {α : Type} (x : (⟨3, ![l, m, n]⟩ : Shape).Idx → α) (o0 o1 o2 : ℕ)
    (w : ((a : Fin 3) → Fin (![1, 1, q] a)) → α) (f : ℕ → ℕ → ℕ → α)
    (hw : ∀ (r : Fin q), w (ix3 0 0 r : (⟨3, ![1, 1, q]⟩ : Shape).Idx) = f o0 o1 (o2 + r.val))
    (a : Fin l) (b : Fin m) (c : Fin n) (h : (a.val = o0 ∧ b.val = o1 ∧ o2 ≤ c.val ∧ c.val < o2 + q) ∨ x (ix3 a b c) = f a.val b.val c.val) :
    VecWindow.put (s := ⟨3, ![l, m, n]⟩) x ![o0, o1, o2] ![1, 1, q] w (ix3 a b c) = f a.val b.val c.val := by
  unfold VecWindow.put
  by_cases hc : ∀ i : Fin 3, (![o0, o1, o2] : Fin 3 → ℕ) i ≤ ((ix3 a b c : (⟨3, ![l, m, n]⟩ : Shape).Idx) i).val ∧ ((ix3 a b c : (⟨3, ![l, m, n]⟩ : Shape).Idx) i).val < (![o0, o1, o2] : Fin 3 → ℕ) i + (![1, 1, q] : Fin 3 → ℕ) i
  · rw [dif_pos hc]
    have h0 : o0 ≤ a.val ∧ a.val < o0 + 1 := hc 0
    have h1 : o1 ≤ b.val ∧ b.val < o1 + 1 := hc 1
    have h2 : o2 ≤ c.val ∧ c.val < o2 + q := hc 2
    have e := hw ⟨c.val - o2, by omega⟩
    rw [show o0 = a.val by omega, show o1 = b.val by omega, show o2 + (c.val - o2) = c.val by omega] at e
    refine Eq.trans (congrArg w ?_) e
    funext i
    match i with
    | ⟨0, _⟩ => exact Fin.ext (by show a.val - o0 = 0; omega)
    | ⟨1, _⟩ => exact Fin.ext (by show b.val - o1 = 0; omega)
    | ⟨2, _⟩ => rfl
  · rw [dif_neg hc]
    rcases h with h | h
    · refine absurd (fun i => ?_) hc
      match i with
      | ⟨0, _⟩ => exact ⟨le_of_eq h.1.symm, by show a.val < o0 + 1; omega⟩
      | ⟨1, _⟩ => exact ⟨le_of_eq h.2.1.symm, by show b.val < o1 + 1; omega⟩
      | ⟨2, _⟩ => exact h.2.2
    · exact h

end Cert.Lwc

end
-- ==== Proof.Pay.lean ====
/- What the kernel's payloads are at an index. -/
module

public import proofs.«01_k».proof.Proof.Chunks
public import proofs.«01_k».proof.Proof.Spec
public import Idealize.ShloMosaic.Lib.Pointwise

@[expose] public section

set_option maxRecDepth 65536

noncomputable section

namespace Cert.KernelIdeal.Body

open Idealize.ShloMosaic Idealize.ShloMosaic.TcCoe
open Cert.KernelIdeal.Gen Cert.Lwc

theorem p9 (w : FVec Ideal S128x256 .f32) (l : Fin 256) : k0_pay9 (F := Ideal) w (ix2 0 l) = mxS fun r => w (ix2 r l) := by
  pointwise [k0_pay9, mxS]
theorem p10 (w : FVec Ideal S128x256 .f32) (l : Fin 256) : k0_pay10 (F := Ideal) w (ix2 0 l) = mnS fun r => w (ix2 r l) := by
  pointwise [k0_pay10, mnS]
theorem p11 (w : FVec Ideal S128x256 .f32) (b : FVec Ideal S1x256 .f32) (l : Fin 256) :
    k0_pay11 (F := Ideal) w b (ix2 0 l) = Ideal.logistic (b (ix2 0 l)) * mnS fun r => w (ix2 r l) := by
  pointwise [k0_pay11, k0_pay10, mnS]
theorem p12 (w : FVec Ideal S128x256 .f32) (g b : FVec Ideal S1x256 .f32) (l : Fin 256) :
    k0_pay12 (F := Ideal) w g b (ix2 0 l) = hS (mxS fun r => w (ix2 r l)) (mnS fun r => w (ix2 r l)) (g (ix2 0 l)) (b (ix2 0 l)) := by
  pointwise [k0_pay12, k0_pay11, k0_pay10, k0_pay9, hS, mxS, mnS, c15]
theorem p13 (w : FVec Ideal S128x256 .f32) (g b : FVec Ideal S1x256 .f32) (l : Fin 256) :
    k0_pay13 (F := Ideal) w g b (ix2 0 l) = zS (mnS fun r => w (ix2 r l)) (b (ix2 0 l)) (k0_pay12 (F := Ideal) w g b (ix2 0 l)) := by
  rw [zS, rnd, ← p11]
  pointwise [k0_pay13]
theorem p15 (w : FVec Ideal S128x256 .f32) (g b : FVec Ideal S1x256 .f32) (r : Fin 128) (l : Fin 256) :
    k0_pay15 (F := Ideal) w g b (ix2 r l) = Ideal.fptosi 8 (qS (cS (w (ix2 r l)) (k0_pay12 (F := Ideal) w g b (ix2 0 l)) (k0_pay13 (F := Ideal) w g b (ix2 0 l)))) := by
  pointwise [k0_pay15, k0_pay14, qS, cS, rnd, c15]
  rfl
theorem p16 (w : FVec Ideal S128x256 .f32) (g b : FVec Ideal S1x256 .f32) (r : Fin 128) (l : Fin 256) :
    k0_pay16 (F := Ideal) w g b (ix2 r l)
      = (qS (cS (w (ix2 r l)) (k0_pay12 (F := Ideal) w g b (ix2 0 l)) (k0_pay13 (F := Ideal) w g b (ix2 0 l))) - k0_pay13 (F := Ideal) w g b (ix2 0 l)) * k0_pay12 (F := Ideal) w g b (ix2 0 l) := by
  pointwise [k0_pay16, k0_pay14, qS, cS, rnd, c15]
theorem p17 (w : FVec Ideal S1x256 .f32) (l : Fin 256) : k0_pay17 (F := Ideal) w (ix3 0 0 l) = w (ix2 0 l) := by
  pointwise [k0_pay17]
theorem p18 (w : FVec Ideal S1x256 .f32) (l : Fin 256) : k0_pay18 (F := Ideal) w (ix3 0 0 l) = w (ix2 0 l) := by
  pointwise [k0_pay18]
theorem p19 (w : FVec Ideal S1x256 .f32) (l : Fin 256) : k0_pay19 (F := Ideal) w (ix3 0 0 l) = w (ix2 0 l) := by
  pointwise [k0_pay19]
theorem p20 (w : FVec Ideal S1x256 .f32) (l : Fin 256) : k0_pay20 (F := Ideal) w (ix3 0 0 l) = w (ix2 0 l) := by
  pointwise [k0_pay20]
theorem p3 (a : FVec Ideal S512x512 .f32) (x : FVec Ideal S512x1024 .fp8e4m3) (w : FVec Ideal S1024x512 .bf16) (r l : Fin 512) :
    k0_pay3 (F := Ideal) a x w (ix2 r l) = a (ix2 r l) + ∑ k : Fin 1024, x (ix2 r k) * w (ix2 k l) := by
  pointwise [k0_pay3]
theorem p438 (xs a : FVec Ideal S512x128 .f32) (y : FVec Ideal S512x128 .bf16) (r : Fin 512) (l : Fin 128) :
    k0_pay438 (F := Ideal) xs a y (ix2 r l) = a (ix2 r l) * xs (ix2 r l) - y (ix2 r l) := by
  pointwise [k0_pay438, k0_pay437]
theorem p439 (xs a : FVec Ideal S512x128 .f32) (y : FVec Ideal S512x128 .bf16) (d : FVec Ideal S8x128 .f32) (r : Fin 8) (l : Fin 128) :
    k0_pay439 (F := Ideal) xs a y d (ix2 r l)
      = d (ix2 r l) + ∑ x : Fin 64, k0_pay438 (F := Ideal) xs a y (ix2 ⟨x.val * 8 + r.val, by omega⟩ l) * k0_pay438 (F := Ideal) xs a y (ix2 ⟨x.val * 8 + r.val, by omega⟩ l) := by
  pointwise [k0_pay439]
theorem p440 (xs a : FVec Ideal S512x128 .f32) (y : FVec Ideal S512x128 .bf16) (r : Fin 512) (l : Fin 128) :
    k0_pay440 (F := Ideal) xs a y (ix2 r l) = (a (ix2 r l) * xs (ix2 r l) - y (ix2 r l)) * xs (ix2 r l) := by
  pointwise [k0_pay440, k0_pay438, k0_pay437]
theorem p656 (a : FVec Ideal S3072x256 .fp8e4m3) (r : Fin 256) (l : Fin 3072) : k0_pay656 (F := Ideal) a (ix2 r l) = a (ix2 l r) := by
  pointwise [k0_pay656]
theorem p657 (a : FVec Ideal S256x3072 .bf16) (b : FVec Ideal S3072x512 .bf16) (r : Fin 256) (l : Fin 512) :
    k0_pay657 (F := Ideal) a b (ix2 r l) = ∑ m : Fin 3072, a (ix2 r m) * b (ix2 m l) := by
  pointwise [k0_pay657]
theorem p8 (a : FVec Ideal S8x128 .f32) :
    k0_pay8 (F := Ideal) a = Ideal.div (∑ s : Fin 8, ∑ l : Fin 128, a (ix2 s l)) (Ideal.ofBits .f32 0x4BA80000#32) := by
  pointwise [k0_pay8]
theorem p1 (r : Fin 8) (l : Fin 128) : k0_pay1 (F := Ideal) (ix2 r l) = 0 := by
  pointwise [k0_pay1]
theorem p422 (r : Fin 3072) (l : Fin 1024) : k0_pay422 (F := Ideal) (ix2 r l) = 0 := by
  pointwise [k0_pay422]

/-- A select on two comparisons. -/
theorem selP (p q : Prop) [Decidable p] [Decidable q] (x : EReal) :
    Scalar.select (IntOp.andi (BitVec.ofBool (decide p)) (BitVec.ofBool (decide q))) x 0 = if p ∧ q then x else 0 := by
  by_cases hp : p <;> by_cases hq : q <;> simp [hp, hq, Scalar.select, IntOp.andi]

theorem pR (h z : FVec Ideal S1x1x512 .f32) (w : FVec Ideal S128x512 .f32) (r : Fin 128) (l : Fin 512) :
    bwdR (F := Ideal) h z w (ix2 r l) = rS (w (ix2 r l)) (h (ix3 0 0 l)) (z (ix3 0 0 l)) := by
  pointwise [bwdR, rS, qS, cS, rnd, c15]
  rw [selP]; congr
theorem pS (g : Fin 2) (d : FVec Ideal S256x512 .f32) (r : FVec Ideal S128x512 .f32) (l : Fin 512) :
    bwdS (F := Ideal) g d r (ix2 0 l) = Ideal.ofBits .f32 0x33C30C31#32 * ∑ a : Fin 128, d (ix2 ⟨g.val * 128 + a.val, by omega⟩ l) * r (ix2 a l) := by
  pointwise [bwdS, k0_pay659]
theorem pDG (s : FVec Ideal S1x512 .f32) (γ : FVec Ideal S1x512 .f32) (mx : FVec Ideal S1x1x512 .f32) (l : Fin 512) :
    bwdDG (F := Ideal) s γ mx (ix2 0 l) = dS (s (ix2 0 l)) (γ (ix2 0 l)) (mx (ix3 0 0 l)) := by
  pointwise [bwdDG, dS, c15]
theorem pDB (s : FVec Ideal S1x512 .f32) (γ : FVec Ideal S1x512 .f32) (mx : FVec Ideal S1x1x512 .f32) (l : Fin 512) :
    bwdDB (F := Ideal) s γ mx (ix2 0 l) = dS (0 - s (ix2 0 l)) (γ (ix2 0 l)) (mx (ix3 0 0 l)) := by
  rw [bwdDB, pDG]
  pointwise []

end Cert.KernelIdeal.Body

end
-- ==== Proof.Inv.lean ====
/- What each pass of the body makes of the memrefs' contents, in the layer's mathematics. -/
module

public import proofs.«01_k».proof.Proof.Pay
public import proofs.«01_k».proof.Proof.BodyWp
public import Idealize.ShloMosaic.Lib.Pipeline.ValueKit.Tiles

@[expose] public section

set_option maxRecDepth 65536

noncomputable section

namespace Cert.KernelIdeal.Body

open Idealize.ShloMosaic Idealize.ShloMosaic.TcCoe
open Cert.KernelIdeal.Gen Cert.Lwc

/-- A load of a rectangle of an array, at an index. -/
theorem ld2 {e : EltTy} {m n p q : ℕ} (X : Vec Ideal (⟨2, ![m, n]⟩ : Shape) e) (o0 o1 : ℕ)
    (inb : ∀ a, (![o0, o1] : Fin 2 → ℕ) a + (![p, q] : Fin 2 → ℕ) a ≤ (⟨2, ![m, n]⟩ : Shape).size a) (r : Fin p) (l : Fin q)
    (h0 : o0 + r.val < m) (h1 : o1 + l.val < n) :
    View.ld X (Rect.unit (s := ⟨2, ![m, n]⟩) ![o0, o1] ![p, q] inb) (ix2 r l : (⟨2, ![p, q]⟩ : Shape).Idx) = X (ix2 ⟨o0 + r.val, h0⟩ ⟨o1 + l.val, h1⟩) := by
  refine congrArg X (funext fun i => ?_)
  match i with
  | ⟨0, _⟩ => exact Fin.ext (Rect.idx_unit_val _ _ _ _ _)
  | ⟨1, _⟩ => exact Fin.ext (Rect.idx_unit_val _ _ _ _ _)
theorem ld3 {e : EltTy} {k m n q : ℕ} (X : Vec Ideal (⟨3, ![k, m, n]⟩ : Shape) e) (o0 o1 o2 : ℕ)
    (inb : ∀ a, (![o0, o1, o2] : Fin 3 → ℕ) a + (![1, 1, q] : Fin 3 → ℕ) a ≤ (⟨3, ![k, m, n]⟩ : Shape).size a) (l : Fin q)
    (h0 : o0 < k) (h1 : o1 < m) (h2 : o2 + l.val < n) :
    View.ld X (Rect.unit (s := ⟨3, ![k, m, n]⟩) ![o0, o1, o2] ![1, 1, q] inb) (ix3 0 0 l : (⟨3, ![1, 1, q]⟩ : Shape).Idx) = X (ix3 ⟨o0, h0⟩ ⟨o1, h1⟩ ⟨o2 + l.val, h2⟩) := by
  refine congrArg X (funext fun i => ?_)
  match i with
  | ⟨0, _⟩ => exact Fin.ext ((Rect.idx_unit_val _ _ _ _ _).trans (Nat.add_zero _))
  | ⟨1, _⟩ => exact Fin.ext ((Rect.idx_unit_val _ _ _ _ _).trans (Nat.add_zero _))
  | ⟨2, _⟩ => exact Fin.ext (Rect.idx_unit_val _ _ _ _ _)

variable (A : In)

/-- The input windows' contents at column block `b` and row block `k`. -/
structure Wins (b k : ℕ) (a3 : Vec Ideal S3072x1024 .fp8e4m3) (a4 : Vec Ideal S3072x128 .f32) (a5 : Vec Ideal S1024x1024 .f32)
    (a6 a7 : Vec Ideal S8x1024 .f32) (a8 : Vec Ideal S3072x1024 .bf16) : Prop where
  x : ∀ (m : Fin 3072) (κ : Fin 1024), a3 (ix2 m κ) = A.X m.val (k * 1024 + κ.val)
  xs : ∀ (m : Fin 3072) (l : Fin 128), a4 (ix2 m l) = A.XS m.val
  w : ∀ (r l : Fin 1024), a5 (ix2 r l) = A.W (k * 1024 + r.val) (b * 1024 + l.val)
  g : ∀ (r : Fin 8) (l : Fin 1024), a6 (ix2 r l) = A.G (k * 8 + r.val) (b * 1024 + l.val)
  bt : ∀ (r : Fin 8) (l : Fin 1024), a7 (ix2 r l) = A.B (k * 8 + r.val) (b * 1024 + l.val)
  y : ∀ (m : Fin 3072) (l : Fin 1024), a8 (ix2 m l) = A.Y m.val (b * 1024 + l.val)

/-- `Wins` of a state. -/
abbrev WinsS (b k : ℕ) (s : St Ideal) : Prop := Wins A b k s.a3 s.a4 s.a5 s.a6 s.a7 s.a8

variable {A} {b k : ℕ} {s s0 : St Ideal} {i : grid0.Coords}

theorem iter_inv {N : ℕ} [NeZero N] {f : Fin N → St Ideal → St Ideal} (P : ℕ → St Ideal → Prop)
    (h : ∀ (n : Fin N) s, P n.val s → P (n.val + 1) (f n s)) : ∀ (k j : ℕ) (s : St Ideal), j + k = N → P j s → P N (iter f k j s)
  | 0, j, s, e, hs => by rw [Nat.add_zero] at e; subst e; exact hs
  | k + 1, j, s, e, hs => by
    have hj : (Fin.ofNat N j).val = j := Nat.mod_eq_of_lt (by omega)
    have hs' := h (Fin.ofNat N j) s (by rw [hj]; exact hs)
    rw [hj] at hs'
    exact iter_inv P h k (j + 1) _ (by omega) hs'

/-! ### The quantiser's pass -/

/-- The weights of chunk `n`. -/
abbrev qW (s : St Ideal) (n : Fin 32) : Vec Ideal S128x256 .f32 := View.ld s.a5 (Rect.unit (s := S1024x1024) ![n.val / 4 * 128, n.val % 4 * 256] S128x256.size (inbQw n))
/-- The upper clipping parameters of chunk `n`. -/
abbrev qG (s : St Ideal) (n : Fin 32) : Vec Ideal S1x256 .f32 := View.ld s.a6 (Rect.unit (s := S8x1024) ![n.val / 4, n.val % 4 * 256] S1x256.size (inbQg n))
/-- The lower clipping parameters of chunk `n`. -/
abbrev qB (s : St Ideal) (n : Fin 32) : Vec Ideal S1x256 .f32 := View.ld s.a7 (Rect.unit (s := S8x1024) ![n.val / 4, n.val % 4 * 256] S1x256.size (inbQg n))

theorem qW_at (h : WinsS A b k s) (n : Fin 32) (r : Fin 128) (l : Fin 256) :
    qW s n (ix2 r l) = A.W ((k * 8 + n.val / 4) * 128 + r.val) (b * 1024 + (n.val % 4 * 256 + l.val)) := by
  refine (ld2 s.a5 _ _ (inbQw n) r l (by omega) (by omega)).trans ((h.w _ _).trans ?_)
  congr 1; show k * 1024 + (n.val / 4 * 128 + r.val) = _; omega
theorem qG_at (h : WinsS A b k s) (n : Fin 32) (l : Fin 256) :
    qG s n (ix2 0 l) = A.G (k * 8 + n.val / 4) (b * 1024 + (n.val % 4 * 256 + l.val)) :=
  (ld2 s.a6 _ _ (inbQg n) 0 l (by show n.val / 4 + 0 < 8; omega) (by omega)).trans (h.g _ _)
theorem qB_at (h : WinsS A b k s) (n : Fin 32) (l : Fin 256) :
    qB s n (ix2 0 l) = A.B (k * 8 + n.val / 4) (b * 1024 + (n.val % 4 * 256 + l.val)) :=
  (ld2 s.a7 _ _ (inbQg n) 0 l (by show n.val / 4 + 0 < 8; omega) (by omega)).trans (h.bt _ _)

theorem q_mx (h : WinsS A b k s) (n : Fin 32) (l : Fin 256) :
    k0_pay9 (F := Ideal) (qW s n) (ix2 0 l) = A.mx (k * 8 + n.val / 4) (b * 1024 + (n.val % 4 * 256 + l.val)) :=
  (p9 _ l).trans (congrArg mxS (funext fun r => qW_at h n r l))
theorem q_mn (h : WinsS A b k s) (n : Fin 32) (l : Fin 256) :
    k0_pay10 (F := Ideal) (qW s n) (ix2 0 l) = A.mn (k * 8 + n.val / 4) (b * 1024 + (n.val % 4 * 256 + l.val)) :=
  (p10 _ l).trans (congrArg mnS (funext fun r => qW_at h n r l))
theorem q_h (h : WinsS A b k s) (n : Fin 32) (l : Fin 256) :
    k0_pay12 (F := Ideal) (qW s n) (qG s n) (qB s n) (ix2 0 l) = A.h (k * 8 + n.val / 4) (b * 1024 + (n.val % 4 * 256 + l.val)) := by
  rw [p12, In.h, ← p9, ← p10, q_mx h, q_mn h, qG_at h, qB_at h]
theorem q_z (h : WinsS A b k s) (n : Fin 32) (l : Fin 256) :
    k0_pay13 (F := Ideal) (qW s n) (qG s n) (qB s n) (ix2 0 l) = A.z (k * 8 + n.val / 4) (b * 1024 + (n.val % 4 * 256 + l.val)) := by
  rw [p13, In.z, ← p10, q_mn h, q_h h, qB_at h]
theorem q_q (h : WinsS A b k s) (n : Fin 32) (r : Fin 128) (l : Fin 256) :
    k0_pay15 (F := Ideal) (qW s n) (qG s n) (qB s n) (ix2 r l) = A.q (k * 1024 + (n.val / 4 * 128 + r.val)) (b * 1024 + (n.val % 4 * 256 + l.val)) := by
  rw [p15, q_h h, q_z h, qW_at h, In.q, In.c, show (k * 1024 + (n.val / 4 * 128 + r.val)) / 128 = k * 8 + n.val / 4 by omega,
    show k * 1024 + (n.val / 4 * 128 + r.val) = (k * 8 + n.val / 4) * 128 + r.val by omega]
theorem q_what (h : WinsS A b k s) (n : Fin 32) (r : Fin 128) (l : Fin 256) :
    k0_pay16 (F := Ideal) (qW s n) (qG s n) (qB s n) (ix2 r l) = A.what (k * 1024 + (n.val / 4 * 128 + r.val)) (b * 1024 + (n.val % 4 * 256 + l.val)) := by
  rw [p16, q_h h, q_z h, qW_at h, In.what, In.c, show (k * 1024 + (n.val / 4 * 128 + r.val)) / 128 = k * 8 + n.val / 4 by omega,
    show k * 1024 + (n.val / 4 * 128 + r.val) = (k * 8 + n.val / 4) * 128 + r.val by omega]

/-- The stacks' rows `κ` in which `P` holds are the groups' steps, zero points and extreme weights. -/
structure Stk (A : In) (b : ℕ) (P : ℕ → ℕ → ℕ → Prop) (a19 a20 a21 a22 : Vec Ideal S18x8x1024 .f32) : Prop where
  h : ∀ (κ : Fin 18) (g : Fin 8) (l : Fin 1024), P κ.val g.val l.val → a19 (ix3 κ g l) = A.h (κ.val * 8 + g.val) (b * 1024 + l.val)
  z : ∀ (κ : Fin 18) (g : Fin 8) (l : Fin 1024), P κ.val g.val l.val → a20 (ix3 κ g l) = A.z (κ.val * 8 + g.val) (b * 1024 + l.val)
  mx : ∀ (κ : Fin 18) (g : Fin 8) (l : Fin 1024), P κ.val g.val l.val → a21 (ix3 κ g l) = A.mx (κ.val * 8 + g.val) (b * 1024 + l.val)
  mn : ∀ (κ : Fin 18) (g : Fin 8) (l : Fin 1024), P κ.val g.val l.val → a22 (ix3 κ g l) = A.mn (κ.val * 8 + g.val) (b * 1024 + l.val)

/-- After `j` chunks of the quantiser's pass from `s0`. -/
structure QInv (A : In) (b k : ℕ) (s0 : St Ideal) (j : ℕ) (s : St Ideal) : Prop where
  wins : WinsS A b k s
  keep : s.a9 = s0.a9 ∧ s.a10 = s0.a10 ∧ s.a11 = s0.a11 ∧ s.a15 = s0.a15 ∧ s.a16 = s0.a16 ∧ s.a23 = s0.a23
  q : ∀ r l : Fin 1024, r.val / 128 * 4 + l.val / 256 < j → s.a12 (ix2 r l) = A.q (k * 1024 + r.val) (b * 1024 + l.val)
  what : ∀ r l : Fin 1024, r.val / 128 * 4 + l.val / 256 < j → s.a17 (ix2 r l) = A.what (k * 1024 + r.val) (b * 1024 + l.val)
  h : ∀ (g : Fin 8) (l : Fin 1024), g.val * 4 + l.val / 256 < j → s.a13 (ix2 g l) = A.h (k * 8 + g.val) (b * 1024 + l.val)
  z : ∀ (g : Fin 8) (l : Fin 1024), g.val * 4 + l.val / 256 < j → s.a14 (ix2 g l) = A.z (k * 8 + g.val) (b * 1024 + l.val)
  stk : Stk A b (fun κ g l => κ < k ∨ κ = k ∧ g * 4 + l / 256 < j) s.a19 s.a20 s.a21 s.a22

theorem quant_stk (hk : kRow i = k) (n : Fin 32) (w : FVec Ideal S1x1x256 .f32) (x : Vec Ideal S18x8x1024 .f32) (f : ℕ → ℕ → EReal)
    (hw : ∀ l : Fin 256, w (ix3 0 0 l) = f (k * 8 + n.val / 4) (b * 1024 + (n.val % 4 * 256 + l.val)))
    (hx : ∀ (κ : Fin 18) (g : Fin 8) (l : Fin 1024), (κ.val < k ∨ κ.val = k ∧ g.val * 4 + l.val / 256 < n.val) → x (ix3 κ g l) = f (κ.val * 8 + g.val) (b * 1024 + l.val))
    (κ : Fin 18) (g : Fin 8) (l : Fin 1024) (h : κ.val < k ∨ κ.val = k ∧ g.val * 4 + l.val / 256 < n.val + 1) :
    VecWindow.put (s := S18x8x1024) x ![kRow i, n.val / 4, n.val % 4 * 256] S1x1x256.size w (ix3 κ g l) = f (κ.val * 8 + g.val) (b * 1024 + l.val) := by
  subst hk
  refine put3_agree x _ _ _ w (fun κ g l => f (κ * 8 + g) (b * 1024 + l)) hw κ g l ?_
  by_cases hc : κ.val = kRow i ∧ g.val = n.val / 4 ∧ n.val % 4 * 256 ≤ l.val ∧ l.val < n.val % 4 * 256 + 256
  · exact .inl hc
  · exact .inr (hx κ g l (by omega))

theorem quant_inv (hk : kRow i = k) (n : Fin 32) (h : QInv A b k s0 n.val s) : QInv A b k s0 (n.val + 1) (quantStep i n s) where
  wins := h.wins
  keep := h.keep
  q r l hl := put2_agree s.a12 _ _ _ (fun r l => A.q (k * 1024 + r) (b * 1024 + l)) (q_q h.wins n) r l (by
    by_cases hc : n.val / 4 * 128 ≤ r.val ∧ r.val < n.val / 4 * 128 + 128 ∧ n.val % 4 * 256 ≤ l.val ∧ l.val < n.val % 4 * 256 + 256
    · exact .inl hc
    · exact .inr (h.q r l (by omega)))
  what r l hl := put2_agree s.a17 _ _ _ (fun r l => A.what (k * 1024 + r) (b * 1024 + l)) (q_what h.wins n) r l (by
    by_cases hc : n.val / 4 * 128 ≤ r.val ∧ r.val < n.val / 4 * 128 + 128 ∧ n.val % 4 * 256 ≤ l.val ∧ l.val < n.val % 4 * 256 + 256
    · exact .inl hc
    · exact .inr (h.what r l (by omega)))
  h g l hl := put2_agree s.a13 _ _ _ (fun g l => A.h (k * 8 + g) (b * 1024 + l)) (fun r l => by
      obtain rfl : r = 0 := Subsingleton.elim _ _
      exact q_h h.wins n l) g l (by
    by_cases hc : n.val / 4 ≤ g.val ∧ g.val < n.val / 4 + 1 ∧ n.val % 4 * 256 ≤ l.val ∧ l.val < n.val % 4 * 256 + 256
    · exact .inl hc
    · exact .inr (h.h g l (by omega)))
  z g l hl := put2_agree s.a14 _ _ _ (fun g l => A.z (k * 8 + g) (b * 1024 + l)) (fun r l => by
      obtain rfl : r = 0 := Subsingleton.elim _ _
      exact q_z h.wins n l) g l (by
    by_cases hc : n.val / 4 ≤ g.val ∧ g.val < n.val / 4 + 1 ∧ n.val % 4 * 256 ≤ l.val ∧ l.val < n.val % 4 * 256 + 256
    · exact .inl hc
    · exact .inr (h.z g l (by omega)))
  stk :=
    { h := quant_stk hk n _ s.a19 A.h (fun l => (p17 _ l).trans (q_h h.wins n l)) h.stk.h
      z := quant_stk hk n _ s.a20 A.z (fun l => (p18 _ l).trans (q_z h.wins n l)) h.stk.z
      mx := quant_stk hk n _ s.a21 A.mx (fun l => (p19 _ l).trans (q_mx h.wins n l)) h.stk.mx
      mn := quant_stk hk n _ s.a22 A.mn (fun l => (p20 _ l).trans (q_mn h.wins n l)) h.stk.mn }

theorem quant_pass (hk : kRow i = k) (hw : WinsS A b k s) (hs : Stk A b (fun κ _ _ => κ < k) s.a19 s.a20 s.a21 s.a22) :
    QInv A b k s 32 (iter (quantStep i) 32 0 s) :=
  iter_inv (QInv A b k s) (fun n s h => quant_inv hk n h) 32 0 s rfl
    { wins := hw, keep := ⟨rfl, rfl, rfl, rfl, rfl, rfl⟩
      q := fun _ _ h => absurd h (Nat.not_lt_zero _), what := fun _ _ h => absurd h (Nat.not_lt_zero _)
      h := fun _ _ h => absurd h (Nat.not_lt_zero _), z := fun _ _ h => absurd h (Nat.not_lt_zero _)
      stk := ⟨fun κ g l h => hs.h κ g l (by omega), fun κ g l h => hs.z κ g l (by omega), fun κ g l h => hs.mx κ g l (by omega), fun κ g l h => hs.mn κ g l (by omega)⟩ }

/-! ### The product's pass -/

theorem acc_step (m n : ℕ) : A.acc ((k + 1) * 1024) m n = A.acc (k * 1024) m n + ∑ κ : Fin 1024, A.X m (k * 1024 + κ.val) * A.what (k * 1024 + κ.val) n := by
  rw [In.acc, Nat.succ_mul, Finset.sum_range_add, ← Fin.sum_univ_eq_sum_range (fun κ => A.X m (k * 1024 + κ) * A.what (k * 1024 + κ) n)]; rfl

/-- After `j` tiles of the product's pass from `s0`. -/
structure DInv (A : In) (b k : ℕ) (s0 : St Ideal) (j : ℕ) (s : St Ideal) : Prop where
  x : ∀ (m : Fin 3072) (κ : Fin 1024), s.a3 (ix2 m κ) = A.X m.val (k * 1024 + κ.val)
  what : ∀ r l : Fin 1024, s.a17 (ix2 r l) = A.what (k * 1024 + r.val) (b * 1024 + l.val)
  keep : { s with a15 := s0.a15 } = s0
  acc : ∀ (m : Fin 3072) (l : Fin 1024), s.a15 (ix2 m l) = A.acc ((if l.val / 512 * 6 + m.val / 512 < j then k + 1 else k) * 1024) m.val (b * 1024 + l.val)

theorem dot_inv (n : Fin 12) (h : DInv A b k s0 n.val s) : DInv A b k s0 (n.val + 1) (dotStep n s) where
  x := h.x
  what := h.what
  keep := h.keep
  acc m l := put2_agree s.a15 _ _ _ (fun m l => A.acc ((if l / 512 * 6 + m / 512 < n.val + 1 then k + 1 else k) * 1024) m (b * 1024 + l)) (fun r c => by
      have hn := n.isLt
      refine (p3 _ _ _ r c).trans ?_
      have e1 := (ld2 s.a15 _ _ (inbDa n) r c (by omega) (by omega)).trans (h.acc _ _)
      have e2 : ∀ κ : Fin 1024, _ := fun κ => (ld2 s.a3 _ _ (inbDx n) r κ (by omega) (by omega)).trans (h.x _ _)
      have e3 : ∀ κ : Fin 1024, _ := fun κ => (ld2 s.a17 _ _ (inbDw n) κ c (by omega) (by omega)).trans (h.what _ _)
      refine (congrArg₂ (· + ·) e1 (Finset.sum_congr rfl fun κ _ => congrArg₂ (· * ·) (e2 κ) (e3 κ))).trans ?_
      have c1 : ¬ ((n.val / 6 * 512 + c.val) / 512 * 6 + (n.val % 6 * 512 + r.val) / 512 < n.val) := by omega
      have c2 : (n.val / 6 * 512 + c.val) / 512 * 6 + (n.val % 6 * 512 + r.val) / 512 < n.val + 1 := by omega
      simp only [if_neg c1, if_pos c2, Nat.zero_add]
      exact (acc_step _ _).symm) m l (by
    by_cases hc : n.val % 6 * 512 ≤ m.val ∧ m.val < n.val % 6 * 512 + 512 ∧ n.val / 6 * 512 ≤ l.val ∧ l.val < n.val / 6 * 512 + 512
    · exact .inl hc
    · refine .inr ((h.acc m l).trans ?_)
      have : (l.val / 512 * 6 + m.val / 512 < n.val) ↔ (l.val / 512 * 6 + m.val / 512 < n.val + 1) := by omega
      simp only [this])

theorem dot_pass (hx : ∀ (m : Fin 3072) (κ : Fin 1024), s.a3 (ix2 m κ) = A.X m.val (k * 1024 + κ.val))
    (hw : ∀ r l : Fin 1024, s.a17 (ix2 r l) = A.what (k * 1024 + r.val) (b * 1024 + l.val))
    (ha : ∀ (m : Fin 3072) (l : Fin 1024), s.a15 (ix2 m l) = A.acc (k * 1024) m.val (b * 1024 + l.val)) :
    { iter dotStep 12 0 s with a15 := s.a15 } = s
      ∧ ∀ (m : Fin 3072) (l : Fin 1024), (iter dotStep 12 0 s).a15 (ix2 m l) = A.acc ((k + 1) * 1024) m.val (b * 1024 + l.val) := by
  have h := iter_inv (DInv A b k s) (fun n s h => dot_inv n h) 12 0 s rfl
    { x := hx, what := hw, keep := rfl, acc := fun m l => by simp only [Nat.not_lt_zero, if_false]; exact ha m l }
  refine ⟨h.keep, fun m l => (h.acc m l).trans ?_⟩
  rw [if_pos (by omega)]

end Cert.KernelIdeal.Body

end
-- ==== Proof.InvB.lean ====
/- What the error's and the backward pass make of the memrefs' contents, and what a grid point makes of them. -/
module

public import proofs.«01_k».proof.Proof.Inv
public import proofs.«01_k».proof.Proof.Point

@[expose] public section

set_option maxRecDepth 65536

noncomputable section

namespace Cert.KernelIdeal.Body

open Idealize.ShloMosaic Idealize.ShloMosaic.TcCoe
open Cert.KernelIdeal.Gen Cert.Lwc

variable {A : In} {b k : ℕ} {s s0 : St Ideal} {i : grid0.Coords}

/-! ### The error's pass -/

/-- The sum of a loss accumulator's entries. -/
def tot (x : Vec Ideal S8x128 .f32) : EReal := ∑ s : Fin 8, ∑ l : Fin 128, (x (ix2 s l) : EReal)

/-- A whole load of the loss accumulator. -/
theorem ld_lacc (x : Vec Ideal S8x128 .f32) (r : Fin 8) (l : Fin 128) :
    View.ld x (Rect.unit (s := S8x128) ![0, 0] S8x128.size inb_S8x128_S8x128_0_0) (ix2 r l) = x (ix2 r l) := by
  refine (ld2 x 0 0 inb_S8x128_S8x128_0_0 r l (by omega) (by omega)).trans (congrArg x ?_)
  congr 1 <;> exact Fin.ext (Nat.zero_add _)

theorem tot_add (x : Vec Ideal S8x128 .f32) (d : Vec Ideal S8x128 .f32) (f : ℕ → ℕ → EReal)
    (h : ∀ (s : Fin 8) (l : Fin 128), x (ix2 s l) = d (ix2 s l) + ∑ a : Fin 64, f (a.val * 8 + s.val) l.val) :
    tot x = tot d + ∑ r ∈ Finset.range 512, ∑ l ∈ Finset.range 128, f r l := by
  have e : tot x = ∑ s : Fin 8, ∑ l : Fin 128, ((d (ix2 s l) : EReal) + ∑ a : Fin 64, f (a.val * 8 + s.val) l.val) :=
    Finset.sum_congr rfl fun s _ => Finset.sum_congr rfl fun l _ => h s l
  rw [e]
  simp only [Finset.sum_add_distrib]
  refine congrArg₂ (· + ·) rfl ?_
  rw [show 512 = 64 * 8 from rfl, sum_tiles, Finset.sum_range]
  simp only [Finset.sum_range]
  rw [Finset.sum_comm' (s' := fun _ => Finset.univ) (t' := Finset.univ) (by simp)]
  rw [Finset.sum_congr rfl fun l _ => Finset.sum_comm, Finset.sum_comm]
  refine Finset.sum_congr rfl fun a _ => ?_
  exact Finset.sum_comm

theorem sq_tiles : ∑ n ∈ Finset.range 48, ∑ r ∈ Finset.range 512, ∑ l ∈ Finset.range 128,
      A.err (n / 8 * 512 + r) (b * 1024 + (n % 8 * 128 + l)) * A.err (n / 8 * 512 + r) (b * 1024 + (n % 8 * 128 + l)) = A.sq b := by
  rw [In.sq, show 48 = 6 * 8 from rfl, show 3072 = 6 * 512 from rfl, show 1024 = 8 * 128 from rfl, sum_tiles 6 8, sum_tiles 6 512]
  refine Finset.sum_congr rfl fun i _ => ?_
  rw [Finset.sum_comm]
  refine Finset.sum_congr rfl fun r _ => ?_
  rw [sum_tiles 8 128]
  refine Finset.sum_congr rfl fun j hj => Finset.sum_congr rfl fun l _ => ?_
  have := Finset.mem_range.mp hj
  rw [show (i * 8 + j) / 8 = i by omega, show (i * 8 + j) % 8 = j by omega]

/-- After `j` chunks of the error's pass from `s0`. -/
structure EInv (A : In) (b k : ℕ) (s0 : St Ideal) (j : ℕ) (s : St Ideal) : Prop where
  wins : WinsS A b k s
  keep : { s with a16 := s0.a16, a23 := s0.a23 } = s0
  acc : ∀ (m : Fin 3072) (l : Fin 1024), s.a15 (ix2 m l) = A.acc 18432 m.val (b * 1024 + l.val)
  eb : ∀ (m : Fin 3072) (l : Fin 1024), m.val / 512 * 8 + l.val / 128 < j → s.a16 (ix2 m l) = A.eb m.val (b * 1024 + l.val)
  tot : tot s.a23 = tot s0.a23 + ∑ n ∈ Finset.range j, ∑ r ∈ Finset.range 512, ∑ l ∈ Finset.range 128,
      A.err (n / 8 * 512 + r) (b * 1024 + (n % 8 * 128 + l)) * A.err (n / 8 * 512 + r) (b * 1024 + (n % 8 * 128 + l))

theorem err_inv (n : Fin 48) (h : EInv A b k s0 n.val s) : EInv A b k s0 (n.val + 1) (errStep n s) := by
  have hn := n.isLt
  have e1 : ∀ (r : Fin 512) (l : Fin 128), _ := fun r l => (ld2 s.a15 _ _ (inbEa n) r l (by omega) (by omega)).trans (h.acc _ _)
  have e2 : ∀ (r : Fin 512) (l : Fin 128), _ := fun r l => (ld2 s.a4 _ _ (inbEx n) r l (by omega) (by omega)).trans (h.wins.xs _ _)
  have e3 : ∀ (r : Fin 512) (l : Fin 128), _ := fun r l => (ld2 s.a8 _ _ (inbEa n) r l (by omega) (by omega)).trans (h.wins.y _ _)
  exact
    { wins := h.wins
      keep := h.keep
      acc := h.acc
      eb := fun m l hl => put2_agree s.a16 _ _ _ (fun m l => A.eb m (b * 1024 + l)) (fun r c => by
          refine (p440 _ _ _ r c).trans ?_
          exact congrArg₂ (· * ·) (congrArg₂ (· - ·) (congrArg₂ (· * ·) (e1 r c) (e2 r c)) (e3 r c)) (e2 r c)) m l (by
        by_cases hc : n.val / 8 * 512 ≤ m.val ∧ m.val < n.val / 8 * 512 + 512 ∧ n.val % 8 * 128 ≤ l.val ∧ l.val < n.val % 8 * 128 + 128
        · exact .inl hc
        · exact .inr (h.eb m l (by omega)))
      tot := by
        rw [Finset.sum_range_succ, ← add_assoc, ← h.tot]
        refine tot_add _ s.a23 (fun r l => A.err (n.val / 8 * 512 + r) (b * 1024 + (n.val % 8 * 128 + l)) * A.err (n.val / 8 * 512 + r) (b * 1024 + (n.val % 8 * 128 + l))) fun r l => ?_
        refine (p439 _ _ _ _ r l).trans (congrArg₂ (· + ·) (ld_lacc s.a23 r l) (Finset.sum_congr rfl fun x _ => ?_))
        have e := (p438 (View.ld s.a4 (Rect.unit (s := S3072x128) ![n.val / 8 * 512, 0] S512x128.size (inbEx n))) (View.ld s.a15 (Rect.unit (s := S3072x1024) ![n.val / 8 * 512, n.val % 8 * 128] S512x128.size (inbEa n))) (View.ld s.a8 (Rect.unit (s := S3072x1024) ![n.val / 8 * 512, n.val % 8 * 128] S512x128.size (inbEa n))) ⟨x.val * 8 + r.val, by omega⟩ l).trans (congrArg₂ (· - ·) (congrArg₂ (· * ·) (e1 _ l) (e2 _ l)) (e3 _ l))
        exact congrArg₂ (· * ·) e e }

theorem err_pass (hw : WinsS A b k s) (ha : ∀ (m : Fin 3072) (l : Fin 1024), s.a15 (ix2 m l) = A.acc 18432 m.val (b * 1024 + l.val)) :
    { iter errStep 48 0 s with a16 := s.a16, a23 := s.a23 } = s
      ∧ (∀ (m : Fin 3072) (l : Fin 1024), (iter errStep 48 0 s).a16 (ix2 m l) = A.eb m.val (b * 1024 + l.val))
      ∧ tot (iter errStep 48 0 s).a23 = tot s.a23 + A.sq b := by
  have h := iter_inv (EInv A b k s) (fun n s h => err_inv n h) 48 0 s rfl
    { wins := hw, keep := rfl, acc := ha, eb := fun _ _ h => absurd h (Nat.not_lt_zero _), tot := by rw [Finset.sum_range_zero, add_zero] }
  exact ⟨h.keep, fun m l => h.eb m l (by omega), by rw [← sq_tiles]; exact h.tot⟩

/-! ### The backward pass -/

/-- After `c` groups of the backward pass from `s0`. -/
structure BInv (A : In) (b k : ℕ) (s0 : St Ideal) (c : ℕ) (s : St Ideal) : Prop where
  wins : WinsS A b k s
  keep : { s with a9 := s0.a9, a10 := s0.a10, a18 := s0.a18 } = s0
  eb : ∀ (m : Fin 3072) (l : Fin 1024), s.a16 (ix2 m l) = A.eb m.val (b * 1024 + l.val)
  stk : Stk A b (fun κ _ _ => κ = k) s.a19 s.a20 s.a21 s.a22
  dg : ∀ (g : Fin 8) (l : Fin 1024), g.val / 2 * 4 + l.val / 512 * 2 + g.val % 2 < c → s.a9 (ix2 g l) = A.dg (k * 8 + g.val) (b * 1024 + l.val)
  db : ∀ (g : Fin 8) (l : Fin 1024), g.val / 2 * 4 + l.val / 512 * 2 + g.val % 2 < c → s.a10 (ix2 g l) = A.db (k * 8 + g.val) (b * 1024 + l.val)

theorem group_inv (hk : kRow i = k) (hk18 : k < 18) (d : Fin 4) (j g : Fin 2) (G : FVec Ideal S256x512 .f32) (c : ℕ) (hc : c = d.val * 4 + j.val * 2 + g.val)
    (hG : ∀ (r : Fin 256) (l : Fin 512), G (ix2 r l) = A.grad (k * 1024 + (d.val * 256 + r.val)) (b * 1024 + (j.val * 512 + l.val)))
    (h : BInv A b k s0 c s) : BInv A b k s0 (c + 1) (bwdGroupStep i d j g G s) := by
  subst hk
  have hd := d.isLt; have hj := j.isLt; have hg := g.isLt
  have e5 : ∀ (r : Fin 128) (l : Fin 512), _ := fun r l => (ld2 s.a5 _ _ (inbBw d j g) r l (by omega) (by omega)).trans (h.wins.w _ _)
  have e6 : ∀ (l : Fin 512), _ := fun l => (ld2 s.a6 _ _ (inbBg d j g) 0 l (by show d.val * 2 + g.val + 0 < 8; omega) (by omega)).trans (h.wins.g _ _)
  have e7 : ∀ (l : Fin 512), _ := fun l => (ld2 s.a7 _ _ (inbBg d j g) 0 l (by show d.val * 2 + g.val + 0 < 8; omega) (by omega)).trans (h.wins.bt _ _)
  have eh : ∀ (l : Fin 512), _ := fun l => (ld3 s.a19 _ _ _ (inbBk i d j g) l hk18 (by omega) (by omega)).trans (h.stk.h _ _ _ rfl)
  have ez : ∀ (l : Fin 512), _ := fun l => (ld3 s.a20 _ _ _ (inbBk i d j g) l hk18 (by omega) (by omega)).trans (h.stk.z _ _ _ rfl)
  have emx : ∀ (l : Fin 512), _ := fun l => (ld3 s.a21 _ _ _ (inbBk i d j g) l hk18 (by omega) (by omega)).trans (h.stk.mx _ _ _ rfl)
  have emn : ∀ (l : Fin 512), _ := fun l => (ld3 s.a22 _ _ _ (inbBk i d j g) l hk18 (by omega) (by omega)).trans (h.stk.mn _ _ _ rfl)
  have eR : ∀ (r : Fin 128) (l : Fin 512), bwdR (F := Ideal) (View.ld s.a19 (Rect.unit (s := S18x8x1024) ![kRow i, d.val * 2 + g.val, j.val * 512] S1x1x512.size (inbBk i d j g))) (View.ld s.a20 (Rect.unit (s := S18x8x1024) ![kRow i, d.val * 2 + g.val, j.val * 512] S1x1x512.size (inbBk i d j g))) (View.ld s.a5 (Rect.unit (s := S1024x1024) ![d.val * 256 + g.val * 128, j.val * 512] S128x512.size (inbBw d j g))) (ix2 r l)
      = A.r ((kRow i * 8 + (d.val * 2 + g.val)) * 128 + r.val) (b * 1024 + (j.val * 512 + l.val)) := fun r l => by
    refine (pR _ _ _ r l).trans ?_
    rw [In.r, show ((kRow i * 8 + (d.val * 2 + g.val)) * 128 + r.val) / 128 = kRow i * 8 + (d.val * 2 + g.val) by omega,
      show (kRow i * 8 + (d.val * 2 + g.val)) * 128 + r.val = kRow i * 1024 + (d.val * 256 + g.val * 128 + r.val) by omega]
    exact congr (congr (congrArg rS (e5 r l)) (eh l)) (ez l)
  have eS : ∀ (l : Fin 512), bwdS (F := Ideal) g G (bwdR (View.ld s.a19 (Rect.unit (s := S18x8x1024) ![kRow i, d.val * 2 + g.val, j.val * 512] S1x1x512.size (inbBk i d j g))) (View.ld s.a20 (Rect.unit (s := S18x8x1024) ![kRow i, d.val * 2 + g.val, j.val * 512] S1x1x512.size (inbBk i d j g))) (View.ld s.a5 (Rect.unit (s := S1024x1024) ![d.val * 256 + g.val * 128, j.val * 512] S128x512.size (inbBw d j g)))) (ix2 0 l)
      = A.s (kRow i * 8 + (d.val * 2 + g.val)) (b * 1024 + (j.val * 512 + l.val)) := fun l => by
    refine (pS g G _ l).trans ?_
    rw [In.s, Finset.sum_range]
    refine congrArg (_ * ·) (Finset.sum_congr rfl fun a _ => congrArg₂ (· * ·) ((hG _ l).trans ?_) (eR a l))
    congr 1; show kRow i * 1024 + (d.val * 256 + (g.val * 128 + a.val)) = _; omega
  have fin : ∀ (x : Vec Ideal S8x1024 .f32) (w : FVec Ideal S1x512 .f32) (f : ℕ → ℕ → EReal)
      (hw : ∀ l : Fin 512, w (ix2 0 l) = f (kRow i * 8 + (d.val * 2 + g.val)) (b * 1024 + (j.val * 512 + l.val)))
      (hx : ∀ (g : Fin 8) (l : Fin 1024), g.val / 2 * 4 + l.val / 512 * 2 + g.val % 2 < c → x (ix2 g l) = f (kRow i * 8 + g.val) (b * 1024 + l.val))
      (g' : Fin 8) (l : Fin 1024), g'.val / 2 * 4 + l.val / 512 * 2 + g'.val % 2 < c + 1 →
        VecWindow.put (s := S8x1024) x ![d.val * 2 + g.val, j.val * 512] S1x512.size w (ix2 g' l) = f (kRow i * 8 + g'.val) (b * 1024 + l.val) := fun x w f hw hx g' l hl => by
    refine put2_agree x _ _ w (fun g l => f (kRow i * 8 + g) (b * 1024 + l)) (fun r l => ?_) g' l ?_
    · obtain rfl : r = 0 := Subsingleton.elim _ _
      exact hw l
    · by_cases hcc : d.val * 2 + g.val ≤ g'.val ∧ g'.val < d.val * 2 + g.val + 1 ∧ j.val * 512 ≤ l.val ∧ l.val < j.val * 512 + 512
      · exact .inl hcc
      · exact .inr (hx g' l (by omega))
  exact
    { wins := h.wins
      keep := h.keep
      eb := h.eb
      stk := h.stk
      dg := fin s.a9 _ A.dg (fun l => (pDG _ _ _ l).trans (congr (congr (congrArg dS (eS l)) (e6 l)) (emx l))) h.dg
      db := fin s.a10 _ A.db (fun l => (pDB _ _ _ l).trans (congr (congr (congrArg dS (congrArg (0 - ·) (eS l))) (e7 l)) (emn l))) h.db }

theorem half_inv (hk : kRow i = k) (hk18 : k < 18) (d : Fin 4) (j : Fin 2) (c : ℕ) (hc : c = d.val * 4 + j.val * 2)
    (h : BInv A b k s0 c s) (hx : ∀ (r : Fin 256) (m : Fin 3072), s.a18 (ix2 r m) = A.X m.val (k * 1024 + (d.val * 256 + r.val))) :
    BInv A b k s0 (c + 2) (bwdHalfStep i d j s) := by
  have hG : ∀ (r : Fin 256) (l : Fin 512), k0_pay657 (F := Ideal) (View.ld s.a18 (Rect.unit (s := S256x3072) ![0, 0] S256x3072.size inb_S256x3072_S256x3072_0_0)) (View.ld s.a16 (Rect.unit (s := S3072x1024) ![0, j.val * 512] S3072x512.size (inbBe j))) (ix2 r l)
      = A.grad (k * 1024 + (d.val * 256 + r.val)) (b * 1024 + (j.val * 512 + l.val)) := fun r l => by
    refine (p657 _ _ r l).trans ?_
    rw [In.grad, Finset.sum_range]
    refine Finset.sum_congr rfl fun m _ => congrArg₂ (· * ·) ?_ ?_
    · refine (ld2 s.a18 0 0 inb_S256x3072_S256x3072_0_0 r m (by omega) (by omega)).trans ((hx _ _).trans ?_)
      simp only [Nat.zero_add]
    · refine (ld2 s.a16 _ _ (inbBe j) m l (by omega) (by omega)).trans ((h.eb _ _).trans ?_)
      simp only [Nat.zero_add]
  have h0 := group_inv hk hk18 d j 0 _ c (by rw [hc]; rfl) hG h
  exact group_inv hk hk18 d j 1 _ (c + 1) (by rw [hc]; rfl) hG h0

theorem strip_inv (hk : kRow i = k) (hk18 : k < 18) (d : Fin 4) (h : BInv A b k s0 (d.val * 4) s) : BInv A b k s0 ((d.val + 1) * 4) (bwdStripStep i d s) := by
  have hx : ∀ (r : Fin 256) (m : Fin 3072), (bwdXtStep d s).a18 (ix2 r m) = A.X m.val (k * 1024 + (d.val * 256 + r.val)) := fun r m => by
    have hd := d.isLt
    have e3 := (ld2 s.a3 _ _ (inbBx d) m r (by omega) (by omega)).trans (h.wins.x _ _)
    have e := (p656 (View.ld s.a3 (Rect.unit (s := S3072x1024) ![0, d.val * 256] S3072x256.size (inbBx d))) r m).trans e3
    simp only [Nat.zero_add] at e
    exact e
  have h0 : BInv A b k s0 (d.val * 4) (bwdXtStep d s) := ⟨h.wins, h.keep, h.eb, h.stk, h.dg, h.db⟩
  have h1 := half_inv hk hk18 d 0 _ rfl h0 hx
  have h2 := half_inv hk hk18 d 1 _ rfl h1 hx
  rw [show (d.val + 1) * 4 = d.val * 4 + 2 + 2 by omega]
  exact h2

theorem bwd_pass (hk : kRow i = k) (hk18 : k < 18) (hw : WinsS A b k s) (he : ∀ (m : Fin 3072) (l : Fin 1024), s.a16 (ix2 m l) = A.eb m.val (b * 1024 + l.val))
    (hs : Stk A b (fun κ _ _ => κ = k) s.a19 s.a20 s.a21 s.a22) : BInv A b k s (4 * 4) (iter (bwdStripStep i) 4 0 s) := by
  have h0 : BInv A b k s (0 * 4) s := ⟨hw, rfl, he, hs, fun _ _ h => absurd h (by omega), fun _ _ h => absurd h (by omega)⟩
  have hstep : ∀ (n : Fin 4) (s' : St Ideal), BInv A b k s (n.val * 4) s' → BInv A b k s ((n.val + 1) * 4) (bwdStripStep i n s') :=
    fun n s' h => strip_inv hk hk18 n h
  exact iter_inv (f := bwdStripStep i) (fun d s' => BInv A b k s (d * 4) s') hstep 4 0 s rfl h0

/-! ### A grid point -/

/-- What the scratch memrefs hold when point `t` starts. -/
structure Inv (A : In) (t : ℕ) (a15 : Vec Ideal S3072x1024 .f32) (a16 : Vec Ideal S3072x1024 .bf16) (a19 a20 a21 a22 : Vec Ideal S18x8x1024 .f32)
    (a23 : Vec Ideal S8x128 .f32) : Prop where
  acc : t / 18 % 2 = 0 → t % 18 ≠ 0 → ∀ (m : Fin 3072) (l : Fin 1024), a15 (ix2 m l) = A.acc (t % 18 * 1024) m.val (t / 36 * 1024 + l.val)
  all : t % 36 = 18 → ∀ (m : Fin 3072) (l : Fin 1024), a15 (ix2 m l) = A.acc 18432 m.val (t / 36 * 1024 + l.val)
  stk : Stk A (t / 36) (fun κ _ _ => t / 18 % 2 = 1 ∨ κ < t % 18) a19 a20 a21 a22
  eb : 18 < t % 36 → ∀ (m : Fin 3072) (l : Fin 1024), a16 (ix2 m l) = A.eb m.val (t / 36 * 1024 + l.val)
  tot : 0 < t → tot a23 = ∑ b ∈ Finset.range ((t + 17) / 36), A.sq b

/-- `Inv` of a state. -/
abbrev InvS (A : In) (t : ℕ) (s : St Ideal) : Prop := Inv A t s.a15 s.a16 s.a19 s.a20 s.a21 s.a22 s.a23

/-- What a point of the first phase leaves in the quantised weights' windows. -/
structure OutF (A : In) (b k : ℕ) (a12 : Vec Ideal S1024x1024 .i8) (a13 a14 : Vec Ideal S8x1024 .f32) : Prop where
  q : ∀ r l : Fin 1024, a12 (ix2 r l) = A.q (k * 1024 + r.val) (b * 1024 + l.val)
  h : ∀ (g : Fin 8) (l : Fin 1024), a13 (ix2 g l) = A.h (k * 8 + g.val) (b * 1024 + l.val)
  z : ∀ (g : Fin 8) (l : Fin 1024), a14 (ix2 g l) = A.z (k * 8 + g.val) (b * 1024 + l.val)

/-- What a point of the second phase leaves in the gradients' windows. -/
structure OutB (A : In) (b k : ℕ) (a9 a10 : Vec Ideal S8x1024 .f32) : Prop where
  dg : ∀ (g : Fin 8) (l : Fin 1024), a9 (ix2 g l) = A.dg (k * 8 + g.val) (b * 1024 + l.val)
  db : ∀ (g : Fin 8) (l : Fin 1024), a10 (ix2 g l) = A.db (k * 8 + g.val) (b * 1024 + l.val)

theorem acc_zero (m n : ℕ) : A.acc (0 * 1024) m n = 0 := by rw [In.acc, Nat.zero_mul, Finset.sum_range_zero]
theorem tot_zero (x : Vec Ideal S8x128 .f32) (h : ∀ r l, x (ix2 r l) = (0 : EReal)) : tot x = 0 :=
  Finset.sum_eq_zero fun r _ => Finset.sum_eq_zero fun l _ => h r l

theorem fwd_step (t : ℕ) (hp : t / 18 % 2 = 0) (hk : kRow i = t % 18) (z0 z2 : Bool) (hz0 : z0 = true ↔ t = 0) (hz2 : z2 = true ↔ t % 18 = 0)
    (hw : WinsS A (t / 36) (t % 18) s) (h : InvS A t s) :
    InvS A (t + 1) (fwd i z0 z2 s) ∧ OutF A (t / 36) (t % 18) (fwd i z0 z2 s).a12 (fwd i z0 z2 s).a13 (fwd i z0 z2 s).a14 := by
  obtain ⟨s1, hs1, hst1, hw1, ht1, ha1⟩ : ∃ s1, s1 = (bif z0 then laccZeroStep s else s) ∧ Stk A (t / 36) (fun κ _ _ => κ < t % 18) s1.a19 s1.a20 s1.a21 s1.a22
      ∧ WinsS A (t / 36) (t % 18) s1 ∧ tot s1.a23 = ∑ b ∈ Finset.range ((t + 17) / 36), A.sq b ∧ s1.a15 = s.a15 := by
    have hst : Stk A (t / 36) (fun κ _ _ => κ < t % 18) s.a19 s.a20 s.a21 s.a22 :=
      ⟨fun κ g l e => h.stk.h κ g l (.inr e), fun κ g l e => h.stk.z κ g l (.inr e), fun κ g l e => h.stk.mx κ g l (.inr e), fun κ g l e => h.stk.mn κ g l (.inr e)⟩
    cases hz : z0 with
    | true =>
      refine ⟨laccZeroStep s, rfl, hst, hw, ?_, rfl⟩
      have := hz0.mp hz; subst this
      exact (tot_zero _ p1).trans (Finset.sum_range_zero _).symm
    | false =>
      refine ⟨s, rfl, hst, hw, h.tot (Nat.pos_of_ne_zero fun e => ?_), rfl⟩
      rw [hz0.mpr e] at hz; exact absurd hz (by decide)
  have hq := quant_pass hk hw1 hst1
  obtain ⟨sq, hsq⟩ : ∃ x, x = iter (quantStep i) 32 0 s1 := ⟨_, rfl⟩
  rw [← hsq] at hq
  obtain ⟨s3, hs3, hx3, hwh3, ha3, hk3⟩ : ∃ s3, s3 = (bif z2 then accZeroStep sq else sq)
      ∧ (∀ (m : Fin 3072) (κ : Fin 1024), s3.a3 (ix2 m κ) = A.X m.val (t % 18 * 1024 + κ.val))
      ∧ (∀ r l : Fin 1024, s3.a17 (ix2 r l) = A.what (t % 18 * 1024 + r.val) (t / 36 * 1024 + l.val))
      ∧ (∀ (m : Fin 3072) (l : Fin 1024), s3.a15 (ix2 m l) = A.acc (t % 18 * 1024) m.val (t / 36 * 1024 + l.val))
      ∧ { s3 with a15 := sq.a15 } = sq := by
    cases hz : z2 with
    | true =>
      refine ⟨accZeroStep sq, rfl, hq.wins.x, fun r l => hq.what r l (by omega), fun m l => ?_, rfl⟩
      rw [hz2.mp hz, acc_zero]; exact p422 m l
    | false =>
      have hne : t % 18 ≠ 0 := fun e => by rw [hz2.mpr e] at hz; exact absurd hz (by decide)
      refine ⟨sq, rfl, hq.wins.x, fun r l => hq.what r l (by omega), fun m l => ?_, rfl⟩
      rw [hq.keep.2.2.2.1, ha1]; exact h.acc hp hne m l
  have hd := dot_pass hx3 hwh3 ha3
  have hf : fwd i z0 z2 s = iter dotStep 12 0 s3 := by
    unfold fwd; rw [hs3, hsq, hs1]
  rw [hf]
  obtain ⟨s4, hs4⟩ : ∃ x, x = iter dotStep 12 0 s3 := ⟨_, rfl⟩
  rw [← hs4] at hd ⊢
  have k4 : ∀ {β : Type} (p : St Ideal → β), (∀ s x, p { s with a15 := x } = p s) → p s4 = p sq := fun p hp =>
    ((hp _ _).symm.trans (congrArg p hd.1)).trans ((hp _ _).symm.trans (congrArg p hk3))
  have acc1 : ∀ (m : Fin 3072) (l : Fin 1024), s4.a15 (ix2 m l) = A.acc ((t % 18 + 1) * 1024) m.val (t / 36 * 1024 + l.val) := hd.2
  refine ⟨⟨fun h1 h2 => ?_, fun h1 => ?_, ?_, fun h1 => ?_, fun _ => ?_⟩, ?_⟩
  · rw [show (t + 1) % 18 = t % 18 + 1 by omega, show (t + 1) / 36 = t / 36 by omega]; exact acc1
  · rw [show (t + 1) / 36 = t / 36 by omega]
    have e : (t % 18 + 1) * 1024 = 18432 := by omega
    rw [e] at acc1; exact acc1
  · rw [k4 (fun s => s.a19) (fun _ _ => rfl), k4 (fun s => s.a20) (fun _ _ => rfl), k4 (fun s => s.a21) (fun _ _ => rfl), k4 (fun s => s.a22) (fun _ _ => rfl),
      show (t + 1) / 36 = t / 36 by omega]
    have hc : ∀ (κ : Fin 18) (g : Fin 8) (l : Fin 1024), ((t + 1) / 18 % 2 = 1 ∨ κ.val < (t + 1) % 18) → (κ.val < t % 18 ∨ κ.val = t % 18 ∧ g.val * 4 + l.val / 256 < 32) := fun κ g l e => by omega
    exact ⟨fun κ g l e => hq.stk.h κ g l (hc κ g l e), fun κ g l e => hq.stk.z κ g l (hc κ g l e), fun κ g l e => hq.stk.mx κ g l (hc κ g l e), fun κ g l e => hq.stk.mn κ g l (hc κ g l e)⟩
  · omega
  · rw [k4 (fun s => s.a23) (fun _ _ => rfl), hq.keep.2.2.2.2.2, ht1]
    congr 2; omega
  · rw [k4 (fun s => s.a12) (fun _ _ => rfl), k4 (fun s => s.a13) (fun _ _ => rfl), k4 (fun s => s.a14) (fun _ _ => rfl)]
    exact ⟨fun r l => hq.q r l (by omega), fun g l => hq.h g l (by omega), fun g l => hq.z g l (by omega)⟩

theorem bwd_step (t : ℕ) (hp : t / 18 % 2 = 1) (hk : kRow i = t % 18) (e3 e5 : Bool) (he3 : e3 = true ↔ t % 36 = 18)
    (hw : WinsS A (t / 36) (t % 18) s) (h : InvS A t s) :
    InvS A (t + 1) (bwd i e3 e5 s) ∧ OutB A (t / 36) (t % 18) (bwd i e3 e5 s).a9 (bwd i e3 e5 s).a10
      ∧ (bwd i e3 e5 s).a12 = s.a12 ∧ (bwd i e3 e5 s).a13 = s.a13 ∧ (bwd i e3 e5 s).a14 = s.a14
      ∧ (e5 = true → t = 251 → ∀ x, (bwd i e3 e5 s).a11 x = A.loss) := by
  obtain ⟨s1, hs1, hk1, he1, ht1⟩ : ∃ s1, s1 = (bif e3 then iter errStep 48 0 s else s) ∧ { s1 with a16 := s.a16, a23 := s.a23 } = s
      ∧ (∀ (m : Fin 3072) (l : Fin 1024), s1.a16 (ix2 m l) = A.eb m.val (t / 36 * 1024 + l.val))
      ∧ tot s1.a23 = ∑ b ∈ Finset.range ((t + 1 + 17) / 36), A.sq b := by
    cases hz : e3 with
    | true =>
      have ht := he3.mp hz
      have e := err_pass hw (h.all ht)
      refine ⟨iter errStep 48 0 s, rfl, e.1, e.2.1, e.2.2.trans ?_⟩
      rw [h.tot (by omega), show (t + 17) / 36 = t / 36 by omega, show (t + 1 + 17) / 36 = t / 36 + 1 by omega, Finset.sum_range_succ]
    | false =>
      have hne : t % 36 ≠ 18 := fun e => by rw [he3.mpr e] at hz; exact absurd hz (by decide)
      refine ⟨s, rfl, rfl, h.eb (by omega), ?_⟩
      rw [h.tot (by omega)]
      congr 2; omega
  have k1 : ∀ {β : Type} (p : St Ideal → β), (∀ s x y, p { s with a16 := x, a23 := y } = p s) → p s1 = p s := fun p hp => (hp _ _ _).symm.trans (congrArg p hk1)
  have hw1 : WinsS A (t / 36) (t % 18) s1 := by
    have e := k1 (fun s => WinsS A (t / 36) (t % 18) s) (fun _ _ _ => rfl)
    exact e.mpr hw
  have hst1 : Stk A (t / 36) (fun κ _ _ => t / 18 % 2 = 1 ∨ κ < t % 18) s1.a19 s1.a20 s1.a21 s1.a22 := by
    have e := k1 (fun s => Stk A (t / 36) (fun κ _ _ => t / 18 % 2 = 1 ∨ κ < t % 18) s.a19 s.a20 s.a21 s.a22) (fun _ _ _ => rfl)
    exact e.mpr h.stk
  have hb := bwd_pass hk (by omega) hw1 he1
    ⟨fun κ g l _ => hst1.h κ g l (.inl hp), fun κ g l _ => hst1.z κ g l (.inl hp), fun κ g l _ => hst1.mx κ g l (.inl hp), fun κ g l _ => hst1.mn κ g l (.inl hp)⟩
  obtain ⟨s2, hs2⟩ : ∃ s2, s2 = iter (bwdStripStep i) 4 0 s1 := ⟨_, rfl⟩
  rw [← hs2] at hb
  have hf : bwd i e3 e5 s = bif e5 then lossStep s2 else s2 := by
    unfold bwd; rw [hs2, hs1]
  rw [hf]
  have k2 : ∀ {β : Type} (p : St Ideal → β), (∀ s x y z, p { s with a9 := x, a10 := y, a18 := z } = p s) → p s2 = p s1 := fun p hp => (hp _ _ _ _).symm.trans (congrArg p hb.keep)
  have k3 : ∀ {β : Type} (p : St Ideal → β), (∀ s x, p { s with a11 := x } = p s) → p (bif e5 then lossStep s2 else s2) = p s2 := fun p hp => by
    cases e5
    · rfl
    · exact hp _ _
  have hI : InvS A (t + 1) s2 := by
    refine ⟨fun h1 h2 => absurd h2 (by omega), fun h1 => absurd h1 (by omega), ?_, fun h1 => ?_, fun _ => ?_⟩
    · have e := k2 (fun s => Stk A ((t + 1) / 36) (fun κ _ _ => (t + 1) / 18 % 2 = 1 ∨ κ < (t + 1) % 18) s.a19 s.a20 s.a21 s.a22) (fun _ _ _ _ => rfl)
      refine e.mpr ?_
      by_cases hl : (t + 1) / 18 % 2 = 1
      · rw [show (t + 1) / 36 = t / 36 by omega]
        exact ⟨fun κ g l _ => hst1.h κ g l (.inl hp), fun κ g l _ => hst1.z κ g l (.inl hp), fun κ g l _ => hst1.mx κ g l (.inl hp), fun κ g l _ => hst1.mn κ g l (.inl hp)⟩
      · exact ⟨fun κ g l e => absurd e (by omega), fun κ g l e => absurd e (by omega), fun κ g l e => absurd e (by omega), fun κ g l e => absurd e (by omega)⟩
    · rw [show (t + 1) / 36 = t / 36 by omega]; exact hb.eb
    · rw [k2 (fun s => s.a23) (fun _ _ _ _ => rfl)]; exact ht1
  refine ⟨(k3 (fun s => InvS A (t + 1) s) (fun _ _ => rfl)).mpr hI, ?_, ?_, ?_, ?_, ?_⟩
  · refine (k3 (fun s => OutB A (t / 36) (t % 18) s.a9 s.a10) (fun _ _ => rfl)).mpr ⟨fun g l => hb.dg g l (by omega), fun g l => hb.db g l (by omega)⟩
  · exact (k3 (fun s => s.a12) (fun _ _ => rfl)).trans ((k2 (fun s => s.a12) (fun _ _ _ _ => rfl)).trans (k1 (fun s => s.a12) (fun _ _ _ => rfl)))
  · exact (k3 (fun s => s.a13) (fun _ _ => rfl)).trans ((k2 (fun s => s.a13) (fun _ _ _ _ => rfl)).trans (k1 (fun s => s.a13) (fun _ _ _ => rfl)))
  · exact (k3 (fun s => s.a14) (fun _ _ => rfl)).trans ((k2 (fun s => s.a14) (fun _ _ _ _ => rfl)).trans (k1 (fun s => s.a14) (fun _ _ _ => rfl)))
  · intro h5 h251 x
    subst h5 h251
    refine (p8 _).trans ?_
    rw [In.loss, ← hI.tot (by omega)]
    refine congrArg (Ideal.div · _) (Finset.sum_congr rfl fun r _ => Finset.sum_congr rfl fun l _ => ld_lacc _ r l)

end Cert.KernelIdeal.Body

end
-- ==== Proof.Arr.lean ====
/- The layer's arguments as arrays, read at natural-number coordinates. -/
module

public import proofs.«01_k».proof.Proof.Spec

@[expose] public section

noncomputable section

namespace Cert.Lwc

open Idealize.ShloMosaic

/-- An array at natural-number coordinates. -/
def at2 {m n : ℕ} (x : (⟨2, ![m, n]⟩ : Shape).Idx → EReal) (i j : ℕ) : EReal := if h : i < m ∧ j < n then x (ix2 ⟨i, h.1⟩ ⟨j, h.2⟩) else 0

theorem at2_of {m n : ℕ} (x : (⟨2, ![m, n]⟩ : Shape).Idx → EReal) {i j : ℕ} (hi : i < m) (hj : j < n) : at2 x i j = x (ix2 ⟨i, hi⟩ ⟨j, hj⟩) :=
  dif_pos ⟨hi, hj⟩

/-- The arguments of a call. -/
def In.of (x : (⟨2, ![3072, 18432]⟩ : Shape).Idx → EReal) (xs : (⟨2, ![3072, 1]⟩ : Shape).Idx → EReal) (w : (⟨2, ![18432, 7168]⟩ : Shape).Idx → EReal)
    (g b : (⟨2, ![144, 7168]⟩ : Shape).Idx → EReal) (y : (⟨2, ![3072, 7168]⟩ : Shape).Idx → EReal) : In where
  X := at2 x
  XS m := at2 xs m 0
  W := at2 w
  G := at2 g
  B := at2 b
  Y := at2 y

end Cert.Lwc

end
-- ==== Proof.Value.lean ====
/- The arrays of results after the kernel's run, at an index. -/
module

public import proofs.«01_k».proof.Proof.Launch
public import proofs.«01_k».proof.Proof.InvB
public import proofs.«01_k».proof.Proof.Arr
public import Idealize.ShloMosaic.Lib.Pipeline.ValueKit
public import Idealize.ShloMosaic.Lib.Claim

@[expose] public section

set_option maxRecDepth 65536

noncomputable section

namespace Cert.KernelIdeal.Body

open Idealize.ShloMosaic Idealize.ShloMosaic.TcCoe Idealize.SL.Sem
open Idealize.ShloMosaic.Pipeline (Dat)
open Cert.KernelIdeal.Gen Cert.Lwc

variable (m : (ℓ : Loc nD τ sig) → Buf (Elt Ideal) ℓ) (ρ : Dev nD → PrngReg)

/-- The arguments of the call on a core. -/
def A (c : Dev nD) : In := In.of (V m c main_v0) (V m c main_v1) (V m c main_arg2) (V m c main_arg3) (V m c main_arg4) (V m c main_v3)

/-- The row of blocks a point's quantised-weight windows are at. -/
def row (t : ℕ) : ℕ := if t / 18 % 2 = 0 then t % 18 else 17

/-- What holds of the scratch memrefs before a point. -/
def JJ (c : Dev nD) (t : ℕ) : ScrP Ideal := fun d15 d16 _ _ d19 d20 d21 d22 d23 => Inv (A m c) t d15 d16 d19 d20 d21 d22 d23

/-- What a point leaves in the outputs' windows. -/
def RR (c : Dev nD) : WinP Ideal := fun w t => match w with
  | ⟨6, _⟩ => fun X => t.val / 18 % 2 = 1 → ∀ (g : Fin 8) (l : Fin 1024), X (ix2 g l : S8x1024.Idx) = (A m c).dg (t.val % 18 * 8 + g.val) (t.val / 36 * 1024 + l.val)
  | ⟨7, _⟩ => fun X => t.val / 18 % 2 = 1 → ∀ (g : Fin 8) (l : Fin 1024), X (ix2 g l : S8x1024.Idx) = (A m c).db (t.val % 18 * 8 + g.val) (t.val / 36 * 1024 + l.val)
  | ⟨8, _⟩ => fun X => t.val = 251 → ∀ x : S1x1.Idx, X x = (A m c).loss
  | ⟨9, _⟩ => fun X => ∀ r l : Fin 1024, X (ix2 r l : S1024x1024.Idx) = (A m c).q (row t.val * 1024 + r.val) (t.val / 36 * 1024 + l.val)
  | ⟨10, _⟩ => fun X => ∀ (g : Fin 8) (l : Fin 1024), X (ix2 g l : S8x1024.Idx) = (A m c).h (row t.val * 8 + g.val) (t.val / 36 * 1024 + l.val)
  | ⟨11, _⟩ => fun X => ∀ (g : Fin 8) (l : Fin 1024), X (ix2 g l : S8x1024.Idx) = (A m c).z (row t.val * 8 + g.val) (t.val / 36 * 1024 + l.val)
  | _ => fun _ => True

/-! ### Where the windows' blocks lie -/

theorem idx0 : ∀ t : Fin cfg0.N, win0_0.index t = ![0, t.val % 18] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 18, t.val / 36] := (by decide +kernel : ∀ t : Fin grid0.N, _)
theorem idx3 : ∀ t : Fin cfg0.N, win0_3.index t = ![t.val % 18, t.val / 36] := (by decide +kernel : ∀ t : Fin grid0.N, _)
theorem idx4 : ∀ t : Fin cfg0.N, win0_4.index t = ![t.val % 18, t.val / 36] := (by decide +kernel : ∀ t : Fin grid0.N, _)
theorem idx5 : ∀ t : Fin cfg0.N, win0_5.index t = ![0, t.val / 36] := (by decide +kernel : ∀ t : Fin grid0.N, _)
theorem idx6 : ∀ t : Fin cfg0.N, (win0_6.flush t = true → t.val / 18 % 2 = 1) ∧ (t.val / 18 % 2 = 1 → win0_6.index t = ![t.val % 18, t.val / 36]) := (by decide +kernel : ∀ t : Fin grid0.N, _)
theorem idx7 : ∀ t : Fin cfg0.N, (win0_7.flush t = true → t.val / 18 % 2 = 1) ∧ (t.val / 18 % 2 = 1 → win0_7.index t = ![t.val % 18, t.val / 36]) := (by decide +kernel : ∀ t : Fin grid0.N, _)
theorem idx9 : ∀ t : Fin cfg0.N, win0_9.index t = ![if t.val / 18 % 2 = 0 then t.val % 18 else 17, t.val / 36] := (by decide +kernel : ∀ t : Fin grid0.N, _)
theorem idx10 : ∀ t : Fin cfg0.N, win0_10.index t = ![if t.val / 18 % 2 = 0 then t.val % 18 else 17, t.val / 36] := (by decide +kernel : ∀ t : Fin grid0.N, _)
theorem idx11 : ∀ t : Fin cfg0.N, win0_11.index t = ![if t.val / 18 % 2 = 0 then t.val % 18 else 17, t.val / 36] := (by decide +kernel : ∀ t : Fin grid0.N, _)
/-- No point writes back the quantised weights before one of the second phase, and none fetches them. -/
theorem sched9 : ∀ t : Fin cfg0.N, t.val / 18 % 2 = 1 → win0_9.flush ⟨t.val - 1, Nat.lt_of_le_of_lt (Nat.sub_le _ _) t.isLt⟩ = false := (by decide +kernel : ∀ t : Fin grid0.N, _)
theorem sched10 : ∀ t : Fin cfg0.N, t.val / 18 % 2 = 1 → win0_10.flush ⟨t.val - 1, Nat.lt_of_le_of_lt (Nat.sub_le _ _) t.isLt⟩ = false := (by decide +kernel : ∀ t : Fin grid0.N, _)
theorem sched11 : ∀ t : Fin cfg0.N, t.val / 18 % 2 = 1 → win0_11.flush ⟨t.val - 1, Nat.lt_of_le_of_lt (Nat.sub_le _ _) t.isLt⟩ = false := (by decide +kernel : ∀ t : Fin grid0.N, _)

/-! ### The input windows -/

theorem at2_eq {p q : ℕ} (x : (⟨2, ![p, q]⟩ : Shape).Idx → EReal) (j : (⟨2, ![p, q]⟩ : Shape).Idx) {a b : ℕ} (h0 : (j 0).val = a) (h1 : (j 1).val = b) :
    x j = at2 x a b := by
  have ha : a < p := h0 ▸ (j 0).isLt
  have hb : b < q := h1 ▸ (j 1).isLt
  rw [at2_of x ha hb]
  congr 1
  funext i
  match i with
  | ⟨0, _⟩ => exact Fin.ext h0
  | ⟨1, _⟩ => exact Fin.ext h1

theorem scales (c : Dev nD) (j : S3072x128.Idx) (a : ℕ) (h0 : (j 0).val = a) : V m c main_v2 j = (A m c).XS a := by
  have ha : a < 3072 := h0 ▸ (j 0).isLt
  show _ = at2 (V m c main_v1) a 0
  rw [at2_of (V m c main_v1) ha (Nat.zero_lt_one)]
  subst h0
  have e : V m c main_v1 (ix2 ⟨(j 0).val, ha⟩ ⟨0, Nat.zero_lt_one⟩) = (m ((c.tc : Thread nD τ).loc main_arg1) : S3x1024.Idx → EReal) (ix2 ⟨(j 0).val / 1024, by omega⟩ ⟨(j 0).val % 1024, by omega⟩) := by
    entry_read
    pointwise
  refine Eq.trans ?_ e.symm
  entry_read
  pointwise

theorem wins (c : Dev nD) (t : Fin cfg0.N) : Wins (A m c) (t.val / 36) (t.val % 18) (iblk m c 0 t) (iblk m c 1 t) (iblk m c 2 t) (iblk m c 3 t) (iblk m c 4 t) (iblk m c 5 t) where
  x r κ := by
    blk_simp [iblk]
    refine at2_eq _ _ ?_ ?_ <;> blk_simp [idx0 t] <;> simp
  xs r l := by
    blk_simp [iblk]
    refine scales m c _ _ ?_; blk_simp [idx1 t]
  w r l := by
    blk_simp [iblk]
    refine at2_eq _ _ ?_ ?_ <;> blk_simp [idx2 t] <;> simp
  g r l := by
    blk_simp [iblk]
    refine at2_eq _ _ ?_ ?_ <;> blk_simp [idx3 t] <;> simp
  bt r l := by
    blk_simp [iblk]
    refine at2_eq _ _ ?_ ?_ <;> blk_simp [idx4 t] <;> simp
  y r l := by
    blk_simp [iblk]
    refine at2_eq _ _ ?_ ?_ <;> blk_simp [idx5 t] <;> simp

end Cert.KernelIdeal.Body

end
-- ==== Proof.ValueRun.lean ====
/- The arrays of results after the kernel's run. -/
module

public import proofs.«01_k».proof.Proof.Value

@[expose] public section

set_option maxRecDepth 65536

noncomputable section

namespace Cert.KernelIdeal.Body

open Idealize.ShloMosaic Idealize.ShloMosaic.TcCoe Idealize.SL.Sem
open Idealize.ShloMosaic.Pipeline (Dat)
open Cert.KernelIdeal.Gen Cert.Lwc

variable (m : (ℓ : Loc nD τ sig) → Buf (Elt Ideal) ℓ) (ρ : Dev nD → PrngReg)

theorem row_prev (t : ℕ) (h : t / 18 % 2 = 1) : row (t - 1) = row t ∧ (t - 1) / 36 = t / 36 := by
  unfold row
  refine ⟨?_, by omega⟩
  rw [if_neg (by omega : ¬ t / 18 % 2 = 0)]
  split <;> omega

/-- Every point's step keeps the invariant and leaves the outputs' windows as stated. -/
theorem steps : Steps m (JJ m) (RR m) := fun c t s e3 e4 e5 e6 e7 e8 hJ f9 f10 f11 => by
  have hN : t.val < 252 := t.isLt
  have hk : kRow (grid0.coords t) = t.val % 18 := by
    have e : (grid0.coords t 2).val = t.val / 1 % 18 := Pipeline.Grid.coords_val t 2 (by decide) rfl
    rw [kRow_eq, e, Nat.div_one]
  have hw : WinsS (A m c) (t.val / 36) (t.val % 18) s := by
    show Wins _ _ _ _ _ _ _ _ _
    rw [e3, e4, e5, e6, e7, e8]; exact wins m c t
  by_cases hp : t.val / 18 % 2 = 0
  · have e := fwd_step (i := grid0.coords t) t.val hp hk (decide (t.val = 0)) (decide (t.val % 18 = 0)) decide_eq_true_iff decide_eq_true_iff hw hJ
    have hps : pstep t s = fwd (grid0.coords t) (decide (t.val = 0)) (decide (t.val % 18 = 0)) s := if_pos hp
    have hr : row t.val = t.val % 18 := if_pos hp
    rw [hps]
    obtain ⟨s', hs'⟩ : ∃ s', s' = fwd (grid0.coords t) (decide (t.val = 0)) (decide (t.val % 18 = 0)) s := ⟨_, rfl⟩
    rw [← hs'] at e ⊢
    refine ⟨e.1, fun h => absurd h (by omega), fun h => absurd h (by omega), fun h => absurd h (by omega), fun r l => ?_, fun g l => ?_, fun g l => ?_⟩
    · rw [hr]; exact e.2.q r l
    · rw [hr]; exact e.2.h g l
    · rw [hr]; exact e.2.z g l
  · have hp1 : t.val / 18 % 2 = 1 := by omega
    have e := bwd_step (i := grid0.coords t) t.val hp1 hk (decide (t.val % 36 = 18)) (decide (t.val = 251)) decide_eq_true_iff hw hJ
    have hps : pstep t s = bwd (grid0.coords t) (decide (t.val % 36 = 18)) (decide (t.val = 251)) s := if_neg hp
    have hr := row_prev t.val hp1
    have g9 : RR m c 9 ⟨t.val - 1, Nat.lt_of_le_of_lt (Nat.sub_le _ _) t.isLt⟩ s.a12 :=
      Dat.toRRel_leaves _ (w := 9) rfl ((((rdat m (JJ m) (RR m) c).finds_of_pos (w := 9) rfl (by omega) _).mp f9).resolve_left (by
        rw [show (cfg0.win 9) = win0_9 from rfl, sched9 t hp1]; exact Bool.false_ne_true))
    have g10 : RR m c 10 ⟨t.val - 1, Nat.lt_of_le_of_lt (Nat.sub_le _ _) t.isLt⟩ s.a13 :=
      Dat.toRRel_leaves _ (w := 10) rfl ((((rdat m (JJ m) (RR m) c).finds_of_pos (w := 10) rfl (by omega) _).mp f10).resolve_left (by
        rw [show (cfg0.win 10) = win0_10 from rfl, sched10 t hp1]; exact Bool.false_ne_true))
    have g11 : RR m c 11 ⟨t.val - 1, Nat.lt_of_le_of_lt (Nat.sub_le _ _) t.isLt⟩ s.a14 :=
      Dat.toRRel_leaves _ (w := 11) rfl ((((rdat m (JJ m) (RR m) c).finds_of_pos (w := 11) rfl (by omega) _).mp f11).resolve_left (by
        rw [show (cfg0.win 11) = win0_11 from rfl, sched11 t hp1]; exact Bool.false_ne_true))
    rw [hps]
    obtain ⟨s', hs'⟩ : ∃ s', s' = bwd (grid0.coords t) (decide (t.val % 36 = 18)) (decide (t.val = 251)) s := ⟨_, rfl⟩
    rw [← hs'] at e ⊢
    obtain ⟨e1, e2, e12, e13, e14, e11⟩ := e
    rw [e12, e13, e14]
    refine ⟨e1, fun _ => e2.dg, fun _ => e2.db, fun h x => e11 (decide_eq_true h) h x, fun r l => ?_, fun g l => ?_, fun g l => ?_⟩
    · rw [← hr.1, ← hr.2]; exact g9 r l
    · rw [← hr.1, ← hr.2]; exact g10 g l
    · rw [← hr.1, ← hr.2]; exact g11 g l

/-- At the first point nothing is asked of the scratch memrefs. -/
theorem inv_zero (c : Dev nD) (d15 d16 d17 d18 d19 d20 d21 d22 d23) : JJ m c 0 d15 d16 d17 d18 d19 d20 d21 d22 d23 where
  acc _ h := absurd rfl h
  all h := absurd h (by decide)
  stk := ⟨fun _ _ _ h => absurd h (by omega), fun _ _ _ h => absurd h (by omega), fun _ _ _ h => absurd h (by omega), fun _ _ _ h => absurd h (by omega)⟩
  eb h := absurd h (by decide)
  tot h := absurd h (Nat.lt_irrefl _)

theorem ix2_eta {p q : ℕ} (j : (⟨2, ![p, q]⟩ : Shape).Idx) : j = ix2 (j 0) (j 1) := by
  funext i
  match i with
  | ⟨0, _⟩ => rfl
  | ⟨1, _⟩ => rfl

variable {m} {c : Dev nD} {after : (w' : Fin cfg0.W) → Fin cfg0.N → (cfg0.win w').block.Idx → Elt Ideal (cfg0.win w').elt}
  (hL : ∀ (w : Fin cfg0.W) (u : Fin cfg0.N), (cfg0.win w).flush u = true → (rdat m (JJ m) (RR m) c).Leaves w u (after w u))
include hL

theorem arr6 : ((rdat m (JJ m) (RR m) c).withAfter after).arrAt 6 cfg0.N = fun i : S144x7168.Idx => (A m c).dg (i 0).val (i 1).val := by
  refine Dat.arrAt_eq_of_covers _ 6 _ (by decide +kernel) fun t hf y => ?_
  have hR : RR m c 6 t (after 6 t) := Dat.toRRel_leaves _ (w := 6) rfl (hL 6 t hf)
  have hi := idx6 t
  have hp := hi.1 hf
  have e := hR hp (y 0) (y 1)
  have ex := hi.2 hp
  blk_simp [ex]
  exact (congrArg (after 6 t) (ix2_eta (p := 8) (q := 1024) y)).trans e
theorem arr7 : ((rdat m (JJ m) (RR m) c).withAfter after).arrAt 7 cfg0.N = fun i : S144x7168.Idx => (A m c).db (i 0).val (i 1).val := by
  refine Dat.arrAt_eq_of_covers _ 7 _ (by decide +kernel) fun t hf y => ?_
  have hR : RR m c 7 t (after 7 t) := Dat.toRRel_leaves _ (w := 7) rfl (hL 7 t hf)
  have hi := idx7 t
  have hp := hi.1 hf
  have e := hR hp (y 0) (y 1)
  have ex := hi.2 hp
  blk_simp [ex]
  exact (congrArg (after 7 t) (ix2_eta (p := 8) (q := 1024) y)).trans e
theorem arr8 : ((rdat m (JJ m) (RR m) c).withAfter after).arrAt 8 cfg0.N = fun i : S1x1.Idx => (A m c).loss := by
  refine Dat.arrAt_eq_of_covers _ 8 _ (by decide +kernel) fun t hf y => ?_
  have hR : RR m c 8 t (after 8 t) := Dat.toRRel_leaves _ (w := 8) rfl (hL 8 t hf)
  have hN : t.val < 252 := t.isLt
  have hp := (flush0_8 t).mp hf
  exact hR (by omega) y
theorem arr9 : ((rdat m (JJ m) (RR m) c).withAfter after).arrAt 9 cfg0.N = fun i : S18432x7168.Idx => (A m c).q (i 0).val (i 1).val := by
  refine Dat.arrAt_eq_of_covers _ 9 _ (by decide +kernel) fun t hf y => ?_
  have hR : RR m c 9 t (after 9 t) := Dat.toRRel_leaves _ (w := 9) rfl (hL 9 t hf)
  have e := hR (y 0) (y 1)
  have ex := idx9 t
  blk_simp [ex]
  exact (congrArg (after 9 t) (ix2_eta (p := 1024) (q := 1024) y)).trans e
theorem arr10 : ((rdat m (JJ m) (RR m) c).withAfter after).arrAt 10 cfg0.N = fun i : S144x7168.Idx => (A m c).h (i 0).val (i 1).val := by
  refine Dat.arrAt_eq_of_covers _ 10 _ (by decide +kernel) fun t hf y => ?_
  have hR : RR m c 10 t (after 10 t) := Dat.toRRel_leaves _ (w := 10) rfl (hL 10 t hf)
  have e := hR (y 0) (y 1)
  have ex := idx10 t
  blk_simp [ex]
  exact (congrArg (after 10 t) (ix2_eta (p := 8) (q := 1024) y)).trans e
theorem arr11 : ((rdat m (JJ m) (RR m) c).withAfter after).arrAt 11 cfg0.N = fun i : S144x7168.Idx => (A m c).z (i 0).val (i 1).val := by
  refine Dat.arrAt_eq_of_covers _ 11 _ (by decide +kernel) fun t hf y => ?_
  have hR : RR m c 11 t (after 11 t) := Dat.toRRel_leaves _ (w := 11) rfl (hL 11 t hf)
  have e := hR (y 0) (y 1)
  have ex := idx11 t
  blk_simp [ex]
  exact (congrArg (after 11 t) (ix2_eta (p := 8) (q := 1024) y)).trans e

omit hL
variable (m)

/-- The run: every result is the layer's, and the arguments end as they started. -/
theorem value : θ_run defs (onTc (τ := τ) (main (F := Ideal))) ⟨m, fun _ => 0, ρ⟩ fun r => ∀ c : Dev nD,
      r.2.mem ((c.tc : Thread nD τ).loc main_v4_0) = (fun i : S144x7168.Idx => (A m c).dg (i 0).val (i 1).val)
      ∧ r.2.mem ((c.tc : Thread nD τ).loc main_v4_1) = (fun i : S144x7168.Idx => (A m c).db (i 0).val (i 1).val)
      ∧ r.2.mem ((c.tc : Thread nD τ).loc main_v4_2) = (fun _ : S1x1.Idx => (A m c).loss)
      ∧ r.2.mem ((c.tc : Thread nD τ).loc main_v4_3) = (fun i : S18432x7168.Idx => (A m c).q (i 0).val (i 1).val)
      ∧ r.2.mem ((c.tc : Thread nD τ).loc main_v4_4) = (fun i : S144x7168.Idx => (A m c).h (i 0).val (i 1).val)
      ∧ r.2.mem ((c.tc : Thread nD τ).loc main_v4_5) = (fun i : S144x7168.Idx => (A m c).z (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨after, hL, hA⟩ := Pipeline.RDat.FramePost.exists_exact h.1 c
    exact ⟨(hA 6).trans (arr6 hL), (hA 7).trans (arr7 hL), (hA 8).trans (arr8 hL), (hA 9).trans (arr9 hL), (hA 10).trans (arr10 hL), (hA 11).trans (arr11 hL), args_of h.1 c⟩)
    (run (m := m) ρ (steps m) (inv_zero m))

end Cert.KernelIdeal.Body

end
-- ==== Proof.RefPay.lean ====
/- What the reference's payloads are at an index. -/
module

public import proofs.«01_k».proof.Proof.Gen.ReferenceIdeal.Skeleton
public import proofs.«01_k».proof.Proof.Spec
public import Idealize.ShloMosaic.Lib.Pointwise

@[expose] public section

set_option maxRecDepth 65536

noncomputable section

namespace Cert.ReferenceIdeal.Body

open Idealize.ShloMosaic Idealize.ShloMosaic.TcCoe
open Cert.ReferenceIdeal.Gen Cert.Lwc

/-- A weight's group. -/
abbrev gr (κ : Fin 18432) : Fin 144 := ⟨κ.val / 128, by omega⟩
/-- A weight's place in its group. -/
abbrev pl (κ : Fin 18432) : Fin 128 := ⟨κ.val % 128, by omega⟩
/-- A weight from its group and its place in it. -/
abbrev wt (G : Fin 144) (r : Fin 128) : Fin 18432 := ⟨G.val * 128 + r.val, by omega⟩

variable (w : FVec Ideal S18432x7168 .f32) (g b : FVec Ideal S144x7168 .f32) (h z : FVec Ideal S144x7168 .f32)
  (q : IVec S144x128x7168 8) (x : FVec Ideal S3072x18432 .fp8e4m3) (xs : FVec Ideal S3072x1 .f32) (y : FVec Ideal S3072x7168 .bf16)
  (u v t : FVec Ideal S144x128x7168 .f32) (mx : FVec Ideal S144x7168 .f32)

theorem p4 (G : Fin 144) (r : Fin 128) (n : Fin 7168) : k0_pay4 (F := Ideal) w (ix3 G r n) = w (ix2 (wt G r) n) := by
  pointwise [k0_pay4]
theorem p5 (G : Fin 144) (n : Fin 7168) : k0_pay5 (F := Ideal) w (ix2 G n) = mxS fun r => w (ix2 (wt G r) n) := by
  pointwise [k0_pay5, k0_pay4, mxS]
theorem p6 (G : Fin 144) (n : Fin 7168) : k0_pay6 (F := Ideal) w (ix2 G n) = mnS fun r => w (ix2 (wt G r) n) := by
  pointwise [k0_pay6, k0_pay4, mnS]
theorem p9 (G : Fin 144) (n : Fin 7168) : k0_pay9 (F := Ideal) w b (ix2 G n) = Ideal.logistic (b (ix2 G n)) * k0_pay6 (F := Ideal) w (ix2 G n) := by
  pointwise [k0_pay9, k0_pay8]
theorem p10 (G : Fin 144) (n : Fin 7168) :
    k0_pay10 (F := Ideal) w g b (ix2 G n) = hS (k0_pay5 (F := Ideal) w (ix2 G n)) (k0_pay6 (F := Ideal) w (ix2 G n)) (g (ix2 G n)) (b (ix2 G n)) := by
  pointwise [k0_pay10, k0_pay9, k0_pay8, k0_pay7, hS, c15]
theorem p11 (G : Fin 144) (n : Fin 7168) :
    k0_pay11 (F := Ideal) w g b (ix2 G n) = zS (k0_pay6 (F := Ideal) w (ix2 G n)) (b (ix2 G n)) (k0_pay10 (F := Ideal) w g b (ix2 G n)) := by
  rw [zS, rnd, ← p9]
  pointwise [k0_pay11]
theorem p12 (G : Fin 144) (r : Fin 128) (n : Fin 7168) :
    k0_pay12 (F := Ideal) w g b (ix3 G r n) = Ideal.div (w (ix2 (wt G r) n)) (k0_pay10 (F := Ideal) w g b (ix2 G n)) := by
  pointwise [k0_pay12, k0_pay4]
theorem p13 (G : Fin 144) (r : Fin 128) (n : Fin 7168) :
    k0_pay13 (F := Ideal) w g b (ix3 G r n) = cS (w (ix2 (wt G r) n)) (k0_pay10 (F := Ideal) w g b (ix2 G n)) (k0_pay11 (F := Ideal) w g b (ix2 G n)) := by
  rw [cS, rnd, ← p12]
  pointwise [k0_pay13]
theorem p14 (G : Fin 144) (r : Fin 128) (n : Fin 7168) :
    k0_pay14 (F := Ideal) w g b (ix3 G r n) = Ideal.fptosi 8 (qS (k0_pay13 (F := Ideal) w g b (ix3 G r n))) := by
  pointwise [k0_pay14, qS, c15]
  rfl
theorem p15 (κ : Fin 18432) (n : Fin 7168) : k0_pay15 (F := Ideal) w g b (ix2 κ n) = k0_pay14 (F := Ideal) w g b (ix3 (gr κ) (pl κ) n) := by
  pointwise [k0_pay15]
theorem p16 (G : Fin 144) (r : Fin 128) (n : Fin 7168) :
    k0_pay16 (F := Ideal) z q (ix3 G r n) = (((q (ix3 G r n)).toInt : ℝ) : EReal) - z (ix2 G n) := by
  pointwise [k0_pay16]
  rfl
theorem p19 (m : Fin 3072) (n : Fin 7168) :
    k0_pay19 (F := Ideal) h z q x xs y (ix2 m n)
      = (∑ κ : Fin 18432, x (ix2 m κ) * (k0_pay16 (F := Ideal) z q (ix3 (gr κ) (pl κ) n) * h (ix2 (gr κ) n))) * xs (ix2 m 0) - y (ix2 m n) := by
  pointwise [k0_pay19, k0_pay17, k0_pay18]
theorem p20 :
    k0_pay20 (F := Ideal) h z q x xs y
      = Ideal.div (∑ m : Fin 3072, ∑ n : Fin 7168, k0_pay19 (F := Ideal) h z q x xs y (ix2 m n) * k0_pay19 (F := Ideal) h z q x xs y (ix2 m n)) (Ideal.ofBits .f32 0x4BA80000#32) := by
  pointwise [k0_pay20]
theorem p21 (G : Fin 144) (r : Fin 128) (n : Fin 7168) :
    k0_pay21 (F := Ideal) h z q x xs y (ix3 G r n)
      = Ideal.ofBits .f32 0x33C30C31#32 * ∑ m : Fin 3072, x (ix2 m (wt G r)) * (k0_pay19 (F := Ideal) h z q x xs y (ix2 m n) * xs (ix2 m 0)) := by
  pointwise [k0_pay21, k0_pay17, k0_pay18]

/-- A mask of two comparisons as a factor. -/
theorem maskP (p q : Prop) [Decidable p] [Decidable q] (x : EReal) :
    ((((IntOp.andi (BitVec.ofBool (decide p)) (BitVec.ofBool (decide q))).setWidth 32).toInt : ℝ) : EReal) * x = if p ∧ q then x else 0 := by
  by_cases hp : p <;> by_cases hq : q <;> simp [hp, hq, IntOp.andi]

theorem p22 (G : Fin 144) (r : Fin 128) (n : Fin 7168) :
    k0_pay22 (F := Ideal) u v (ix3 G r n) = if 0 ≤ v (ix3 G r n) ∧ v (ix3 G r n) ≤ c15 then u (ix3 G r n) else 0 := by
  pointwise [k0_pay22, c15]
  exact maskP _ _ _
theorem p1 (G : Fin 144) (n : Fin 7168) :
    k0_pay1 (F := Ideal) u v t (ix2 G n) = ∑ r : Fin 128, v (ix3 G r n) * (u (ix3 G r n) - t (ix3 G r n)) := by
  pointwise [k0_pay1]
theorem p2 (G : Fin 144) (n : Fin 7168) :
    k0_pay2 (F := Ideal) mx (k0_pay7 (F := Ideal) g) u v t (ix2 G n) = dS (k0_pay1 (F := Ideal) u v t (ix2 G n)) (g (ix2 G n)) (mx (ix2 G n)) := by
  pointwise [k0_pay2, k0_pay7, dS, c15]
theorem p3 (G : Fin 144) (n : Fin 7168) :
    k0_pay3 (F := Ideal) mx (k0_pay8 (F := Ideal) g) u v t (ix2 G n) = dS (0 - k0_pay1 (F := Ideal) u v t (ix2 G n)) (g (ix2 G n)) (mx (ix2 G n)) := by
  pointwise [k0_pay3, k0_pay8, dS, c15]

end Cert.ReferenceIdeal.Body

end
-- ==== Proof.RefSpec.lean ====
/- The reference's payloads are the layer's mathematics. -/
module

public import proofs.«01_k».proof.Proof.RefPay
public import proofs.«01_k».proof.Proof.Arr

@[expose] public section

set_option maxRecDepth 65536

noncomputable section

namespace Cert.Lwc

open Idealize.ShloMosaic

/-! ### A level survives its conversion to an integer and back -/

theorem c15_eq : c15 = ((15 : ℝ) : EReal) := by
  simp [c15, Ideal.ofBits, Ideal.ieee, -EReal.coe_mul]; norm_num

/-- An integer or an infinity. -/
def Lvl (x : EReal) : Prop := x = ⊥ ∨ x = ⊤ ∨ ∃ k : ℤ, x = ((k : ℝ) : EReal)

theorem lvl_rnd (x : EReal) : Lvl (rnd x) := by
  induction x with
  | bot => exact .inl rfl
  | coe r => exact .inr (.inr ⟨_, rfl⟩)
  | top => exact .inr (.inl rfl)

theorem lvl_add {x y : EReal} (hx : Lvl x) (hy : Lvl y) : Lvl (x + (0 - y)) := by
  rcases hx with rfl | rfl | ⟨k, rfl⟩ <;> rcases hy with rfl | rfl | ⟨l, rfl⟩
  · exact .inl (by simp)
  · exact .inl (by simp)
  · exact .inl (by simp)
  · exact .inr (.inl (by simp))
  · exact .inl (by simp)
  · exact .inr (.inl (by rw [zero_sub, ← EReal.coe_neg, EReal.top_add_coe]))
  · exact .inr (.inl (by rw [zero_sub, EReal.neg_bot, EReal.coe_add_top]))
  · exact .inl (by rw [zero_sub, EReal.neg_top, EReal.add_bot])
  · exact .inr (.inr ⟨k - l, by rw [zero_sub, ← EReal.coe_neg, ← EReal.coe_add]; push_cast; rw [sub_eq_add_neg]⟩)

theorem qS_int {c : EReal} (hc : Lvl c) : ∃ k : ℤ, 0 ≤ k ∧ k ≤ 15 ∧ qS c = ((k : ℝ) : EReal) := by
  have h15 : (0 : EReal) ≤ ((15 : ℝ) : EReal) := EReal.coe_nonneg.mpr (by norm_num)
  rcases hc with rfl | rfl | ⟨k, rfl⟩
  · exact ⟨0, le_refl _, by decide, by rw [qS, c15_eq, max_eq_left bot_le, min_eq_right h15]; norm_num⟩
  · exact ⟨15, by decide, le_refl _, by rw [qS, c15_eq, max_eq_right le_top, min_eq_left le_top]; norm_num⟩
  · refine ⟨min 15 (max 0 k), by omega, by omega, ?_⟩
    rw [qS, c15_eq, ← EReal.coe_zero, ← EReal.coe_strictMono.monotone.map_max, ← EReal.coe_strictMono.monotone.map_min]
    congr 1; push_cast; rfl

theorem conv_int (k : ℤ) (h0 : 0 ≤ k) (h1 : k ≤ 15) : (Ideal.fptosi 8 ((k : ℝ) : EReal)).toInt = k := by
  have e : Ideal.fptosi 8 ((k : ℝ) : EReal) = BitVec.ofInt 8 (max (-128) (min 127 k)) := by
    show BitVec.ofInt 8 (max _ (min _ (if 0 ≤ (k : ℝ) then ⌊(k : ℝ)⌋ else ⌈(k : ℝ)⌉))) = _
    rw [if_pos (by exact_mod_cast h0), Int.floor_intCast]
    rfl
  rw [e]
  clear e
  interval_cases k <;> rfl

theorem conv_qS {c : EReal} (hc : Lvl c) : (((Ideal.fptosi 8 (qS c)).toInt : ℝ) : EReal) = qS c := by
  obtain ⟨k, h0, h1, e⟩ := qS_int hc
  rw [e, conv_int k h0 h1]

theorem lvl_c (A : In) (κ n : ℕ) : Lvl (A.c κ n) := lvl_add (lvl_rnd _) (lvl_rnd _)

/-! ### The gradient's scale is a factor of a group's sum -/

theorem scale_nonneg : 0 ≤ Ideal.ofBits .f32 0x33C30C31#32 := by
  simp [Ideal.ofBits, Ideal.ieee, -EReal.coe_mul]

theorem scale_ne_top : Ideal.ofBits .f32 0x33C30C31#32 ≠ ⊤ := by
  simp [Ideal.ofBits, Ideal.ieee, -EReal.coe_mul]

theorem mul_sum' {ι : Type} (k : EReal) (h0 : 0 ≤ k) (h1 : k ≠ ⊤) (s : Finset ι) (f : ι → EReal) : k * ∑ i ∈ s, f i = ∑ i ∈ s, k * f i := by
  classical
  induction s using Finset.induction_on with
  | empty => simp
  | insert a s ha ih => rw [Finset.sum_insert ha, Finset.sum_insert ha, EReal.left_distrib_of_nonneg_of_ne_top h0 h1, ih]

/-- A sum taken in blocks of columns. -/
theorem sum_blocks (a b M : ℕ) (f : ℕ → ℕ → EReal) :
    ∑ i ∈ Finset.range a, ∑ m ∈ Finset.range M, ∑ j ∈ Finset.range b, f m (i * b + j) = ∑ m : Fin M, ∑ n : Fin (a * b), f m.val n.val := by
  rw [Finset.sum_comm, Finset.sum_range]
  refine Finset.sum_congr rfl fun m _ => ?_
  rw [← sum_tiles a b fun n => f m.val n, Finset.sum_range]

end Cert.Lwc

namespace Cert.ReferenceIdeal.Body

open Idealize.ShloMosaic Idealize.ShloMosaic.TcCoe
open Cert.ReferenceIdeal.Gen Cert.Lwc

variable (w : FVec Ideal S18432x7168 .f32) (g b : FVec Ideal S144x7168 .f32)
  (x : FVec Ideal S3072x18432 .fp8e4m3) (xs : FVec Ideal S3072x1 .f32) (y : FVec Ideal S3072x7168 .bf16)

theorem dv (G : Fin 144) (r : Fin 128) : (G.val * 128 + r.val) / 128 = G.val := by omega
theorem ee (κ : Fin 18432) : (gr κ).val * 128 + (pl κ).val = κ.val := by
  show κ.val / 128 * 128 + κ.val % 128 = κ.val; omega

theorem atW (G : Fin 144) (r : Fin 128) (n : Fin 7168) : (In.of x xs w g b y).W (G.val * 128 + r.val) n.val = w (ix2 (wt G r) n) :=
  at2_of w (i := G.val * 128 + r.val) (j := n.val) (by omega) n.isLt
theorem atG (G : Fin 144) (n : Fin 7168) : (In.of x xs w g b y).G G.val n.val = g (ix2 G n) := at2_of g (i := G.val) (j := n.val) G.isLt n.isLt
theorem atB (G : Fin 144) (n : Fin 7168) : (In.of x xs w g b y).B G.val n.val = b (ix2 G n) := at2_of b (i := G.val) (j := n.val) G.isLt n.isLt
theorem atX (m : Fin 3072) (κ : Fin 18432) : (In.of x xs w g b y).X m.val κ.val = x (ix2 m κ) := at2_of x (i := m.val) (j := κ.val) m.isLt κ.isLt
theorem atXS (m : Fin 3072) : (In.of x xs w g b y).XS m.val = xs (ix2 m 0) := at2_of xs (i := m.val) (j := 0) m.isLt Nat.zero_lt_one
theorem atY (m : Fin 3072) (n : Fin 7168) : (In.of x xs w g b y).Y m.val n.val = y (ix2 m n) := at2_of y (i := m.val) (j := n.val) m.isLt n.isLt

theorem rmx (G : Fin 144) (n : Fin 7168) : k0_pay5 (F := Ideal) w (ix2 G n) = (In.of x xs w g b y).mx G.val n.val := by
  rw [p5, In.mx]
  exact congrArg mxS (funext fun r => (atW w g b x xs y G r n).symm)
theorem rmn (G : Fin 144) (n : Fin 7168) : k0_pay6 (F := Ideal) w (ix2 G n) = (In.of x xs w g b y).mn G.val n.val := by
  rw [p6, In.mn]
  exact congrArg mnS (funext fun r => (atW w g b x xs y G r n).symm)
theorem rh (G : Fin 144) (n : Fin 7168) : k0_pay10 (F := Ideal) w g b (ix2 G n) = (In.of x xs w g b y).h G.val n.val := by
  rw [p10, In.h, rmx w g b x xs y, rmn w g b x xs y, atG, atB]
theorem rz (G : Fin 144) (n : Fin 7168) : k0_pay11 (F := Ideal) w g b (ix2 G n) = (In.of x xs w g b y).z G.val n.val := by
  rw [p11, In.z, rmn w g b x xs y, rh w g b x xs y, atB]
theorem rc (G : Fin 144) (r : Fin 128) (n : Fin 7168) : k0_pay13 (F := Ideal) w g b (ix3 G r n) = (In.of x xs w g b y).c (G.val * 128 + r.val) n.val := by
  rw [p13, In.c, rh w g b x xs y, rz w g b x xs y, atW, dv]
theorem rq' (G : Fin 144) (r : Fin 128) (n : Fin 7168) : k0_pay14 (F := Ideal) w g b (ix3 G r n) = (In.of x xs w g b y).q (G.val * 128 + r.val) n.val := by
  rw [p14, In.q, rc w g b x xs y]
/-- The codes. -/
theorem rq (κ : Fin 18432) (n : Fin 7168) : k0_pay15 (F := Ideal) w g b (ix2 κ n) = (In.of x xs w g b y).q κ.val n.val := by
  rw [p15, rq' w g b x xs y, ee]

/-- The codes less the zero points, back at the reals. -/
abbrev QZ : FVec Ideal S144x128x7168 .f32 := k0_pay16 (F := Ideal) (k0_pay11 (F := Ideal) w g b) (k0_pay14 (F := Ideal) w g b)
theorem rqz (G : Fin 144) (r : Fin 128) (n : Fin 7168) :
    QZ w g b (ix3 G r n) = qS ((In.of x xs w g b y).c (G.val * 128 + r.val) n.val) - (In.of x xs w g b y).z G.val n.val := by
  rw [QZ, p16, rq' w g b x xs y, rz w g b x xs y, In.q, conv_qS (lvl_c _ _ _)]
/-- The error. -/
abbrev ER : FVec Ideal S3072x7168 .f32 := k0_pay19 (F := Ideal) (k0_pay10 (F := Ideal) w g b) (k0_pay11 (F := Ideal) w g b) (k0_pay14 (F := Ideal) w g b) x xs y
theorem rerr (m : Fin 3072) (n : Fin 7168) : ER w g b x xs y (ix2 m n) = (In.of x xs w g b y).err m.val n.val := by
  rw [ER, p19, In.err, In.acc, Finset.sum_range, atXS, atY]
  refine congrArg (fun s => s * _ - _) (Finset.sum_congr rfl fun κ _ => ?_)
  have e := rqz w g b x xs y (gr κ) (pl κ) n
  rw [ee, QZ] at e
  rw [e, rh w g b x xs y, atX, In.what]
/-- The loss. -/
theorem rloss : k0_pay20 (F := Ideal) (k0_pay10 (F := Ideal) w g b) (k0_pay11 (F := Ideal) w g b) (k0_pay14 (F := Ideal) w g b) x xs y = (In.of x xs w g b y).loss := by
  rw [p20, In.loss]
  refine congrArg (fun s => Ideal.div s _) ?_
  refine Eq.trans (Finset.sum_congr rfl fun m _ => Finset.sum_congr rfl fun n _ => ?_)
    (sum_blocks 7 1024 3072 fun m n => (In.of x xs w g b y).err m n * (In.of x xs w g b y).err m n).symm
  exact congrArg (fun e => e * e) (rerr w g b x xs y m n)
/-- The scaled gradient of the weights. -/
abbrev GW : FVec Ideal S144x128x7168 .f32 := k0_pay21 (F := Ideal) (k0_pay10 (F := Ideal) w g b) (k0_pay11 (F := Ideal) w g b) (k0_pay14 (F := Ideal) w g b) x xs y
theorem rgw (G : Fin 144) (r : Fin 128) (n : Fin 7168) :
    GW w g b x xs y (ix3 G r n) = Ideal.ofBits .f32 0x33C30C31#32 * (In.of x xs w g b y).grad (G.val * 128 + r.val) n.val := by
  rw [GW, p21, In.grad, Finset.sum_range]
  refine congrArg (fun s => _ * s) (Finset.sum_congr rfl fun m _ => ?_)
  have e := rerr w g b x xs y m n
  rw [ER] at e
  rw [e, In.eb, atXS]
  exact congrArg (· * _) (atX w g b x xs y m (wt G r)).symm
/-- The masked levels. -/
abbrev MU : FVec Ideal S144x128x7168 .f32 := k0_pay22 (F := Ideal) (k0_pay12 (F := Ideal) w g b) (k0_pay13 (F := Ideal) w g b)
/-- A group's sum. -/
theorem rs (G : Fin 144) (n : Fin 7168) : k0_pay1 (F := Ideal) (QZ w g b) (GW w g b x xs y) (MU w g b) (ix2 G n) = (In.of x xs w g b y).s G.val n.val := by
  rw [p1, In.s, Finset.sum_range, mul_sum' _ scale_nonneg scale_ne_top]
  refine Finset.sum_congr rfl fun r _ => ?_
  rw [rqz w g b x xs y, rgw, MU, p22, rc w g b x xs y, p12, rh w g b x xs y, mul_assoc, In.r, dv, atW, rS, In.c, dv, atW]
theorem rdg (G : Fin 144) (n : Fin 7168) :
    k0_pay2 (F := Ideal) (k0_pay5 (F := Ideal) w) (k0_pay7 (F := Ideal) g) (QZ w g b) (GW w g b x xs y) (MU w g b) (ix2 G n) = (In.of x xs w g b y).dg G.val n.val := by
  rw [p2, rs, rmx w g b x xs y, In.dg, atG]
theorem rdb (G : Fin 144) (n : Fin 7168) :
    k0_pay3 (F := Ideal) (k0_pay6 (F := Ideal) w) (k0_pay8 (F := Ideal) b) (QZ w g b) (GW w g b x xs y) (MU w g b) (ix2 G n) = (In.of x xs w g b y).db G.val n.val := by
  rw [p3, rs, rmn w g b x xs y, In.db, atB]

end Cert.ReferenceIdeal.Body

end
-- ==== Proof.Ref.lean ====
/- The arrays of results after the reference's run. -/
module

public import proofs.«01_k».proof.Proof.RefSpec
public import proofs.«01_k».proof.Proof.Gen.ReferenceIdeal.Value
public import Idealize.ShloMosaic.Lib.Pipeline.ValueKit
public import Idealize.ShloMosaic.Lib.Claim

@[expose] public section

set_option maxRecDepth 65536

noncomputable section

namespace Cert.ReferenceIdeal.Body

open Idealize.ShloMosaic Idealize.ShloMosaic.TcCoe Idealize.SL.Sem
open Idealize.ShloMosaic.Pipeline (Dat)
open Cert.ReferenceIdeal.Gen Cert.Lwc

variable (m : (ℓ : Loc nD τ sig) → Buf (Elt Ideal) ℓ) (ρ : Dev nD → PrngReg) (c : Dev nD)

/-- The arguments of the call on a core. -/
def A : In := In.of (V m c main_v0) (V m c main_v1) (V m c main_arg2) (V m c main_arg3) (V m c main_arg4) (V m c main_v2)

theorem ix2_eta {p q : ℕ} (j : (⟨2, ![p, q]⟩ : Shape).Idx) : j = ix2 (j 0) (j 1) := by
  funext i
  match i with
  | ⟨0, _⟩ => rfl
  | ⟨1, _⟩ => rfl

theorem idx0 : win0_0.index t0_0 = ![0, 0] := by decide +kernel
theorem idx1 : win0_1.index t0_0 = ![0, 0] := by decide +kernel
theorem idx2 : win0_2.index t0_0 = ![0, 0] := by decide +kernel
theorem idx3 : win0_3.index t0_0 = ![0, 0] := by decide +kernel
theorem idx4 : win0_4.index t0_0 = ![0, 0] := by decide +kernel
theorem idx5 : win0_5.index t0_0 = ![0, 0] := by decide +kernel

theorem ib0 : iblk m c 0 t0_0 = V m c main_v0 := by funext j; blk_ext [iblk, idx0]
theorem ib1 : iblk m c 1 t0_0 = V m c main_v1 := by funext j; blk_ext [iblk, idx1]
theorem ib2 : iblk m c 2 t0_0 = V m c main_arg2 := by funext j; blk_ext [iblk, idx2]
theorem ib3 : iblk m c 3 t0_0 = V m c main_arg3 := by funext j; blk_ext [iblk, idx3]
theorem ib4 : iblk m c 4 t0_0 = V m c main_arg4 := by funext j; blk_ext [iblk, idx4]
theorem ib5 : iblk m c 5 t0_0 = V m c main_v2 := by funext j; blk_ext [iblk, idx5]

/-- The results as arrays over the arguments. -/
def OUTS (w : FVec Ideal S18432x7168 .f32) (g b : FVec Ideal S144x7168 .f32) (x : FVec Ideal S3072x18432 .fp8e4m3) (xs : FVec Ideal S3072x1 .f32) (y : FVec Ideal S3072x7168 .bf16) :
    Vec Ideal S144x7168 .f32 × Vec Ideal S144x7168 .f32 × Vec Ideal S1x1 .f32 × Vec Ideal S18432x7168 .i8 × Vec Ideal S144x7168 .f32 × Vec Ideal S144x7168 .f32 :=
  (k0_pay2 (F := Ideal) (k0_pay5 (F := Ideal) w) (k0_pay7 (F := Ideal) g) (QZ w g b) (GW w g b x xs y) (MU w g b),
   k0_pay3 (F := Ideal) (k0_pay6 (F := Ideal) w) (k0_pay8 (F := Ideal) b) (QZ w g b) (GW w g b x xs y) (MU w g b),
   fun _ => k0_pay20 (F := Ideal) (k0_pay10 (F := Ideal) w g b) (k0_pay11 (F := Ideal) w g b) (k0_pay14 (F := Ideal) w g b) x xs y,
   k0_pay15 (F := Ideal) w g b, k0_pay10 (F := Ideal) w g b, k0_pay11 (F := Ideal) w g b)

/-- What the body leaves in the outputs' windows: its payloads over the windows' blocks. -/
theorem outs (t : Fin cfg0.N) : outsAt0 m c t = OUTS (iblk m c 2 t) (iblk m c 3 t) (iblk m c 4 t) (iblk m c 0 t) (iblk m c 1 t) (iblk m c 5 t) := by
  unfold outsAt0 OUTS
  generalize iblk m c 0 t = x0
  generalize iblk m c 1 t = x1
  generalize iblk m c 2 t = x2
  generalize iblk m c 3 t = x3
  generalize iblk m c 4 t = x4
  generalize iblk m c 5 t = x5
  have e0 : View.read (Elt Ideal) (View.whole cc0_stg0_0) ((hs0_0 t).unread x0) = x0 := (hs0_0 t).read_unread x0
  have e1 : View.read (Elt Ideal) (View.whole cc0_stg1_0) ((hs0_1 t).unread x1) = x1 := (hs0_1 t).read_unread x1
  have e2 : View.read (Elt Ideal) (View.whole cc0_stg2_0) ((hs0_2 t).unread x2) = x2 := (hs0_2 t).read_unread x2
  have e3 : View.read (Elt Ideal) (View.whole cc0_stg3_0) ((hs0_3 t).unread x3) = x3 := (hs0_3 t).read_unread x3
  have e4 : View.read (Elt Ideal) (View.whole cc0_stg4_0) ((hs0_4 t).unread x4) = x4 := (hs0_4 t).read_unread x4
  have e5 : View.read (Elt Ideal) (View.whole cc0_stg5_0) ((hs0_5 t).unread x5) = x5 := (hs0_5 t).read_unread x5
  refine Prod.ext ?_ (Prod.ext ?_ (Prod.ext ?_ (Prod.ext ?_ (Prod.ext ?_ ?_))))
  · frame_out
    rw [e0, e1, e2, e3, e4, e5]
  · frame_out
    rw [e0, e1, e2, e3, e4, e5]
  · frame_out
    rw [e0, e1, e2, e3, e4, e5]
    rfl
  · frame_out
    rw [e2, e3, e4]
  · frame_out
    rw [e2, e3, e4]
  · frame_out
    rw [e2, e3, e4]

theorem outs0 : outsAt0 m c t0_0 = OUTS (V m c main_arg2) (V m c main_arg3) (V m c main_arg4) (V m c main_v0) (V m c main_v1) (V m c main_v2) := by
  rw [outs, ib0, ib1, ib2, ib3, ib4, ib5]

theorem v6 : (outsAt0 m c t0_0).1 = fun i : S144x7168.Idx => (A m c).dg (i 0).val (i 1).val := by
  rw [outs0]
  exact funext fun j => (congrArg _ (ix2_eta j)).trans (rdg _ _ _ _ _ _ (j 0) (j 1))
theorem arr6 : (dats m 0 c).arrAt 6 cfg0.N = fun i : S144x7168.Idx => (A m c).dg (i 0).val (i 1).val := by
  refine (dats m 0 c).arrAt_eq_of_after_last 6 t0_0 (by decide +kernel) _ fun j => ?_
  blk_simp
  rw [after0_6, v6]
theorem v7 : (outsAt0 m c t0_0).2.1 = fun i : S144x7168.Idx => (A m c).db (i 0).val (i 1).val := by
  rw [outs0]
  exact funext fun j => (congrArg _ (ix2_eta j)).trans (rdb _ _ _ _ _ _ (j 0) (j 1))
theorem arr7 : (dats m 0 c).arrAt 7 cfg0.N = fun i : S144x7168.Idx => (A m c).db (i 0).val (i 1).val := by
  refine (dats m 0 c).arrAt_eq_of_after_last 7 t0_0 (by decide +kernel) _ fun j => ?_
  blk_simp
  rw [after0_7, v7]
theorem v8 : (outsAt0 m c t0_0).2.2.1 = fun _ => (A m c).loss := by
  rw [outs0]
  exact funext fun _ => rloss _ _ _ _ _ _
theorem arr8 : (dats m 0 c).arrAt 8 cfg0.N = fun _ : S1x1.Idx => (A m c).loss := by
  refine (dats m 0 c).arrAt_eq_of_after_last 8 t0_0 (by decide +kernel) _ fun j => ?_
  blk_simp
  rw [after0_8, v8]
theorem v9 : (outsAt0 m c t0_0).2.2.2.1 = fun i : S18432x7168.Idx => (A m c).q (i 0).val (i 1).val := by
  rw [outs0]
  exact funext fun j => (congrArg _ (ix2_eta j)).trans (rq _ _ _ _ _ _ (j 0) (j 1))
theorem arr9 : (dats m 0 c).arrAt 9 cfg0.N = fun i : S18432x7168.Idx => (A m c).q (i 0).val (i 1).val := by
  refine (dats m 0 c).arrAt_eq_of_after_last 9 t0_0 (by decide +kernel) _ fun j => ?_
  blk_simp
  rw [after0_9, v9]
theorem v10 : (outsAt0 m c t0_0).2.2.2.2.1 = fun i : S144x7168.Idx => (A m c).h (i 0).val (i 1).val := by
  rw [outs0]
  exact funext fun j => (congrArg _ (ix2_eta j)).trans (rh _ _ _ _ _ _ (j 0) (j 1))
theorem arr10 : (dats m 0 c).arrAt 10 cfg0.N = fun i : S144x7168.Idx => (A m c).h (i 0).val (i 1).val := by
  refine (dats m 0 c).arrAt_eq_of_after_last 10 t0_0 (by decide +kernel) _ fun j => ?_
  blk_simp
  rw [after0_10, v10]
theorem v11 : (outsAt0 m c t0_0).2.2.2.2.2 = fun i : S144x7168.Idx => (A m c).z (i 0).val (i 1).val := by
  rw [outs0]
  exact funext fun j => (congrArg _ (ix2_eta j)).trans (rz _ _ _ _ _ _ (j 0) (j 1))
theorem arr11 : (dats m 0 c).arrAt 11 cfg0.N = fun i : S144x7168.Idx => (A m c).z (i 0).val (i 1).val := by
  refine (dats m 0 c).arrAt_eq_of_after_last 11 t0_0 (by decide +kernel) _ fun j => ?_
  blk_simp
  rw [after0_11, v11]

end Cert.ReferenceIdeal.Body

end
-- ==== Proof.Agree.lean ====
/- The kernel and the reference, called with the same arguments, have the same results. -/
module

public import proofs.«01_k».proof.Defs
public import proofs.«01_k».proof.Proof.ValueRun
public import proofs.«01_k».proof.Proof.Ref

@[expose] public section

set_option maxRecDepth 65536

noncomputable section

open Idealize.ShloMosaic Idealize.ShloMosaic.TcCoe Idealize.SL.Sem

namespace Cert.KernelIdeal.Body

open Cert.KernelIdeal.Gen

variable (m : (ℓ : Loc nD τ sig) → Buf (Elt Ideal) ℓ) (c : Dev nD)

theorem V_v0 : V m c main_v0 = shapeCast S3072x18432 (m ((c.tc : Thread nD τ).loc main_arg0)) shapeCasts_S3x1024x18432_S3072x18432 := by
  entry_read
  rfl
theorem V_v1 : V m c main_v1 = shapeCast S3072x1 (m ((c.tc : Thread nD τ).loc main_arg1)) shapeCasts_S3x1024_S3072x1 := by
  entry_read
  rfl
theorem V_v3 : V m c main_v3 = shapeCast S3072x7168 (m ((c.tc : Thread nD τ).loc main_arg5)) shapeCasts_S3x1024x7168_S3072x7168 := by
  entry_read
  rfl

end Cert.KernelIdeal.Body

namespace Cert.ReferenceIdeal.Body

open Cert.ReferenceIdeal.Gen

variable (m : (ℓ : Loc nD τ sig) → Buf (Elt Ideal) ℓ) (c : Dev nD)

theorem V_v0 : V m c main_v0 = shapeCast S3072x18432 (m ((c.tc : Thread nD τ).loc main_arg0)) shapeCasts_S3x1024x18432_S3072x18432 := by
  entry_read
  rfl
theorem V_v1 : V m c main_v1 = shapeCast S3072x1 (m ((c.tc : Thread nD τ).loc main_arg1)) shapeCasts_S3x1024_S3072x1 := by
  entry_read
  rfl
theorem V_v2 : V m c main_v2 = shapeCast S3072x7168 (m ((c.tc : Thread nD τ).loc main_arg5)) shapeCasts_S3x1024x7168_S3072x7168 := by
  entry_read
  rfl

end Cert.ReferenceIdeal.Body

namespace Cert

/-- Two calls with the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Body.A m' c = Cert.KernelIdeal.Body.A m c := by
  unfold Cert.ReferenceIdeal.Body.A Cert.KernelIdeal.Body.A
  rw [Cert.ReferenceIdeal.Body.V_v0, Cert.ReferenceIdeal.Body.V_v1, Cert.ReferenceIdeal.Body.V_v2,
    Cert.KernelIdeal.Body.V_v0, Cert.KernelIdeal.Body.V_v1, Cert.KernelIdeal.Body.V_v3,
    Cert.ReferenceIdeal.Gen.V_main_arg2, Cert.ReferenceIdeal.Gen.V_main_arg3, Cert.ReferenceIdeal.Gen.V_main_arg4,
    Cert.KernelIdeal.Gen.V_main_arg2, Cert.KernelIdeal.Gen.V_main_arg3, Cert.KernelIdeal.Gen.V_main_arg4,
    h0, h1, h2, h3, h4, h5]

/-- From memories agreeing on the arguments, every result of the kernel is the reference's. -/
theorem value_eq : algebraic_KernelIdeal_ReferenceIdeal (hKernelIdeal := Cert.KernelIdeal.Gen.facts) (hReferenceIdeal := Cert.ReferenceIdeal.Gen.facts) := by
  intro m g m' g' _ hm
  refine ⟨_, _, _, _, _, _, Cert.KernelIdeal.Body.value m g, ?_⟩
  refine (θ_run _ _ _).mono (fun r h c => ?_) (Cert.ReferenceIdeal.Value.run_blocks m' g')
  obtain ⟨e0, e1, e2, e3, e4, e5, ea⟩ := h c
  obtain ⟨h0, h1, h2, h3, h4, h5⟩ := hm c
  have e := args_eq m m' c h0 h1 h2 h3 h4 h5
  refine ⟨e0.trans ?_, e1.trans ?_, e2.trans ?_, e3.trans ?_, e4.trans ?_, e5.trans ?_, ea⟩
  · rw [Cert.ReferenceIdeal.Body.arr6, e]
  · rw [Cert.ReferenceIdeal.Body.arr7, e]
  · rw [Cert.ReferenceIdeal.Body.arr8, e]
  · rw [Cert.ReferenceIdeal.Body.arr9, e]
  · rw [Cert.ReferenceIdeal.Body.arr10, e]
  · rw [Cert.ReferenceIdeal.Body.arr11, e]

end Cert

end
-- ==== Proof.lean ====
/- The proof of the claims (proofs.«01_k».proof.Defs): the kernel's runs end with their arguments unchanged and the
   machine quiet, at the machine's values and at the reals; so does the reference's at the reals; and there every
   result of the kernel is the reference's. -/
module

public import proofs.«01_k».proof.Defs
public import proofs.«01_k».proof.Proof.Frames
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts,
    Cert.frame_kernel, Cert.frame_kernelIdeal, fun m ρ _ => Cert.ReferenceIdeal.Gen.frame m ρ, trivial, Cert.value_eq⟩

end Cert.Proof

end
